-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_router [hPre_finite_router : Cert.Pre_finite_router.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_router.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_router [hPre_finite_router : Cert.Pre_finite_router.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_router.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_router [hKernel4Ideal : Cert.Kernel4Ideal.Facts] [hPre_finite_router : Cert.Pre_finite_router.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_router m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_router [hReference4Ideal : Cert.Reference4Ideal.Facts] [hPre_finite_router : Cert.Pre_finite_router.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_router m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_v67) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  IdealRules.named_const.Statement Cert.Kernel4Ideal.κ "mask" .f32 0xF149F2CA#32 ⊥

def algebraic_Kernel4Ideal_Reference4Ideal_pre_finite_router [hKernel4Ideal : Cert.Kernel4Ideal.Facts] [hReference4Ideal : Cert.Reference4Ideal.Facts] [hPre_finite_router : Cert.Pre_finite_router.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_router m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7_1)) (v1 : (c : Dev Cert.Kernel4Ideal.nD) → Buf (Elt Ideal) ((c.tc : Thread Cert.Kernel4Ideal.nD Cert.Kernel4Ideal.τ).loc Cert.Kernel4Ideal.main_v7_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_1) = v0 c
          ∧ r.2.mem ((c.tc : Thread Cert.Kernel4Ideal.nD Cert.Kernel4Ideal.τ).loc Cert.Kernel4Ideal.main_v7_2) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v117) = v0 c
          ∧ r.2.mem ((c.tc : Thread Cert.Reference4Ideal.nD Cert.Reference4Ideal.τ).loc Cert.Reference4Ideal.main_v207) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_routed : Cert.Pre_routed.Facts) (hPre_finite_router : Cert.Pre_finite_router.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_router (hKernel4Ideal := hKernel4Ideal) (hPre_finite_router := hPre_finite_router)
    ∧ quiescent_Reference4Ideal (hReference4Ideal := hReference4Ideal)
    ∧ quiescent_Reference4Ideal_pre_finite_router (hReference4Ideal := hReference4Ideal) (hPre_finite_router := hPre_finite_router)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_router (hKernel4Ideal := hKernel4Ideal) (hReference4Ideal := hReference4Ideal) (hPre_finite_router := hPre_finite_router)
-- ==== Pre_finite_router.lean ====
abbrev S16384x512 : Shape := ⟨2, ![16384, 512]⟩
abbrev S16384x1024 : Shape := ⟨2, ![16384, 1024]⟩
abbrev S1024x1024 : Shape := ⟨2, ![1024, 1024]⟩
abbrev S1x1024 : Shape := ⟨2, ![1, 1024]⟩
abbrev S1024x4 : Shape := ⟨2, ![1024, 4]⟩
abbrev S1024x16 : Shape := ⟨2, ![1024, 16]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x4 : S_.BroadcastsInDim S1024x4 (![] : Fin 0 → Fin S1024x4.rank)
  reducesTo_S1024x4_S_d0_1 : S1024x4.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S16384x512 .bf16) (main_arg1 : FVec F S16384x512 .bf16) (main_arg2 : FVec F S16384x1024 .f32) (main_arg3 : FVec F S1024x1024 .bf16) (main_arg4 : FVec F S1x1024 .f32) (main_arg5 : FVec F S1024x4 .f32) (main_arg6 : FVec F S1024x16 .f32) : IVec S_ 1 :=
  let main_v0 : FVec F S1x1024 .f32 := Host.absf main_arg4
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x4 .f32 := Host.absf main_arg5
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  let main_v9 : FVec F S1024x16 .f32 := Host.absf main_arg6
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  let main_c_3 : IVec S_ 1 := constantI S_ 1 1#1
  let main_v12 : IVec S_ 1 := (fun x v => Host.reduce IntOp.andi x v reducesTo_S1024x16_S_d0_1 h_S_) main_v11 main_c_3
  let main_v13 : IVec S_ 1 := andi main_v8 main_v12
  main_v13
-- ==== Pre_routed.lean ====
abbrev S88 : Shape := ⟨1, ![88]⟩
abbrev S1 : Shape := ⟨1, ![1]⟩
abbrev S22528x1152 : Shape := ⟨2, ![22528, 1152]⟩
abbrev S16x1024x512 : Shape := ⟨3, ![16, 1024, 512]⟩
abbrev S16x512x1024 : Shape := ⟨3, ![16, 512, 1024]⟩
abbrev S22528x2 : Shape := ⟨2, ![22528, 2]⟩
abbrev S_ : Shape := ⟨0, ![]⟩

class Facts : Prop where
  slices_S22528x1152_S22528x2_0_1024 : S22528x1152.Slices ![0, 1024] S22528x2
  bcast_S_S88 : S_.BroadcastsInDim S88 (![] : Fin 0 → Fin S88.rank)
  reducesTo_S88_S_d0 : S88.ReducesTo [0] S_
  h_S_ : 0 < S_.numel
  shapeCasts_S1_S_ : S1.ShapeCasts S_
  bcast_S_S22528x2 : S_.BroadcastsInDim S22528x2 (![] : Fin 0 → Fin S22528x2.rank)
  reducesTo_S22528x2_S_d0_1 : S22528x2.ReducesTo [0, 1] S_

variable [Facts]

def fn_part1 {F : FTy → Type} [FloatOps F] (main_v0 : FVec F S22528x2 .f32) (main_v16 : IVec S_ 1) : IVec S_ 1 :=
  let main_cst : FVec F S_ .f32 := constant S_ .f32 0x00000000#32
  let main_v17 : FVec F S22528x2 .f32 := broadcastInDim S22528x2 ![] bcast_S_S22528x2 main_cst
  let main_v18 : IVec S22528x2 1 := cmpf .oge main_v0 main_v17
  let main_cst_6 : FVec F S_ .f32 := constant S_ .f32 0x7F800000#32
  let main_v19 : FVec F S22528x2 .f32 := broadcastInDim S22528x2 ![] bcast_S_S22528x2 main_cst_6
  let main_v20 : IVec S22528x2 1 := cmpf .olt main_v0 main_v19
  let main_v21 : IVec S22528x2 1 := andi main_v18 main_v20
  let main_c_7 : IVec S_ 1 := constantI S_ 1 1#1
  let main_v22 : IVec S_ 1 := (fun x v => Host.reduce IntOp.andi x v reducesTo_S22528x2_S_d0_1 h_S_) main_v21 main_c_7
  let main_v23 : IVec S_ 1 := andi main_v16 main_v22
  main_v23

def fn {F : FTy → Type} [FloatOps F] (main_arg0 : IVec S88 32) (main_arg1 : IVec S88 32) (main_arg2 : IVec S1 32) (main_arg3 : FVec F S22528x1152 .f32) (main_arg4 : FVec F S16x1024x512 .bf16) (main_arg5 : FVec F S16x1024x512 .bf16) (main_arg6 : FVec F S16x512x1024 .bf16) : IVec S_ 1 :=
  let main_v0 : FVec F S22528x2 .f32 := (extractStridedSlice S22528x2 ![0, 1024] · slices_S22528x1152_S22528x2_0_1024) main_arg3
  let main_c : IVec S_ 32 := constantI S_ 32 0#32
  let main_v1 : IVec S88 32 := broadcastInDim S88 ![] bcast_S_S88 main_c
  let main_v2 : IVec S88 1 := cmpi .sge main_arg0 main_v1
  let main_c_0 : IVec S_ 32 := constantI S_ 32 16#32
  let main_v3 : IVec S88 32 := broadcastInDim S88 ![] bcast_S_S88 main_c_0
  let main_v4 : IVec S88 1 := cmpi .slt main_arg0 main_v3
  let main_v5 : IVec S88 1 := andi main_v2 main_v4
  let main_c_1 : IVec S_ 1 := constantI S_ 1 1#1
  let main_v6 : IVec S_ 1 := (fun x v => Host.reduce IntOp.andi x v reducesTo_S88_S_d0 h_S_) main_v5 main_c_1
  let main_c_2 : IVec S_ 32 := constantI S_ 32 0#32
  let main_v7 : IVec S88 32 := broadcastInDim S88 ![] bcast_S_S88 main_c_2
  let main_v8 : IVec S88 1 := cmpi .sge main_arg1 main_v7
  let main_c_3 : IVec S_ 32 := constantI S_ 32 16#32
  let main_v9 : IVec S88 32 := broadcastInDim S88 ![] bcast_S_S88 main_c_3
  let main_v10 : IVec S88 1 := cmpi .slt main_arg1 main_v9
  let main_v11 : IVec S88 1 := andi main_v8 main_v10
  let main_c_4 : IVec S_ 1 := constantI S_ 1 1#1
  let main_v12 : IVec S_ 1 := (fun x v => Host.reduce IntOp.andi x v reducesTo_S88_S_d0 h_S_) main_v11 main_c_4
  let main_v13 : IVec S_ 1 := andi main_v6 main_v12
  let main_v14 : IVec S_ 32 := shapeCast S_ main_arg2 shapeCasts_S1_S_
  let main_c_5 : IVec S_ 32 := constantI S_ 32 1#32
  let main_v15 : IVec S_ 1 := cmpi .sge main_v14 main_c_5
  let main_v16 : IVec S_ 1 := andi main_v13 main_v15
  fn_part1 (F := F) main_v0 main_v16
-- ==== Kernel.lean ====
abbrev S88 : Shape := ⟨1, ![88]⟩
abbrev S1 : Shape := ⟨1, ![1]⟩
abbrev S22528x1152 : Shape := ⟨2, ![22528, 1152]⟩
abbrev S16x1024x512 : Shape := ⟨3, ![16, 1024, 512]⟩
abbrev S16x512x1024 : Shape := ⟨3, ![16, 512, 1024]⟩
abbrev S22528x1024 : Shape := ⟨2, ![22528, 1024]⟩
abbrev S256x1152 : Shape := ⟨2, ![256, 1152]⟩
abbrev S1x1024x512 : Shape := ⟨3, ![1, 1024, 512]⟩
abbrev S1x512x1024 : Shape := ⟨3, ![1, 512, 1024]⟩
abbrev S256x1024 : Shape := ⟨2, ![256, 1024]⟩
abbrev S256x128 : Shape := ⟨2, ![256, 128]⟩
abbrev S1024x512 : Shape := ⟨2, ![1024, 512]⟩
abbrev S256x512 : Shape := ⟨2, ![256, 512]⟩
abbrev S256x1 : Shape := ⟨2, ![256, 1]⟩
abbrev S512x1024 : Shape := ⟨2, ![512, 1024]⟩

abbrev nBuf : Space → Nat
  | .hbm => 5
  | .vmem => 16
  | .smem => 3
  | _ => 0

abbrev bufTy : (tb : Table) → Fin (tcTables nBuf tb) → BufTy
  | .hbm, ⟨0, _⟩ => ⟨S22528x1152, .f32⟩
  | .hbm, ⟨1, _⟩ => ⟨S16x1024x512, .bf16⟩
  | .hbm, ⟨2, _⟩ => ⟨S16x1024x512, .bf16⟩
  | .hbm, ⟨3, _⟩ => ⟨S16x512x1024, .bf16⟩
  | .hbm, ⟨4, _⟩ => ⟨S22528x1024, .f32⟩
  | .local _ .vmem, ⟨0, _⟩ => ⟨S256x1152, .f32⟩
  | .local _ .vmem, ⟨1, _⟩ => ⟨S256x1152, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S256x1024, .f32⟩
  | .local _ .vmem, ⟨15, _⟩ => ⟨S256x1024, .f32⟩
  | .local _ .smem, ⟨0, _⟩ => ⟨S88, .i32⟩
  | .local _ .smem, ⟨1, _⟩ => ⟨S88, .i32⟩
  | .local _ .smem, ⟨2, _⟩ => ⟨S1, .i32⟩
  | _, _ => ⟨S22528x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![88], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S88.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S88) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S88 : Shape := ⟨1, ![88]⟩
abbrev S1 : Shape := ⟨1, ![1]⟩
abbrev S22528x1152 : Shape := ⟨2, ![22528, 1152]⟩
abbrev S16x1024x512 : Shape := ⟨3, ![16, 1024, 512]⟩
abbrev S16x512x1024 : Shape := ⟨3, ![16, 512, 1024]⟩
abbrev S22528x1024 : Shape := ⟨2, ![22528, 1024]⟩
abbrev S16 : Shape := ⟨1, ![16]⟩
abbrev S1x16 : Shape := ⟨2, ![1, 16]⟩
abbrev S_ : Shape := ⟨0, ![]⟩
abbrev S88x1 : Shape := ⟨2, ![88, 1]⟩
abbrev S88x256 : Shape := ⟨2, ![88, 256]⟩
abbrev S22528x1 : Shape := ⟨2, ![22528, 1]⟩
abbrev S22528x16 : Shape := ⟨2, ![22528, 16]⟩
abbrev S16x512x22528 : Shape := ⟨3, ![16, 512, 22528]⟩
abbrev S16x22528x512 : Shape := ⟨3, ![16, 22528, 512]⟩
abbrev S16x22528x1024 : Shape := ⟨3, ![16, 22528, 1024]⟩
abbrev S16x22528 : Shape := ⟨2, ![16, 22528]⟩
abbrev S16x22528x1 : Shape := ⟨3, ![16, 22528, 1]⟩

abbrev nBuf : Space → Nat
  | .hbm => 71
  | .vmem => 0
  | .smem => 0
  | _ => 0

abbrev bufTy : (tb : Table) → Fin (tcTables nBuf tb) → BufTy
  | .hbm, ⟨0, _⟩ => ⟨S88, .i32⟩
  | .hbm, ⟨1, _⟩ => ⟨S88, .i32⟩
  | .hbm, ⟨2, _⟩ => ⟨S1, .i32⟩
  | .hbm, ⟨3, _⟩ => ⟨S22528x1152, .f32⟩
  | .hbm, ⟨4, _⟩ => ⟨S16x1024x512, .bf16⟩
  | .hbm, ⟨5, _⟩ => ⟨S16x1024x512, .bf16⟩
  | .hbm, ⟨6, _⟩ => ⟨S16x512x1024, .bf16⟩
  | .hbm, ⟨7, _⟩ => ⟨S22528x1024, .f32⟩
  | .hbm, ⟨8, _⟩ => ⟨S16, .i32⟩
  | .hbm, ⟨9, _⟩ => ⟨S1x16, .i32⟩
  | .hbm, ⟨10, _⟩ => ⟨S88, .i32⟩
  | .hbm, ⟨11, _⟩ => ⟨S_, .i32⟩
  | .hbm, ⟨12, _⟩ => ⟨S88, .i32⟩
  | .hbm, ⟨13, _⟩ => ⟨S88, .i1⟩
  | .hbm, ⟨14, _⟩ => ⟨S88x1, .i1⟩
  | .hbm, ⟨15, _⟩ => ⟨S88x256, .i1⟩
  | .hbm, ⟨16, _⟩ => ⟨S22528x1, .i1⟩
  | .hbm, ⟨17, _⟩ => ⟨S88x1, .i32⟩
  | .hbm, ⟨18, _⟩ => ⟨S88x256, .i32⟩
  | .hbm, ⟨19, _⟩ => ⟨S22528x1, .i32⟩
  | .hbm, ⟨20, _⟩ => ⟨S22528x16, .i32⟩
  | .hbm, ⟨21, _⟩ => ⟨S22528x16, .i32⟩
  | .hbm, ⟨22, _⟩ => ⟨S22528x16, .i1⟩
  | .hbm, ⟨23, _⟩ => ⟨S22528x1, .f32⟩
  | .hbm, ⟨24, _⟩ => ⟨S_, .f32⟩
  | .hbm, ⟨25, _⟩ => ⟨S_, .f32⟩
  | .hbm, ⟨26, _⟩ => ⟨S22528x16, .f32⟩
  | .hbm, ⟨27, _⟩ => ⟨S22528x16, .f32⟩
  | .hbm, ⟨28, _⟩ => ⟨S22528x16, .f32⟩
  | .hbm, ⟨29, _⟩ => ⟨S88x1, .i32⟩
  | .hbm, ⟨30, _⟩ => ⟨S88x256, .i32⟩
  | .hbm, ⟨31, _⟩ => ⟨S22528x1, .i32⟩
  | .hbm, ⟨32, _⟩ => ⟨S22528x16, .i32⟩
  | .hbm, ⟨33, _⟩ => ⟨S22528x16, .i32⟩
  | .hbm, ⟨34, _⟩ => ⟨S22528x16, .i1⟩
  | .hbm, ⟨35, _⟩ => ⟨S22528x1, .f32⟩
  | .hbm, ⟨36, _⟩ => ⟨S_, .f32⟩
  | .hbm, ⟨37, _⟩ => ⟨S_, .f32⟩
  | .hbm, ⟨38, _⟩ => ⟨S22528x16, .f32⟩
  | .hbm, ⟨39, _⟩ => ⟨S22528x16, .f32⟩
  | .hbm, ⟨40, _⟩ => ⟨S22528x16, .f32⟩
  | .hbm, ⟨41, _⟩ => ⟨S22528x16, .f32⟩
  | .hbm, ⟨42, _⟩ => ⟨S_, .f32⟩
  | .hbm, ⟨43, _⟩ => ⟨S_, .f32⟩
  | .hbm, ⟨44, _⟩ => ⟨S22528x16, .i1⟩
  | .hbm, ⟨45, _⟩ => ⟨S22528x16, .f32⟩
  | .hbm, ⟨46, _⟩ => ⟨S22528x16, .f32⟩
  | .hbm, ⟨47, _⟩ => ⟨S16x1024x512, .f32⟩
  | .hbm, ⟨48, _⟩ => ⟨S16x512x22528, .f32⟩
  | .hbm, ⟨49, _⟩ => ⟨S16x22528x512, .f32⟩
  | .hbm, ⟨50, _⟩ => ⟨S16x1024x512, .f32⟩
  | .hbm, ⟨51, _⟩ => ⟨S16x512x22528, .f32⟩
  | .hbm, ⟨52, _⟩ => ⟨S16x22528x512, .f32⟩
  | .hbm, ⟨53, _⟩ => ⟨S16x22528x512, .f32⟩
  | .hbm, ⟨54, _⟩ => ⟨S16x22528x512, .f32⟩
  | .hbm, ⟨55, _⟩ => ⟨S_, .f32⟩
  | .hbm, ⟨56, _⟩ => ⟨S16x22528x512, .f32⟩
  | .hbm, ⟨57, _⟩ => ⟨S16x22528x512, .f32⟩
  | .hbm, ⟨58, _⟩ => ⟨S_, .f32⟩
  | .hbm, ⟨59, _⟩ => ⟨S16x22528x512, .f32⟩
  | .hbm, ⟨60, _⟩ => ⟨S16x22528x512, .f32⟩
  | .hbm, ⟨61, _⟩ => ⟨S16x22528x512, .f32⟩
  | .hbm, ⟨62, _⟩ => ⟨S16x22528x512, .f32⟩
  | .hbm, ⟨63, _⟩ => ⟨S16x512x1024, .f32⟩
  | .hbm, ⟨64, _⟩ => ⟨S16x22528x1024, .f32⟩
  | .hbm, ⟨65, _⟩ => ⟨S16x22528, .f32⟩
  | .hbm, ⟨66, _⟩ => ⟨S16x22528x1, .f32⟩
  | .hbm, ⟨67, _⟩ => ⟨S16x22528x1024, .f32⟩
  | .hbm, ⟨68, _⟩ => ⟨S16x22528x1024, .f32⟩
  | .hbm, ⟨69, _⟩ => ⟨S_, .f32⟩
  | .hbm, ⟨70, _⟩ => ⟨S22528x1024, .f32⟩
  | _, _ => ⟨S88, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v25 : Ref sig .tc := ⟨.hbm, 40, rfl⟩
abbrev main_v26 : Ref sig .tc := ⟨.hbm, 41, rfl⟩
abbrev main_cst_1 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call3_v0 : Ref sig .tc := ⟨.hbm, 53, rfl⟩
abbrev main_call3_v1 : Ref sig .tc := ⟨.hbm, 54, rfl⟩
abbrev main_call3_cst : Ref sig .tc := ⟨.hbm, 55, rfl⟩
abbrev main_call3_v2 : Ref sig .tc := ⟨.hbm, 56, rfl⟩
abbrev main_call3_v3 : Ref sig .tc := ⟨.hbm, 57, rfl⟩
abbrev main_call3_cst_0 : Ref sig .tc := ⟨.hbm, 58, rfl⟩
abbrev main_call3_v4 : Ref sig .tc := ⟨.hbm, 59, rfl⟩
abbrev main_call3_v5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_2 : Ref sig .tc := ⟨.hbm, 69, rfl⟩
abbrev main_v42 : Ref sig .tc := ⟨.hbm, 70, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S3200x1024 : Shape := ⟨2, ![3200, 1024]⟩
abbrev S4096x8 : Shape := ⟨2, ![4096, 8]⟩
abbrev S1x128 : Shape := ⟨2, ![1, 128]⟩
abbrev S_ : Shape := ⟨0, ![]⟩
abbrev S4096x48 : Shape := ⟨2, ![4096, 48]⟩
abbrev S4096x64 : Shape := ⟨2, ![4096, 64]⟩
abbrev S4096x128 : Shape := ⟨2, ![4096, 128]⟩
abbrev S16384x1536 : Shape := ⟨2, ![16384, 1536]⟩
abbrev S16384x128 : Shape := ⟨2, ![16384, 128]⟩
abbrev S512x1024 : Shape := ⟨2, ![512, 1024]⟩
abbrev S512x128 : Shape := ⟨2, ![512, 128]⟩
abbrev S512x1536 : Shape := ⟨2, ![512, 1536]⟩
abbrev S8x128 : Shape := ⟨2, ![8, 128]⟩
abbrev S512 : Shape := ⟨1, ![512]⟩
abbrev S512x1 : Shape := ⟨2, ![512, 1]⟩
abbrev S512x512 : Shape := ⟨2, ![512, 512]⟩
abbrev S128x1024 : Shape := ⟨2, ![128, 1024]⟩
abbrev S512x256 : Shape := ⟨2, ![512, 256]⟩

abbrev nBuf : Space → Nat
  | .hbm => 22
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S3200x1024, .bf16⟩
  | .hbm, ⟨3, _⟩ => ⟨S4096x8, .f32⟩
  | .hbm, ⟨4, _⟩ => ⟨S4096x8, .f32⟩
  | .hbm, ⟨5, _⟩ => ⟨S1x128, .f32⟩
  | .hbm, ⟨6, _⟩ => ⟨S_, .f32⟩
  | .hbm, ⟨7, _⟩ => ⟨S4096x48, .f32⟩
  | .hbm, ⟨8, _⟩ => ⟨S_, .f32⟩
  | .hbm, ⟨9, _⟩ => ⟨S4096x8, .f32⟩
  | .hbm, ⟨10, _⟩ => ⟨S_, .f32⟩
  | .hbm, ⟨11, _⟩ => ⟨S4096x48, .f32⟩
  | .hbm, ⟨12, _⟩ => ⟨S4096x64, .f32⟩
  | .hbm, ⟨13, _⟩ => ⟨S4096x8, .f32⟩
  | .hbm, ⟨14, _⟩ => ⟨S4096x64, .f32⟩
  | .hbm, ⟨15, _⟩ => ⟨S4096x64, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S16384x1536, .bf16⟩
  | .hbm, ⟨20, _⟩ => ⟨S16384x1536, .bf16⟩
  | .hbm, ⟨21, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3200x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x128, .f32⟩
  | .local _ .vmem, ⟨11, _⟩ => ⟨S512x1536, .bf16⟩
  | .local _ .vmem, ⟨12, _⟩ => ⟨S512x1536, .bf16⟩
  | .local _ .vmem, ⟨13, _⟩ => ⟨S512x1536, .bf16⟩
  | .local _ .vmem, ⟨14, _⟩ => ⟨S512x1536, .bf16⟩
  | .local _ .vmem, ⟨15, _⟩ => ⟨S512x128, .f32⟩
  | .local _ .vmem, ⟨16, _⟩ => ⟨S512x128, .f32⟩
  | .local _ .vmem, ⟨17, _⟩ => ⟨S512x1024, .bf16⟩
  | .local _ .vmem, ⟨18, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3200x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16384x1024 : Shape := ⟨2, ![16384, 1024]⟩
abbrev S1x1024 : Shape := ⟨2, ![1, 1024]⟩
abbrev S3200x1024 : Shape := ⟨2, ![3200, 1024]⟩
abbrev S4096x8 : Shape := ⟨2, ![4096, 8]⟩
abbrev S1x128 : Shape := ⟨2, ![1, 128]⟩
abbrev S_ : Shape := ⟨0, ![]⟩
abbrev S16384 : Shape := ⟨1, ![16384]⟩
abbrev S16384x1 : Shape := ⟨2, ![16384, 1]⟩
abbrev S16384x3200 : Shape := ⟨2, ![16384, 3200]⟩
abbrev S4096x16 : Shape := ⟨2, ![4096, 16]⟩
abbrev S4096x1x16 : Shape := ⟨3, ![4096, 1, 16]⟩
abbrev S16384x512 : Shape := ⟨2, ![16384, 512]⟩
abbrev S4x4096x8x64 : Shape := ⟨4, ![4, 4096, 8, 64]⟩
abbrev S4x4096x8x16 : Shape := ⟨4, ![4, 4096, 8, 16]⟩
abbrev S4x4096x8x48 : Shape := ⟨4, ![4, 4096, 8, 48]⟩
abbrev S4x4096x8x8 : Shape := ⟨4, ![4, 4096, 8, 8]⟩
abbrev S1x4096x1x16 : Shape := ⟨4, ![1, 4096, 1, 16]⟩
abbrev S16384x1536 : Shape := ⟨2, ![16384, 1536]⟩
abbrev S16384x8 : Shape := ⟨2, ![16384, 8]⟩
abbrev S1x8 : Shape := ⟨2, ![1, 8]⟩
abbrev S4x4096x8 : Shape := ⟨3, ![4, 4096, 8]⟩
abbrev S16384x128 : Shape := ⟨2, ![16384, 128]⟩

abbrev nBuf : Space → Nat
  | .hbm => 97
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S3200x1024, .bf16⟩
  | .hbm, ⟨3, _⟩ => ⟨S4096x8, .f32⟩
  | .hbm, ⟨4, _⟩ => ⟨S4096x8, .f32⟩
  | .hbm, ⟨5, _⟩ => ⟨S1x128, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S3200x1024, .f32⟩
  | .hbm, ⟨22, _⟩ => ⟨S16384x3200, .f32⟩
  | .hbm, ⟨23, _⟩ => ⟨S4096x16, .f32⟩
  | .hbm, ⟨24, _⟩ => ⟨S4096x1x16, .f32⟩
  | .hbm, ⟨25, _⟩ => ⟨S4096x16, .f32⟩
  | .hbm, ⟨26, _⟩ => ⟨S4096x1x16, .f32⟩
  | .hbm, ⟨27, _⟩ => ⟨S16384x512, .f32⟩
  | .hbm, ⟨28, _⟩ => ⟨S4x4096x8x64, .f32⟩
  | .hbm, ⟨29, _⟩ => ⟨S4x4096x8x16, .f32⟩
  | .hbm, ⟨30, _⟩ => ⟨S4x4096x8x48, .f32⟩
  | .hbm, ⟨31, _⟩ => ⟨S4x4096x8x8, .f32⟩
  | .hbm, ⟨32, _⟩ => ⟨S4x4096x8x8, .f32⟩
  | .hbm, ⟨33, _⟩ => ⟨S4x4096x8x8, .f32⟩
  | .hbm, ⟨34, _⟩ => ⟨S4x4096x8x16, .f32⟩
  | .hbm, ⟨35, _⟩ => ⟨S1x4096x1x16, .f32⟩
  | .hbm, ⟨36, _⟩ => ⟨S4x4096x8x16, .f32⟩
  | .hbm, ⟨37, _⟩ => ⟨S4x4096x8x16, .f32⟩
  | .hbm, ⟨38, _⟩ => ⟨S1x4096x1x16, .f32⟩
  | .hbm, ⟨39, _⟩ => ⟨S4x4096x8x16, .f32⟩
  | .hbm, ⟨40, _⟩ => ⟨S4x4096x8x16, .f32⟩
  | .hbm, ⟨41, _⟩ => ⟨S4x4096x8x16, .f32⟩
  | .hbm, ⟨42, _⟩ => ⟨S4x4096x8x64, .f32⟩
  | .hbm, ⟨43, _⟩ => ⟨S16384x512, .f32⟩
  | .hbm, ⟨44, _⟩ => ⟨S16384x512, .f32⟩
  | .hbm, ⟨45, _⟩ => ⟨S4x4096x8x64, .f32⟩
  | .hbm, ⟨46, _⟩ => ⟨S4x4096x8x16, .f32⟩
  | .hbm, ⟨47, _⟩ => ⟨S4x4096x8x48, .f32⟩
  | .hbm, ⟨48, _⟩ => ⟨S4x4096x8x8, .f32⟩
  | .hbm, ⟨49, _⟩ => ⟨S4x4096x8x8, .f32⟩
  | .hbm, ⟨50, _⟩ => ⟨S4x4096x8x8, .f32⟩
  | .hbm, ⟨51, _⟩ => ⟨S4x4096x8x16, .f32⟩
  | .hbm, ⟨52, _⟩ => ⟨S1x4096x1x16, .f32⟩
  | .hbm, ⟨53, _⟩ => ⟨S4x4096x8x16, .f32⟩
  | .hbm, ⟨54, _⟩ => ⟨S4x4096x8x16, .f32⟩
  | .hbm, ⟨55, _⟩ => ⟨S1x4096x1x16, .f32⟩
  | .hbm, ⟨56, _⟩ => ⟨S4x4096x8x16, .f32⟩
  | .hbm, ⟨57, _⟩ => ⟨S4x4096x8x16, .f32⟩
  | .hbm, ⟨58, _⟩ => ⟨S4x4096x8x16, .f32⟩
  | .hbm, ⟨59, _⟩ => ⟨S4x4096x8x64, .f32⟩
  | .hbm, ⟨60, _⟩ => ⟨S16384x512, .f32⟩
  | .hbm, ⟨61, _⟩ => ⟨S16384x512, .f32⟩
  | .hbm, ⟨62, _⟩ => ⟨S16384x1536, .f32⟩
  | .hbm, ⟨63, _⟩ => ⟨S16384x1536, .f32⟩
  | .hbm, ⟨64, _⟩ => ⟨S16384x8, .f32⟩
  | .hbm, ⟨65, _⟩ => ⟨S1x8, .f32⟩
  | .hbm, ⟨66, _⟩ => ⟨S16384x8, .f32⟩
  | .hbm, ⟨67, _⟩ => ⟨S16384x8, .f32⟩
  | .hbm, ⟨68, _⟩ => ⟨S16384x8, .f32⟩
  | .hbm, ⟨69, _⟩ => ⟨S_, .f32⟩
  | .hbm, ⟨70, _⟩ => ⟨S16384x8, .f32⟩
  | .hbm, ⟨71, _⟩ => ⟨S16384x8, .f32⟩
  | .hbm, ⟨72, _⟩ => ⟨S16384x8, .f32⟩
  | .hbm, ⟨73, _⟩ => ⟨S16384x8, .f32⟩
  | .hbm, ⟨74, _⟩ => ⟨S16384x8, .i1⟩
  | .hbm, ⟨75, _⟩ => ⟨S16384x8, .f32⟩
  | .hbm, ⟨76, _⟩ => ⟨S16384x8, .f32⟩
  | .hbm, ⟨77, _⟩ => ⟨S16384x8, .f32⟩
  | .hbm, ⟨78, _⟩ => ⟨S16384x8, .f32⟩
  | .hbm, ⟨79, _⟩ => ⟨S16384x8, .f32⟩
  | .hbm, ⟨80, _⟩ => ⟨S16384x8, .f32⟩
  | .hbm, ⟨81, _⟩ => ⟨S16384x8, .f32⟩
  | .hbm, ⟨82, _⟩ => ⟨S16384x8, .f32⟩
  | .hbm, ⟨83, _⟩ => ⟨S16384x8, .f32⟩
  | .hbm, ⟨84, _⟩ => ⟨S_, .f32⟩
  | .hbm, ⟨85, _⟩ => ⟨S16384x8, .f32⟩
  | .hbm, ⟨86, _⟩ => ⟨S16384x8, .f32⟩
  | .hbm, ⟨87, _⟩ => ⟨S4x4096x8, .f32⟩
  | .hbm, ⟨88, _⟩ => ⟨S_, .f32⟩
  | .hbm, ⟨89, _⟩ => ⟨S_, .f32⟩
  | .hbm, ⟨90, _⟩ => ⟨S4x4096x8, .f32⟩
  | .hbm, ⟨91, _⟩ => ⟨S16384x8, .f32⟩
  | .hbm, ⟨92, _⟩ => ⟨S16384x1536, .bf16⟩
  | .hbm, ⟨93, _⟩ => ⟨S16384x1536, .bf16⟩
  | .hbm, ⟨94, _⟩ => ⟨S_, .i32⟩
  | .hbm, ⟨95, _⟩ => ⟨S_, .f32⟩
  | .hbm, ⟨96, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_call0_v0 : Ref sig .tc := ⟨.hbm, 68, rfl⟩
abbrev main_call0_call0_cst : Ref sig .tc := ⟨.hbm, 69, rfl⟩
abbrev main_call0_call0_v0 : Ref sig .tc := ⟨.hbm, 70, rfl⟩
abbrev main_call0_call0_v1 : Ref sig .tc := ⟨.hbm, 71, rfl⟩
abbrev main_call0_call0_v2 : Ref sig .tc := ⟨.hbm, 72, rfl⟩
abbrev main_call0_call0_v3 : Ref sig .tc := ⟨.hbm, 73, rfl⟩
abbrev main_call0_call0_v4 : Ref sig .tc := ⟨.hbm, 74, rfl⟩
abbrev main_call0_call0_v5 : Ref sig .tc := ⟨.hbm, 75, rfl⟩
abbrev main_call0_call0_v6 : Ref sig .tc := ⟨.hbm, 76, rfl⟩
abbrev main_call0_call0_v7 : Ref sig .tc := ⟨.hbm, 77, rfl⟩
abbrev main_call0_call0_v8 : Ref sig .tc := ⟨.hbm, 78, rfl⟩
abbrev main_call0_call0_v9 : Ref sig .tc := ⟨.hbm, 79, rfl⟩
abbrev main_call0_call0_v10 : Ref sig .tc := ⟨.hbm, 80, rfl⟩
abbrev main_call0_call0_v11 : Ref sig .tc := ⟨.hbm, 81, rfl⟩
abbrev main_call0_v1 : Ref sig .tc := ⟨.hbm, 82, rfl⟩
abbrev main_v59 : Ref sig .tc := ⟨.hbm, 83, rfl⟩
abbrev main_cst_2 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call1_call0_cst : Ref sig .tc := ⟨.hbm, 88, rfl⟩
abbrev main_call1_call0_v0 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c : Ref sig .tc := ⟨.hbm, 94, rfl⟩
abbrev main_call2_v0 : Ref sig .tc := ⟨.hbm, 95, rfl⟩
abbrev main_v67 : Ref sig .tc := ⟨.hbm, 96, rfl⟩

abbrev nD : Nat := 1
abbrev τ : Topo := Topo.v7x

variable {F : FTy → Type} [FloatOps F]
-- ==== Kernel3.lean ====
abbrev S16384x512 : Shape := ⟨2, ![16384, 512]⟩
abbrev S16384x1024 : Shape := ⟨2, ![16384, 1024]⟩
abbrev S1024x1024 : Shape := ⟨2, ![1024, 1024]⟩
abbrev S1x1024 : Shape := ⟨2, ![1, 1024]⟩
abbrev S1024x256 : Shape := ⟨2, ![1024, 256]⟩
abbrev S16384x1152 : Shape := ⟨2, ![16384, 1152]⟩
abbrev S32x4x128 : Shape := ⟨3, ![32, 4, 128]⟩
abbrev S512x512 : Shape := ⟨2, ![512, 512]⟩
abbrev S512x1024 : Shape := ⟨2, ![512, 1024]⟩
abbrev S512x1152 : Shape := ⟨2, ![512, 1152]⟩
abbrev S1x4x128 : Shape := ⟨3, ![1, 4, 128]⟩
abbrev S512 : Shape := ⟨1, ![512]⟩
abbrev S512x1 : Shape := ⟨2, ![512, 1]⟩
abbrev S512x256 : Shape := ⟨2, ![512, 256]⟩
abbrev S512x128 : Shape := ⟨2, ![512, 128]⟩
abbrev S1024x128 : Shape := ⟨2, ![1024, 128]⟩
abbrev S4x128x128 : Shape := ⟨3, ![4, 128, 128]⟩
abbrev S4x128 : Shape := ⟨2, ![4, 128]⟩

abbrev nBuf : Space → Nat
  | .hbm => 9
  | .vmem => 15
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .bf16⟩
  | .hbm, ⟨4, _⟩ => ⟨S1x1024, .f32⟩
  | .hbm, ⟨5, _⟩ => ⟨S1024x256, .bf16⟩
  | .hbm, ⟨6, _⟩ => ⟨S16384x1024, .f32⟩
  | .hbm, ⟨7, _⟩ => ⟨S16384x1152, .f32⟩
  | .hbm, ⟨8, _⟩ => ⟨S32x4x128, .i32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x256, .bf16⟩
  | .local _ .vmem, ⟨9, _⟩ => ⟨S512x1024, .f32⟩
  | .local _ .vmem, ⟨10, _⟩ => ⟨S512x1024, .f32⟩
  | .local _ .vmem, ⟨11, _⟩ => ⟨S512x1152, .f32⟩
  | .local _ .vmem, ⟨12, _⟩ => ⟨S512x1152, .f32⟩
  | .local _ .vmem, ⟨13, _⟩ => ⟨S1x4x128, .i32⟩
  | .local _ .vmem, ⟨14, _⟩ => ⟨S1x4x128, .i32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16384x512 : Shape := ⟨2, ![16384, 512]⟩
abbrev S16384x1024 : Shape := ⟨2, ![16384, 1024]⟩
abbrev S1024x1024 : Shape := ⟨2, ![1024, 1024]⟩
abbrev S1x1024 : Shape := ⟨2, ![1, 1024]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .bf16⟩
  | .hbm, ⟨4, _⟩ => ⟨S1x1024, .f32⟩
  | .hbm, ⟨5, _⟩ => ⟨S1024x256, .bf16⟩
  | .hbm, ⟨6, _⟩ => ⟨S16384x1024, .bf16⟩
  | .hbm, ⟨7, _⟩ => ⟨S16384x1024, .f32⟩
  | .hbm, ⟨8, _⟩ => ⟨S1024x1024, .f32⟩
  | .hbm, ⟨9, _⟩ => ⟨S16384x1024, .f32⟩
  | .hbm, ⟨10, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Kernel4.lean ====
abbrev S16384x512 : Shape := ⟨2, ![16384, 512]⟩
abbrev S16384x1024 : Shape := ⟨2, ![16384, 1024]⟩
abbrev S1024x1024 : Shape := ⟨2, ![1024, 1024]⟩
abbrev S1x1024 : Shape := ⟨2, ![1, 1024]⟩
abbrev S1024x4 : Shape := ⟨2, ![1024, 4]⟩
abbrev S1024x16 : Shape := ⟨2, ![1024, 16]⟩
abbrev S1024x20 : Shape := ⟨2, ![1024, 20]⟩
abbrev S_ : Shape := ⟨0, ![]⟩
abbrev S1024x128 : Shape := ⟨2, ![1024, 128]⟩
abbrev S1024x256 : Shape := ⟨2, ![1024, 256]⟩
abbrev S16384x1152 : Shape := ⟨2, ![16384, 1152]⟩
abbrev S32x4x128 : Shape := ⟨3, ![32, 4, 128]⟩
abbrev S512x512 : Shape := ⟨2, ![512, 512]⟩
abbrev S512x1024 : Shape := ⟨2, ![512, 1024]⟩
abbrev S512x1152 : Shape := ⟨2, ![512, 1152]⟩
abbrev S1x4x128 : Shape := ⟨3, ![1, 4, 128]⟩
abbrev S512 : Shape := ⟨1, ![512]⟩
abbrev S512x1 : Shape := ⟨2, ![512, 1]⟩
abbrev S512x256 : Shape := ⟨2, ![512, 256]⟩
abbrev S512x128 : Shape := ⟨2, ![512, 128]⟩
abbrev S4x128x128 : Shape := ⟨3, ![4, 128, 128]⟩
abbrev S4x128 : Shape := ⟨2, ![4, 128]⟩

abbrev nBuf : Space → Nat
  | .hbm => 19
  | .vmem => 15
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .bf16⟩
  | .hbm, ⟨4, _⟩ => ⟨S1x1024, .f32⟩
  | .hbm, ⟨5, _⟩ => ⟨S1024x4, .f32⟩
  | .hbm, ⟨6, _⟩ => ⟨S1024x16, .f32⟩
  | .hbm, ⟨7, _⟩ => ⟨S1024x20, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S1024x128, .f32⟩
  | .hbm, ⟨13, _⟩ => ⟨S1024x128, .f32⟩
  | .hbm, ⟨14, _⟩ => ⟨S1024x128, .bf16⟩
  | .hbm, ⟨15, _⟩ => ⟨S1024x256, .bf16⟩
  | .hbm, ⟨16, _⟩ => ⟨S16384x1024, .f32⟩
  | .hbm, ⟨17, _⟩ => ⟨S16384x1152, .f32⟩
  | .hbm, ⟨18, _⟩ => ⟨S32x4x128, .i32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x256, .bf16⟩
  | .local _ .vmem, ⟨9, _⟩ => ⟨S512x1024, .f32⟩
  | .local _ .vmem, ⟨10, _⟩ => ⟨S512x1024, .f32⟩
  | .local _ .vmem, ⟨11, _⟩ => ⟨S512x1152, .f32⟩
  | .local _ .vmem, ⟨12, _⟩ => ⟨S512x1152, .f32⟩
  | .local _ .vmem, ⟨13, _⟩ => ⟨S1x4x128, .i32⟩
  | .local _ .vmem, ⟨14, _⟩ => ⟨S1x4x128, .i32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel4Ideal.lean ====
variable {F : FTy → Type} [FloatOps F] [Named F]
def κ : String → Option EReal := fun
  | "mask" => some ⊥
  | _ => none
-- ==== Reference4Ideal.lean ====
abbrev S16384x512 : Shape := ⟨2, ![16384, 512]⟩
abbrev S16384x1024 : Shape := ⟨2, ![16384, 1024]⟩
abbrev S1024x1024 : Shape := ⟨2, ![1024, 1024]⟩
abbrev S1x1024 : Shape := ⟨2, ![1, 1024]⟩
abbrev S1024x4 : Shape := ⟨2, ![1024, 4]⟩
abbrev S1024x16 : Shape := ⟨2, ![1024, 16]⟩
abbrev S_ : Shape := ⟨0, ![]⟩
abbrev S16384 : Shape := ⟨1, ![16384]⟩
abbrev S16384x1 : Shape := ⟨2, ![16384, 1]⟩
abbrev S4 : Shape := ⟨1, ![4]⟩
abbrev S16384x4 : Shape := ⟨2, ![16384, 4]⟩
abbrev S16384x4x1 : Shape := ⟨3, ![16384, 4, 1]⟩
abbrev S16384x1x4 : Shape := ⟨3, ![16384, 1, 4]⟩
abbrev S16384x4x4 : Shape := ⟨3, ![16384, 4, 4]⟩
abbrev S1x1x4 : Shape := ⟨3, ![1, 1, 4]⟩
abbrev S1x4x1 : Shape := ⟨3, ![1, 4, 1]⟩
abbrev S1x4x4 : Shape := ⟨3, ![1, 4, 4]⟩
abbrev S16384x16 : Shape := ⟨2, ![16384, 16]⟩
abbrev S16384x2 : Shape := ⟨2, ![16384, 2]⟩
abbrev S1x4 : Shape := ⟨2, ![1, 4]⟩
abbrev S16384x126 : Shape := ⟨2, ![16384, 126]⟩
abbrev S16384x1152 : Shape := ⟨2, ![16384, 1152]⟩
abbrev S32x4x128 : Shape := ⟨3, ![32, 4, 128]⟩

abbrev nBuf : Space → Nat
  | .hbm => 319
  | .vmem => 0
  | .smem => 0
  | _ => 0

abbrev hbmTy0_0 (i : Nat) : BufTy := match i % 128 with
  | 0 => ⟨S16384x512, .bf16⟩
  | 1 => ⟨S16384x512, .bf16⟩
  | 2 => ⟨S16384x1024, .f32⟩
  | 3 => ⟨S1024x1024, .bf16⟩
  | 4 => ⟨S1x1024, .f32⟩
  | 5 => ⟨S1024x4, .f32⟩
  | 6 => ⟨S1024x16, .f32⟩
  | 7 => ⟨S16384x1024, .bf16⟩
  | 8 => ⟨S16384x1024, .f32⟩
  | 9 => ⟨S1024x1024, .f32⟩
  | 10 => ⟨S16384x1024, .f32⟩
  | 11 => ⟨S16384x1024, .f32⟩
  | 12 => ⟨S16384x1024, .f32⟩
  | 13 => ⟨S_, .f32⟩
  | 14 => ⟨S16384, .f32⟩
  | 15 => ⟨S16384x1, .f32⟩
  | 16 => ⟨S_, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x1, .f32⟩
  | 23 => ⟨S16384x1024, .f32⟩
  | 24 => ⟨S16384x1024, .f32⟩
  | 25 => ⟨S16384x1024, .f32⟩
  | 26 => ⟨S16384x1024, .f32⟩
  | 27 => ⟨S4, .i32⟩
  | 28 => ⟨S16384x4, .f32⟩
  | 29 => ⟨S16384x4x1, .f32⟩
  | 30 => ⟨S16384x1x4, .f32⟩
  | 31 => ⟨S16384x4x4, .f32⟩
  | 32 => ⟨S16384x4x4, .f32⟩
  | 33 => ⟨S16384x4x4, .i1⟩
  | 34 => ⟨S16384x4x4, .f32⟩
  | 35 => ⟨S16384x4x4, .f32⟩
  | 36 => ⟨S16384x4x4, .i1⟩
  | 37 => ⟨S1x1x4, .i32⟩
  | 38 => ⟨S1x4x1, .i32⟩
  | 39 => ⟨S1x4x4, .i32⟩
  | 40 => ⟨S1x4x4, .i32⟩
  | 41 => ⟨S1x4x4, .i1⟩
  | 42 => ⟨S16384x4x4, .i1⟩
  | 43 => ⟨S16384x4x4, .i1⟩
  | 44 => ⟨S16384x4x4, .i1⟩
  | 45 => ⟨S_, .f32⟩
  | 46 => ⟨S_, .f32⟩
  | 47 => ⟨S16384x4x4, .f32⟩
  | 48 => ⟨S16384x4x4, .f32⟩
  | 49 => ⟨S16384x4x4, .f32⟩
  | 50 => ⟨S16384x4x4, .f32⟩
  | 51 => ⟨S_, .f32⟩
  | 52 => ⟨S16384x4, .f32⟩
  | 53 => ⟨S_, .f32⟩
  | 54 => ⟨S16384x4, .f32⟩
  | 55 => ⟨S16384x4, .i1⟩
  | 56 => ⟨S_, .f32⟩
  | 57 => ⟨S16384, .f32⟩
  | 58 => ⟨S_, .f32⟩
  | 59 => ⟨S16384, .f32⟩
  | 60 => ⟨S16384, .f32⟩
  | 61 => ⟨S16384x1, .f32⟩
  | 62 => ⟨S16384x4, .f32⟩
  | 63 => ⟨S16384x4, .f32⟩
  | 64 => ⟨S16384x4, .f32⟩
  | 65 => ⟨S_, .f32⟩
  | 66 => ⟨S16384, .f32⟩
  | 67 => ⟨S16384x1, .f32⟩
  | 68 => ⟨S16384x4, .f32⟩
  | 69 => ⟨S16384x4, .f32⟩
  | 70 => ⟨S_, .f32⟩
  | 71 => ⟨S_, .f32⟩
  | 72 => ⟨S16384x4, .f32⟩
  | 73 => ⟨S16384x4, .f32⟩
  | 74 => ⟨S_, .f32⟩
  | 75 => ⟨S16384, .f32⟩
  | 76 => ⟨S16384x16, .f32⟩
  | 77 => ⟨S16384x4x4, .f32⟩
  | 78 => ⟨S16384x4x1, .i1⟩
  | 79 => ⟨S_, .f32⟩
  | 80 => ⟨S_, .f32⟩
  | 81 => ⟨S16384x4x4, .i1⟩
  | 82 => ⟨S16384x4x4, .f32⟩
  | 83 => ⟨S16384x4x4, .f32⟩
  | 84 => ⟨S_, .f32⟩
  | 85 => ⟨S16384x4, .f32⟩
  | 86 => ⟨S16384x4x1, .f32⟩
  | 87 => ⟨S16384x1x4, .f32⟩
  | 88 => ⟨S16384x4x4, .f32⟩
  | 89 => ⟨S16384x4x4, .f32⟩
  | 90 => ⟨S16384x4x4, .i1⟩
  | 91 => ⟨S16384x4x4, .f32⟩
  | 92 => ⟨S16384x4x4, .f32⟩
  | 93 => ⟨S16384x4x4, .i1⟩
  | 94 => ⟨S1x1x4, .i32⟩
  | 95 => ⟨S1x4x1, .i32⟩
  | 96 => ⟨S1x4x4, .i32⟩
  | 97 => ⟨S1x4x4, .i32⟩
  | 98 => ⟨S1x4x4, .i1⟩
  | 99 => ⟨S16384x4x4, .i1⟩
  | 100 => ⟨S16384x4x4, .i1⟩
  | 101 => ⟨S16384x4x4, .i1⟩
  | 102 => ⟨S_, .f32⟩
  | 103 => ⟨S_, .f32⟩
  | 104 => ⟨S16384x4x4, .f32⟩
  | 105 => ⟨S16384x4x4, .f32⟩
  | 106 => ⟨S16384x4x4, .f32⟩
  | 107 => ⟨S16384x4x4, .f32⟩
  | 108 => ⟨S_, .f32⟩
  | 109 => ⟨S16384x4, .f32⟩
  | 110 => ⟨S_, .f32⟩
  | 111 => ⟨S16384x4, .f32⟩
  | 112 => ⟨S16384x4, .i1⟩
  | 113 => ⟨S_, .f32⟩
  | 114 => ⟨S16384x4, .f32⟩
  | 115 => ⟨S16384x4, .i1⟩
  | 116 => ⟨S_, .f32⟩
  | 117 => ⟨S_, .f32⟩
  | 118 => ⟨S16384x4, .f32⟩
  | 119 => ⟨S16384x4, .f32⟩
  | 120 => ⟨S_, .f32⟩
  | 121 => ⟨S16384, .f32⟩
  | 122 => ⟨S_, .f32⟩
  | 123 => ⟨S_, .f32⟩
  | 124 => ⟨S16384x4, .f32⟩
  | 125 => ⟨S16384x4, .f32⟩
  | 126 => ⟨S_, .f32⟩
  | 127 => ⟨S16384, .f32⟩
  | _ => ⟨S16384x512, .bf16⟩

abbrev hbmTy0_1 (i : Nat) : BufTy := match i % 128 with
  | 0 => ⟨S16384x1, .f32⟩
  | 1 => ⟨S16384x1, .f32⟩
  | 2 => ⟨S16384x2, .f32⟩
  | 3 => ⟨S_, .f32⟩
  | 4 => ⟨S16384, .f32⟩
  | 5 => ⟨S_, .f32⟩
  | 6 => ⟨S16384, .f32⟩
  | 7 => ⟨S16384, .f32⟩
  | 8 => ⟨S16384x1, .f32⟩
  | 9 => ⟨S16384x2, .f32⟩
  | 10 => ⟨S16384x2, .f32⟩
  | 11 => ⟨S16384x2, .f32⟩
  | 12 => ⟨S_, .f32⟩
  | 13 => ⟨S16384, .f32⟩
  | 14 => ⟨S16384x1, .f32⟩
  | 15 => ⟨S16384x2, .f32⟩
  | 16 => ⟨S16384x2, .f32⟩
  | 17 => ⟨S16384x1, .f32⟩
  | 18 => ⟨S16384x2, .f32⟩
  | 19 => ⟨S16384x2, .f32⟩
  | 20 => ⟨S1x4, .i32⟩
  | 21 => ⟨S1x4, .f32⟩
  | 22 => ⟨S_, .f32⟩
  | 23 => ⟨S_, .f32⟩
  | 24 => ⟨S16384x4, .f32⟩
  | 25 => ⟨S16384x4, .f32⟩
  | 26 => ⟨S16384x4, .f32⟩
  | 27 => ⟨S_, .f32⟩
  | 28 => ⟨S16384, .f32⟩
  | 29 => ⟨S_, .f32⟩
  | 30 => ⟨S_, .f32⟩
  | 31 => ⟨S16384x4, .f32⟩
  | 32 => ⟨S16384x4, .f32⟩
  | 33 => ⟨S16384x4, .f32⟩
  | 34 => ⟨S_, .f32⟩
  | 35 => ⟨S16384, .f32⟩
  | 36 => ⟨S16384, .i1⟩
  | 37 => ⟨S16384x1, .i1⟩
  | 38 => ⟨S16384x1, .f32⟩
  | 39 => ⟨S16384x1, .f32⟩
  | 40 => ⟨S16384x1, .f32⟩
  | 41 => ⟨S16384x1, .f32⟩
  | 42 => ⟨S16384x1, .f32⟩
  | 43 => ⟨S16384x1, .f32⟩
  | 44 => ⟨S_, .f32⟩
  | 45 => ⟨S16384x126, .f32⟩
  | 46 => ⟨S16384x1152, .f32⟩
  | 47 => ⟨S_, .f32⟩
  | 48 => ⟨S_, .f32⟩
  | 49 => ⟨S16384x4, .f32⟩
  | 50 => ⟨S16384x4, .f32⟩
  | 51 => ⟨S16384x4, .f32⟩
  | 52 => ⟨S_, .f32⟩
  | 53 => ⟨S16384, .f32⟩
  | 54 => ⟨S_, .f32⟩
  | 55 => ⟨S16384, .f32⟩
  | 56 => ⟨S16384, .f32⟩
  | 57 => ⟨S_, .f32⟩
  | 58 => ⟨S16384, .f32⟩
  | 59 => ⟨S16384, .i1⟩
  | 60 => ⟨S_, .f32⟩
  | 61 => ⟨S16384, .f32⟩
  | 62 => ⟨S16384, .i1⟩
  | 63 => ⟨S16384, .i1⟩
  | 64 => ⟨S_, .f32⟩
  | 65 => ⟨S16384, .f32⟩
  | 66 => ⟨S16384, .i1⟩
  | 67 => ⟨S_, .f32⟩
  | 68 => ⟨S16384, .f32⟩
  | 69 => ⟨S16384, .i1⟩
  | 70 => ⟨S16384, .i1⟩
  | 71 => ⟨S16384, .i1⟩
  | 72 => ⟨S_, .f32⟩
  | 73 => ⟨S_, .f32⟩
  | 74 => ⟨S16384, .f32⟩
  | 75 => ⟨S16384, .f32⟩
  | 76 => ⟨S16384, .f32⟩
  | 77 => ⟨S16384, .f32⟩
  | 78 => ⟨S16384, .f32⟩
  | 79 => ⟨S_, .f32⟩
  | 80 => ⟨S16384, .f32⟩
  | 81 => ⟨S16384, .i1⟩
  | 82 => ⟨S_, .f32⟩
  | 83 => ⟨S16384, .f32⟩
  | 84 => ⟨S16384, .i1⟩
  | 85 => ⟨S16384, .i1⟩
  | 86 => ⟨S_, .f32⟩
  | 87 => ⟨S16384, .f32⟩
  | 88 => ⟨S16384, .i1⟩
  | 89 => ⟨S_, .f32⟩
  | 90 => ⟨S16384, .f32⟩
  | 91 => ⟨S16384, .i1⟩
  | 92 => ⟨S16384, .i1⟩
  | 93 => ⟨S16384, .i1⟩
  | 94 => ⟨S_, .f32⟩
  | 95 => ⟨S_, .f32⟩
  | 96 => ⟨S16384, .f32⟩
  | 97 => ⟨S16384, .f32⟩
  | 98 => ⟨S16384, .f32⟩
  | 99 => ⟨S16384, .f32⟩
  | 100 => ⟨S16384, .f32⟩
  | 101 => ⟨S_, .f32⟩
  | 102 => ⟨S16384, .f32⟩
  | 103 => ⟨S16384, .i1⟩
  | 104 => ⟨S_, .f32⟩
  | 105 => ⟨S16384, .f32⟩
  | 106 => ⟨S16384, .i1⟩
  | 107 => ⟨S16384, .i1⟩
  | 108 => ⟨S_, .f32⟩
  | 109 => ⟨S16384, .f32⟩
  | 110 => ⟨S16384, .i1⟩
  | 111 => ⟨S_, .f32⟩
  | 112 => ⟨S16384, .f32⟩
  | 113 => ⟨S16384, .i1⟩
  | 114 => ⟨S16384, .i1⟩
  | 115 => ⟨S16384, .i1⟩
  | 116 => ⟨S_, .f32⟩
  | 117 => ⟨S_, .f32⟩
  | 118 => ⟨S16384, .f32⟩
  | 119 => ⟨S16384, .f32⟩
  | 120 => ⟨S16384, .f32⟩
  | 121 => ⟨S16384, .f32⟩
  | 122 => ⟨S16384, .f32⟩
  | 123 => ⟨S_, .f32⟩
  | 124 => ⟨S16384, .f32⟩
  | 125 => ⟨S16384, .i1⟩
  | 126 => ⟨S_, .f32⟩
  | 127 => ⟨S16384, .f32⟩
  | _ => ⟨S16384x512, .bf16⟩

abbrev hbmTy0_2 (i : Nat) : BufTy := match i % 128 with
  | 0 => ⟨S16384, .i1⟩
  | 1 => ⟨S16384, .i1⟩
  | 2 => ⟨S_, .f32⟩
  | 3 => ⟨S16384, .f32⟩
  | 4 => ⟨S16384, .i1⟩
  | 5 => ⟨S_, .f32⟩
  | 6 => ⟨S16384, .f32⟩
  | 7 => ⟨S16384, .i1⟩
  | 8 => ⟨S16384, .i1⟩
  | 9 => ⟨S16384, .i1⟩
  | 10 => ⟨S_, .f32⟩
  | 11 => ⟨S_, .f32⟩
  | 12 => ⟨S16384, .f32⟩
  | 13 => ⟨S16384, .f32⟩
  | 14 => ⟨S16384, .f32⟩
  | 15 => ⟨S16384, .f32⟩
  | 16 => ⟨S16384, .f32⟩
  | 17 => ⟨S_, .f32⟩
  | 18 => ⟨S16384, .f32⟩
  | 19 => ⟨S16384, .i1⟩
  | 20 => ⟨S_, .f32⟩
  | 21 => ⟨S16384, .f32⟩
  | 22 => ⟨S16384, .i1⟩
  | 23 => ⟨S16384, .i1⟩
  | 24 => ⟨S_, .f32⟩
  | 25 => ⟨S16384, .f32⟩
  | 26 => ⟨S16384, .i1⟩
  | 27 => ⟨S_, .f32⟩
  | 28 => ⟨S16384, .f32⟩
  | 29 => ⟨S16384, .i1⟩
  | 30 => ⟨S16384, .i1⟩
  | 31 => ⟨S16384, .i1⟩
  | 32 => ⟨S_, .f32⟩
  | 33 => ⟨S_, .f32⟩
  | 34 => ⟨S16384, .f32⟩
  | 35 => ⟨S16384, .f32⟩
  | 36 => ⟨S16384, .f32⟩
  | 37 => ⟨S16384, .f32⟩
  | 38 => ⟨S16384, .f32⟩
  | 39 => ⟨S_, .f32⟩
  | 40 => ⟨S16384, .f32⟩
  | 41 => ⟨S16384, .i1⟩
  | 42 => ⟨S_, .f32⟩
  | 43 => ⟨S16384, .f32⟩
  | 44 => ⟨S16384, .i1⟩
  | 45 => ⟨S16384, .i1⟩
  | 46 => ⟨S_, .f32⟩
  | 47 => ⟨S16384, .f32⟩
  | 48 => ⟨S16384, .i1⟩
  | 49 => ⟨S_, .f32⟩
  | 50 => ⟨S16384, .f32⟩
  | 51 => ⟨S16384, .i1⟩
  | 52 => ⟨S16384, .i1⟩
  | 53 => ⟨S16384, .i1⟩
  | 54 => ⟨S_, .f32⟩
  | 55 => ⟨S_, .f32⟩
  | 56 => ⟨S16384, .f32⟩
  | 57 => ⟨S16384, .f32⟩
  | 58 => ⟨S16384, .f32⟩
  | 59 => ⟨S16384, .f32⟩
  | 60 => ⟨S16384, .f32⟩
  | 61 => ⟨S16384, .i32⟩
  | 62 => ⟨S32x4x128, .i32⟩
  | _ => ⟨S16384x512, .bf16⟩

abbrev hbmTy (i : Nat) : BufTy := match i / 128 with
  | 0 => hbmTy0_0 i
  | 1 => hbmTy0_1 i
  | 2 => hbmTy0_2 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_call1_v0 : Ref sig .tc := ⟨.hbm, 71, rfl⟩
abbrev main_call1_v1 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v56 : Ref sig .tc := ⟨.hbm, 83, rfl⟩
abbrev main_cst_12 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_13 : Ref sig .tc := ⟨.hbm, 102, rfl⟩
abbrev main_cst_14 : Ref sig .tc := ⟨.hbm, 103, rfl⟩
abbrev main_call3_v0 : Ref sig .tc := ⟨.hbm, 104, rfl⟩
abbrev main_call3_v1 : Ref sig .tc := ⟨.hbm, 105, rfl⟩
abbrev main_v74 : Ref sig .tc := ⟨.hbm, 106, rfl⟩
abbrev main_v75 : Ref sig .tc := ⟨.hbm, 107, rfl⟩
abbrev main_cst_15 : Ref sig .tc := ⟨.hbm, 108, rfl⟩
abbrev main_v76 : Ref sig .tc := ⟨.hbm, 109, rfl⟩
abbrev main_cst_16 : Ref sig .tc := ⟨.hbm, 110, rfl⟩
abbrev main_v77 : Ref sig .tc := ⟨.hbm, 111, rfl⟩
abbrev main_v78 : Ref sig .tc := ⟨.hbm, 112, rfl⟩
abbrev main_cst_17 : Ref sig .tc := ⟨.hbm, 113, rfl⟩
abbrev main_v79 : Ref sig .tc := ⟨.hbm, 114, rfl⟩
abbrev main_v80 : Ref sig .tc := ⟨.hbm, 115, rfl⟩
abbrev main_cst_18 : Ref sig .tc := ⟨.hbm, 116, rfl⟩
abbrev main_call4_v0 : Ref sig .tc := ⟨.hbm, 117, rfl⟩
abbrev main_call4_v1 : Ref sig .tc := ⟨.hbm, 118, rfl⟩
abbrev main_v81 : Ref sig .tc := ⟨.hbm, 119, rfl⟩
abbrev main_cst_19 : Ref sig .tc := ⟨.hbm, 120, rfl⟩
abbrev main_v82 : Ref sig .tc := ⟨.hbm, 121, rfl⟩
abbrev main_cst_20 : Ref sig .tc := ⟨.hbm, 122, rfl⟩
abbrev main_call5_v0 : Ref sig .tc := ⟨.hbm, 123, rfl⟩
abbrev main_call5_v1 : Ref sig .tc := ⟨.hbm, 124, rfl⟩
abbrev main_v83 : Ref sig .tc := ⟨.hbm, 125, rfl⟩
abbrev main_cst_21 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_22 : Ref sig .tc := ⟨.hbm, 131, rfl⟩
abbrev main_v88 : Ref sig .tc := ⟨.hbm, 132, rfl⟩
abbrev main_cst_23 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_24 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_25 : Ref sig .tc := ⟨.hbm, 150, rfl⟩
abbrev main_call6_v0 : Ref sig .tc := ⟨.hbm, 151, rfl⟩
abbrev main_call6_v1 : Ref sig .tc := ⟨.hbm, 152, rfl⟩
abbrev main_call6_v2 : Ref sig .tc := ⟨.hbm, 153, rfl⟩
abbrev main_v104 : Ref sig .tc := ⟨.hbm, 154, rfl⟩
abbrev main_cst_26 : Ref sig .tc := ⟨.hbm, 155, rfl⟩
abbrev main_v105 : Ref sig .tc := ⟨.hbm, 156, rfl⟩
abbrev main_cst_27 : Ref sig .tc := ⟨.hbm, 157, rfl⟩
abbrev main_call7_v0 : Ref sig .tc := ⟨.hbm, 158, rfl⟩
abbrev main_call7_v1 : Ref sig .tc := ⟨.hbm, 159, rfl⟩
abbrev main_call7_v2 : Ref sig .tc := ⟨.hbm, 160, rfl⟩
abbrev main_v106 : Ref sig .tc := ⟨.hbm, 161, rfl⟩
abbrev main_cst_28 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_cst_29 : Ref sig .tc := ⟨.hbm, 172, rfl⟩
abbrev main_v116 : Ref sig .tc := ⟨.hbm, 173, rfl⟩
abbrev main_v117 : Ref sig .tc := ⟨.hbm, 174, rfl⟩
abbrev main_cst_30 : Ref sig .tc := ⟨.hbm, 175, rfl⟩
abbrev main_call10_v0 : Ref sig .tc := ⟨.hbm, 176, rfl⟩
abbrev main_call10_v1 : Ref sig .tc := ⟨.hbm, 177, rfl⟩
abbrev main_call10_v2 : Ref sig .tc := ⟨.hbm, 178, rfl⟩
abbrev main_v118 : Ref sig .tc := ⟨.hbm, 179, rfl⟩
abbrev main_cst_31 : Ref sig .tc := ⟨.hbm, 180, rfl⟩
abbrev main_v119 : Ref sig .tc := ⟨.hbm, 181, rfl⟩
abbrev main_cst_32 : Ref sig .tc := ⟨.hbm, 182, rfl⟩
abbrev main_v120 : Ref sig .tc := ⟨.hbm, 183, rfl⟩
abbrev main_v121 : Ref sig .tc := ⟨.hbm, 184, rfl⟩
abbrev main_cst_33 : Ref sig .tc := ⟨.hbm, 185, rfl⟩
abbrev main_v122 : Ref sig .tc := ⟨.hbm, 186, rfl⟩
abbrev main_v123 : Ref sig .tc := ⟨.hbm, 187, rfl⟩
abbrev main_cst_34 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_cst_35 : Ref sig .tc := ⟨.hbm, 192, rfl⟩
abbrev main_v127 : Ref sig .tc := ⟨.hbm, 193, rfl⟩
abbrev main_v128 : Ref sig .tc := ⟨.hbm, 194, rfl⟩
abbrev main_cst_36 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_cst_37 : Ref sig .tc := ⟨.hbm, 200, rfl⟩
abbrev main_cst_38 : Ref sig .tc := ⟨.hbm, 201, rfl⟩
abbrev main_call11_v0 : Ref sig .tc := ⟨.hbm, 202, rfl⟩
abbrev main_call11_v1 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_cst_39 : Ref sig .tc := ⟨.hbm, 207, rfl⟩
abbrev main_v136 : Ref sig .tc := ⟨.hbm, 208, rfl⟩
abbrev main_v137 : Ref sig .tc := ⟨.hbm, 209, rfl⟩
abbrev main_cst_40 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_cst_41 : Ref sig .tc := ⟨.hbm, 214, rfl⟩
abbrev main_v141 : Ref sig .tc := ⟨.hbm, 215, rfl⟩
abbrev main_v142 : Ref sig .tc := ⟨.hbm, 216, rfl⟩
abbrev main_cst_42 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_cst_43 : Ref sig .tc := ⟨.hbm, 222, rfl⟩
abbrev main_cst_44 : Ref sig .tc := ⟨.hbm, 223, rfl⟩
abbrev main_call12_v0 : Ref sig .tc := ⟨.hbm, 224, rfl⟩
abbrev main_call12_v1 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_cst_45 : Ref sig .tc := ⟨.hbm, 229, rfl⟩
abbrev main_v150 : Ref sig .tc := ⟨.hbm, 230, rfl⟩
abbrev main_v151 : Ref sig .tc := ⟨.hbm, 231, rfl⟩
abbrev main_cst_46 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_cst_47 : Ref sig .tc := ⟨.hbm, 236, rfl⟩
abbrev main_v155 : Ref sig .tc := ⟨.hbm, 237, rfl⟩
abbrev main_v156 : Ref sig .tc := ⟨.hbm, 238, rfl⟩
abbrev main_cst_48 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_cst_49 : Ref sig .tc := ⟨.hbm, 244, rfl⟩
abbrev main_cst_50 : Ref sig .tc := ⟨.hbm, 245, rfl⟩
abbrev main_call13_v0 : Ref sig .tc := ⟨.hbm, 246, rfl⟩
abbrev main_call13_v1 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_cst_51 : Ref sig .tc := ⟨.hbm, 251, rfl⟩
abbrev main_v164 : Ref sig .tc := ⟨.hbm, 252, rfl⟩
abbrev main_v165 : Ref sig .tc := ⟨.hbm, 253, rfl⟩
abbrev main_cst_52 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_cst_53 : Ref sig .tc := ⟨.hbm, 258, rfl⟩
abbrev main_v169 : Ref sig .tc := ⟨.hbm, 259, rfl⟩
abbrev main_v170 : Ref sig .tc := ⟨.hbm, 260, rfl⟩
abbrev main_cst_54 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_cst_55 : Ref sig .tc := ⟨.hbm, 266, rfl⟩
abbrev main_cst_56 : Ref sig .tc := ⟨.hbm, 267, rfl⟩
abbrev main_call14_v0 : Ref sig .tc := ⟨.hbm, 268, rfl⟩
abbrev main_call14_v1 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_cst_57 : Ref sig .tc := ⟨.hbm, 273, rfl⟩
abbrev main_v178 : Ref sig .tc := ⟨.hbm, 274, rfl⟩
abbrev main_v179 : Ref sig .tc := ⟨.hbm, 275, rfl⟩
abbrev main_cst_58 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_cst_59 : Ref sig .tc := ⟨.hbm, 280, rfl⟩
abbrev main_v183 : Ref sig .tc := ⟨.hbm, 281, rfl⟩
abbrev main_v184 : Ref sig .tc := ⟨.hbm, 282, rfl⟩
abbrev main_cst_60 : Ref sig .tc := ⟨.hbm, 283, rfl⟩
abbrev main_v185 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_cst_61 : Ref sig .tc := ⟨.hbm, 288, rfl⟩
abbrev main_cst_62 : Ref sig .tc := ⟨.hbm, 289, rfl⟩
abbrev main_call15_v0 : Ref sig .tc := ⟨.hbm, 290, rfl⟩
abbrev main_call15_v1 : Ref sig .tc := ⟨.hbm, 291, rfl⟩
abbrev main_v189 : Ref sig .tc := ⟨.hbm, 292, rfl⟩
abbrev main_v190 : Ref sig .tc := ⟨.hbm, 293, rfl⟩
abbrev main_v191 : Ref sig .tc := ⟨.hbm, 294, rfl⟩
abbrev main_cst_63 : Ref sig .tc := ⟨.hbm, 295, rfl⟩
abbrev main_v192 : Ref sig .tc := ⟨.hbm, 296, rfl⟩
abbrev main_v193 : Ref sig .tc := ⟨.hbm, 297, rfl⟩
abbrev main_cst_64 : Ref sig .tc := ⟨.hbm, 298, rfl⟩
abbrev main_v194 : Ref sig .tc := ⟨.hbm, 299, rfl⟩
abbrev main_v195 : Ref sig .tc := ⟨.hbm, 300, rfl⟩
abbrev main_v196 : Ref sig .tc := ⟨.hbm, 301, rfl⟩
abbrev main_cst_65 : Ref sig .tc := ⟨.hbm, 302, rfl⟩
abbrev main_v197 : Ref sig .tc := ⟨.hbm, 303, rfl⟩
abbrev main_v198 : Ref sig .tc := ⟨.hbm, 304, rfl⟩
abbrev main_cst_66 : Ref sig .tc := ⟨.hbm, 305, rfl⟩
abbrev main_v199 : Ref sig .tc := ⟨.hbm, 306, rfl⟩
abbrev main_v200 : Ref sig .tc := ⟨.hbm, 307, rfl⟩
abbrev main_v201 : Ref sig .tc := ⟨.hbm, 308, rfl⟩
abbrev main_v202 : Ref sig .tc := ⟨.hbm, 309, rfl⟩
abbrev main_cst_67 : Ref sig .tc := ⟨.hbm, 310, rfl⟩
abbrev main_cst_68 : Ref sig .tc := ⟨.hbm, 311, rfl⟩
abbrev main_call16_v0 : Ref sig .tc := ⟨.hbm, 312, rfl⟩
abbrev main_call16_v1 : Ref sig .tc := ⟨.hbm, 313, rfl⟩
abbrev main_v203 : Ref sig .tc := ⟨.hbm, 314, rfl⟩
abbrev main_v204 : Ref sig .tc := ⟨.hbm, 315, rfl⟩
abbrev main_v205 : Ref sig .tc := ⟨.hbm, 316, rfl⟩
abbrev main_v206 : Ref sig .tc := ⟨.hbm, 317, rfl⟩
abbrev main_v207 : Ref sig .tc := ⟨.hbm, 318, rfl⟩

abbrev nD : Nat := 1
abbrev τ : Topo := Topo.v7x

variable {F : FTy → Type} [FloatOps F]
-- ==== Proof.Experts.Pre.lean ====
/-
  What the precondition says of the argument arrays, word by word: every table entry names one of the sixteen experts, at
  least one tile is in use, and each row's two weights compare at least zero and below infinity.
-/
module

public import proofs.«01_k».proof.Pre_routed
public import proofs.«01_k».proof.Proof.Gen.Pre_routed
public import Idealize.ShloMosaic.Lib.StableHlo.Predicate
public import Idealize.ShloMosaic.Lib.Affine

@[expose] public section

noncomputable section

namespace Cert.Pre_routed.Decode

open Idealize.ShloMosaic Cert.Pre_routed

theorem and_true : ∀ x y : BitVec 1, IntOp.andi x y = 1#1 → x = 1#1 ∧ y = 1#1 := by unfold IntOp.andi; decide

/-- A left fold of conjunctions that ends true started true and met only true words. -/
theorem foldl_andi {α : Type} (f : α → BitVec 1) (l : List α) (b : BitVec 1)
    (h : l.foldl (fun r n => IntOp.andi r (f n)) b = 1#1) : b = 1#1 ∧ ∀ n ∈ l, f n = 1#1 := by
  induction l generalizing b with
  | nil => exact ⟨h, by simp⟩
  | cons a l ih =>
    obtain ⟨h1, h2⟩ := ih _ h
    have h3 : b = 1#1 ∧ f a = 1#1 := and_true _ _ h1
    refine ⟨h3.1, fun n hn => ?_⟩
    rcases List.mem_cons.1 hn with rfl | hn
    · exact h3.2
    · exact h2 n hn

/-- A conjunction over a whole array that ends true met only true words. -/
theorem all_of_reduce {s : Shape} {axes : List (Fin s.rank)} (x : IVec s 1) (v : IVec S_ 1) (h : s.ReducesTo axes S_) (hu : 0 < S_.numel)
    (j : S_.Idx) (e : Host.reduce IntOp.andi x v h hu j = 1#1) (i : s.Idx) : x i = 1#1 := by
  have := (foldl_andi (fun n => x (s.rowMajor.symm n)) _ _ e).2 (s.rowMajor i)
    (List.mem_filter.2 ⟨List.mem_finRange _, by simpa using funext fun a : Fin 0 => a.elim0⟩)
  simpa using this

/-- A word between zero and sixteen as a signed number is so as a natural number. -/
theorem lt_sixteen (x : BitVec 32) (h : IntOp.andi (IntOp.cmpi .sge x 0#32) (IntOp.cmpi .slt x 16#32) = 1#1) : x.toNat < 16 := by
  have h' : (0#32).sle x = true ∧ x.slt 16#32 = true := by
    have hb : ∀ b : Bool, BitVec.ofBool b = 1#1 → b = true := by decide
    exact ⟨hb _ (and_true _ _ h).1, hb _ (and_true _ _ h).2⟩
  obtain ⟨h1, h2⟩ := h'
  simp only [BitVec.sle_eq_decide, BitVec.slt_eq_decide, decide_eq_true_eq, BitVec.toInt_eq_toNat_cond, BitVec.toNat_ofNat,
    Nat.reducePow, Nat.reduceMod] at h1 h2
  omega

variable {F : FTy → Type} [FloatOps F]

/-- The two weight columns of the sorted rows. -/
def weights [Facts] (xs : FVec F S22528x1152 .f32) : FVec F S22528x2 .f32 :=
  extractStridedSlice S22528x2 ![0, 1024] xs Facts.slices_S22528x1152_S22528x2_0_1024

/-- The precondition, word by word. -/
structure Routed [Facts] (ea eb : IVec S88 32) (used : IVec S1 32) (xs : FVec F S22528x1152 .f32) : Prop where
  first : ∀ i, (ea i).toNat < 16
  second : ∀ i, (eb i).toNat < 16
  some_used : ∀ i, (1#32).sle (used i) = true
  weight_ge : ∀ i, FloatOps.cmpf .oge (weights xs i) (FloatOps.ofBits .f32 0x00000000#32) = 1#1
  weight_lt : ∀ i, FloatOps.cmpf .olt (weights xs i) (FloatOps.ofBits .f32 0x7F800000#32) = 1#1

theorem routed [Facts] {ea eb : IVec S88 32} {used : IVec S1 32} {xs : FVec F S22528x1152 .f32} {g u d}
    (h : fn (F := F) ea eb used xs g u d = fun _ => 1#1) : Routed ea eb used xs := by
  have e := congrFun h (fun a => a.elim0)
  unfold fn fn_part1 at e
  obtain ⟨e, ew⟩ := and_true _ _ e
  obtain ⟨e, eu⟩ := and_true _ _ e
  obtain ⟨e1, e2⟩ := and_true _ _ e
  refine ⟨fun i => lt_sixteen _ (all_of_reduce _ _ _ _ _ e1 i), fun i => lt_sixteen _ (all_of_reduce _ _ _ _ _ e2 i), fun i => ?_, fun i => ?_, fun i => ?_⟩
  · have hb : ∀ b : Bool, BitVec.ofBool b = 1#1 → b = true := by decide
    have h1 := hb _ eu
    have h0 : ∀ j : S1.Idx, j = i := fun j => funext fun a => by
      obtain rfl : a = 0 := Subsingleton.elim (α := Fin 1) _ _
      exact Subsingleton.elim (α := Fin 1) _ _
    rw [← h0 (S1.rowMajor.symm _)]
    exact h1
  · exact (and_true _ _ (all_of_reduce _ _ _ _ _ ew i)).1
  · exact (and_true _ _ (all_of_reduce _ _ _ _ _ ew i)).2

end Cert.Pre_routed.Decode

end
-- ==== Proof.Experts.Ideal.Run.lean ====
/-
  One run of the experts' kernel body on one tile, in both of its cases.

  The body reads the number of tiles in use from the third table and compares it with the tile's number. A tile in use is
  overwritten by the two experts' weighted products; any other tile is overwritten by zeros. `tileOut` names the first, as the
  printed arithmetic over the tile's rows and the two experts' six matrices.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen

variable {F : FTy → Type} [FloatOps F]

local notation "𝕄" => MT nD τ sig Unit (Elt F) ℕ (UR sig nD τ) ℕ

/-- The three tables as the body is handed them: first experts, second experts, number of tiles in use. -/
abbrev firstT : Memref sig .tc .smem S88 .i32 := Memref.whole main_arg0
abbrev secondT : Memref sig .tc .smem S88 .i32 := Memref.whole main_arg1
abbrev usedT : Memref sig .tc .smem S1 .i32 := Memref.whole main_arg2

/-- Contents of a table's buffer on core `c`. -/
abbrev TabBuf (c : Dev nD) {S : Shape} (M : Memref sig .tc .smem S .i32) : Type := Buf (Elt F) (M.view.loc (c : Thread nD τ))
/-- A table held at half the full share: the body only reads it. -/
abbrev tab (c : Dev nD) {S : Shape} (M : Memref sig .tc .smem S .i32) (f : TabBuf (F := F) c M) : sProp 𝕄 :=
  M.view.loc (c : Thread nD τ) ↦{fullShare.right} f

/-- The features of a tile's 256 rows. -/
def feats (x : Vec F S256x1152 .f32) : Vec F S256x1024 .f32 :=
  View.ld x (Rect.unit (s := S256x1152) ![0, 0] S256x1024.size inb_S256x1152_S256x1024_0_0)
/-- The 128 lanes beside them, whose first two are the routing weights. -/
def lanes (x : Vec F S256x1152 .f32) : Vec F S256x128 .f32 :=
  View.ld x (Rect.unit (s := S256x1152) ![0, 1024] S256x128.size inb_S256x1152_S256x128_0_1024)

/-- What the body stores to a tile in use: from its rows `x`, the first expert's gate, up and down matrices and the second's. -/
def tileOut (x : Vec F S256x1152 .f32) (ga ua : Vec F S1x1024x512 .bf16) (da : Vec F S1x512x1024 .bf16)
    (gb ub : Vec F S1x1024x512 .bf16) (db : Vec F S1x512x1024 .bf16) : Vec F S256x1024 .f32 :=
  k0_pay1 (lanes x) (k0_pay4 (feats x) (lanes x) ga ua da) (k0_pay5 (feats x) gb) (k0_pay6 (feats x) ub)
    (k0_pay7 (feats x) gb) (Scalar.ofBits .f32 0x3F800000#32) db

theorem off2 : (![0, 0] : Fin 2 → ℕ) = fun _ => 0 := by decide
theorem off3 : (![0, 0, 0] : Fin 3 → ℕ) = fun _ => 0 := by decide

section
variable (c : Dev nD) (i : grid0.Coords)
  (a4 : Memref sig .tc .vmem S256x1152 .f32) (h4 : a4.IsWhole) (a5 : Memref sig .tc .vmem S1x1024x512 .bf16) (h5 : a5.IsWhole)
  (a6 : Memref sig .tc .vmem S1x1024x512 .bf16) (h6 : a6.IsWhole) (a7 : Memref sig .tc .vmem S1x512x1024 .bf16) (h7 : a7.IsWhole)
  (a8 : Memref sig .tc .vmem S1x1024x512 .bf16) (h8 : a8.IsWhole) (a9 : Memref sig .tc .vmem S1x1024x512 .bf16) (h9 : a9.IsWhole)
  (a10 : Memref sig .tc .vmem S1x512x1024 .bf16) (h10 : a10.IsWhole) (a11 : Memref sig .tc .vmem S256x1024 .f32) (h11 : a11.IsWhole)
  (x : Vec F S256x1152 .f32) (ga ua : Vec F S1x1024x512 .bf16) (da : Vec F S1x512x1024 .bf16)
  (gb ub : Vec F S1x1024x512 .bf16) (db : Vec F S1x512x1024 .bf16)
  (ta : TabBuf (F := F) c firstT) (tb : TabBuf (F := F) c secondT) (tu : TabBuf (F := F) c usedT)

/-- Everything the body only reads: the seven staged inputs and the three tables. -/
def inputs : sProp 𝕄 :=
  iprop(owns (c : Thread nD τ) a4 fullShare x ∗ owns (c : Thread nD τ) a5 fullShare ga ∗ owns (c : Thread nD τ) a6 fullShare ua
    ∗ owns (c : Thread nD τ) a7 fullShare da ∗ owns (c : Thread nD τ) a8 fullShare gb ∗ owns (c : Thread nD τ) a9 fullShare ub
    ∗ owns (c : Thread nD τ) a10 fullShare db ∗ tab c firstT ta ∗ tab c secondT tb ∗ tab c usedT tu)

/-- The body as called with these memrefs. -/
abbrev bodyOn : Prog (TpuEff nD τ sig (Elt F) Λ₀ .tc) PUnit :=
  cc0_moe_experts i firstT (Memref.isWhole_whole _) secondT (Memref.isWhole_whole _) usedT (Memref.isWhole_whole _)
    a4 h4 a5 h5 a6 h6 a7 h7 a8 h8 a9 h9 a10 h10 a11 h11

set_option maxHeartbeats 4000000 in
/-- A tile in use: whatever the output held, it ends at `tileOut` of the inputs, and the inputs are as they were. -/
theorem run_used
    (hc : ∀ (r : LoadRect S1) (y : r.shape.Idx), k0_cond1 i (View.readAt (Elt F) usedT.view r tu y) = 1#1)
    (hd : ∀ (r : LoadRect S1) (y : r.shape.Idx), ¬ k0_cond2 i (View.readAt (Elt F) usedT.view r tu y) = 1#1)
    (E : Set ℕ) (K : PUnit → sProp 𝕄) :
    iprop(inputs c a4 a5 a6 a7 a8 a9 a10 x ga ua da gb ub db ta tb tu ∗ (∃ d, owns (c : Thread nD τ) a11 fullShare d)
        ∗ (iprop(inputs c a4 a5 a6 a7 a8 a9 a10 x ga ua da gb ub db ta tb tu
            ∗ owns (c : Thread nD τ) a11 fullShare (tileOut x ga ua da gb ub db)) -∗ K ⟨⟩))
      ⊢ wp frame (wpE (defs₀ (F := F)) Variants.none c none) E
          (bodyOn i a4 h4 a5 h5 a6 h6 a7 h7 a8 h8 a9 h9 a10 h10 a11 h11) K := by
  unfold bodyOn inputs
  simp only [cc0_moe_experts_eq_skeleton]; unfold cc0_moe_experts_skel
  simp only [k0_part1_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, HT0, HT1, HT2⟩, ⟨%d, %f, -, H7⟩, Hk⟩
  obtain rfl := h4.eq_unread hf0; obtain rfl := h5.eq_unread hf1; obtain rfl := h6.eq_unread hf2; obtain rfl := h7.eq_unread hf3
  obtain rfl := h8.eq_unread hf4; obtain rfl := h9.eq_unread hf5; obtain rfl := h10.eq_unread hf6
  sl_exec (disch := first | exact hc _ _ | exact hd _ _)
  sl_step
  iapply Hk
  isplitl [H0 H1 H2 H3 H4 H5 H6 HT0 HT1 HT2]
  · isplitl [H0]
    · iexists _; isplitr; · ipureintro; exact h4.read_unread _
      iexact H0
    isplitl [H1]
    · iexists _; isplitr; · ipureintro; exact h5.read_unread _
      iexact H1
    isplitl [H2]
    · iexists _; isplitr; · ipureintro; exact h6.read_unread _
      iexact H2
    isplitl [H3]
    · iexists _; isplitr; · ipureintro; exact h7.read_unread _
      iexact H3
    isplitl [H4]
    · iexists _; isplitr; · ipureintro; exact h8.read_unread _
      iexact H4
    isplitl [H5]
    · iexists _; isplitr; · ipureintro; exact h9.read_unread _
      iexact H5
    isplitl [H6]
    · iexists _; isplitr; · ipureintro; exact h10.read_unread _
      iexact H6
    isplitl [HT0]; · iexact HT0
    isplitl [HT1]; · iexact HT1
    iexact HT2
  iexists _; isplitr; swap; · iexact H7
  ipureintro
  refine (View.read_writes_full _ _ _ _ _).trans ?_
  unfold tileOut feats lanes
  delta run_used.sl.r_1 run_used.sl.r_2 run_used.sl.r_3 run_used.sl.r_4 run_used.sl.r_5 run_used.sl.cst_27
  simp only [View.readAt_eq_ld, h4.read_unread, h5.read_unread, h6.read_unread, h7.read_unread, h8.read_unread, h9.read_unread,
    h10.read_unread, View.ld_unit_zero (S := S1x1024x512) off3, View.ld_unit_zero (S := S1x512x1024) off3]

set_option maxHeartbeats 4000000 in
/-- A padding tile: whatever the output held, it ends at zeros, and the inputs are as they were. -/
theorem run_padding
    (hc : ∀ (r : LoadRect S1) (y : r.shape.Idx), ¬ k0_cond1 i (View.readAt (Elt F) usedT.view r tu y) = 1#1)
    (hd : ∀ (r : LoadRect S1) (y : r.shape.Idx), k0_cond2 i (View.readAt (Elt F) usedT.view r tu y) = 1#1)
    (E : Set ℕ) (K : PUnit → sProp 𝕄) :
    iprop(inputs c a4 a5 a6 a7 a8 a9 a10 x ga ua da gb ub db ta tb tu ∗ (∃ d, owns (c : Thread nD τ) a11 fullShare d)
        ∗ (iprop(inputs c a4 a5 a6 a7 a8 a9 a10 x ga ua da gb ub db ta tb tu
            ∗ owns (c : Thread nD τ) a11 fullShare (k0_pay2 (F := F))) -∗ K ⟨⟩))
      ⊢ wp frame (wpE (defs₀ (F := F)) Variants.none c none) E
          (bodyOn i a4 h4 a5 h5 a6 h6 a7 h7 a8 h8 a9 h9 a10 h10 a11 h11) K := by
  unfold bodyOn
  simp only [cc0_moe_experts_eq_skeleton]; unfold cc0_moe_experts_skel
  unfold inputs
  iintro ⟨⟨H0, H1, H2, H3, H4, H5, H6, HT0, HT1, HT2⟩, ⟨%d, H7⟩, Hk⟩
  unfold owns
  icases H7 with ⟨%f, -, H7⟩
  sl_exec (disch := first | exact hc _ _ | exact hd _ _)
  sl_step
  iapply Hk
  isplitl [H0 H1 H2 H3 H4 H5 H6 HT0 HT1 HT2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    iexact HT2
  iexists _; isplitr; swap; · iexact H7
  ipureintro
  exact View.read_writes_full _ _ _ _ _

end

end Cert.KernelIdeal.Experts

end
-- ==== Proof.Experts.Ideal.Frame.lean ====
/-
  The launch of the experts' kernel: the three prefetched tables read off the launch memory, each window's block, what every
  grid point leaves, and the whole run from any memory whose tables keep every window inside its array (`Ok`).

  Every final state has the result array at the contents written back tile by tile (`data … arrAt`), the seven arguments
  unchanged and every semaphore counter at zero.
-/
module

public import proofs.«01_k».proof.Proof.Experts.Ideal.Run
public import Idealize.ShloMosaic.Lib.Claim

@[expose] public section

set_option maxRecDepth 16384

noncomputable section

namespace Cert.KernelIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables and the pipeline at them -/

/-- The core's buffers as the call finds them: as launched, the call being the whole of @main. -/
abbrev atEntry (c : Dev nD) (b : Ref sig .tc) : Buf (Elt F) ((c : Thread nD τ).loc b) := m ((c : Thread nD τ).loc b)

theorem entry (𝒱 : Variants) :
    Pipeline.HMainP (Ix := Unit) (Name := ℕ) (U := UR sig nD τ) (Lvl := ℕ) pcfgs 0 defs₀ 𝒱 m (main (F := F)) (atEntry m) :=
  Pipeline.hmainP_region pcfgs 0 defs₀ 𝒱 m main fun c => (main_chain c).trans rfl

/-- The tables' contents at launch, on the one device. -/
def tables : pre0.Contents (Elt F) := fun j => atEntry m (0 : Dev nD) (pre0.ref j)

theorem tables_eq (c : Dev nD) (j : Fin 3) : atEntry m c (pre0.ref j) = tables m j := by
  obtain rfl : c = 0 := Subsingleton.elim _ _; rfl

/-- Every window's block lies inside its array at every point. -/
abbrev Ok : Prop := ok0 (F := F) (tables m)
abbrev adm (ok : Ok m) : (pcfg0 (F := F)).Adm := ⟨tables m, ok⟩
abbrev pipe (ok : Ok m) : Pipeline.Cfg sig Λ₀ := cfg0 (adm m ok)

theorem tables_held (c : Dev nD) : (Pipeline.ΦT pre0 (tables m) c : sProp 𝕄)
    = iprop(tab c firstT (tables m 0) ∗ tab c secondT (tables m 1) ∗ tab c usedT (tables m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The tile's case -/

/-- The number of tiles in use, as a word. -/
def usedWord : BitVec 32 := (show S1.Idx → BitVec 32 from tables m 2) (fun a => ⟨0, by revert a; decide⟩)

theorem used_read (r : LoadRect S1) (y : r.shape.Idx) (c : Dev nD) :
    View.readAt (Elt F) usedT.view r (show TabBuf (F := F) c usedT from tables m 2) y = usedWord m := by
  show (show S1.Idx → BitVec 32 from tables m 2) _ = (show S1.Idx → BitVec 32 from tables m 2) _
  refine congrArg (show S1.Idx → BitVec 32 from tables m 2) (funext fun a => ?_)
  obtain rfl : a = 0 := Subsingleton.elim (α := Fin 1) _ _
  exact Subsingleton.elim (α := Fin 1) _ _

/-- The two branches are opposite: the second is taken exactly where the first is not. -/
theorem cond2_iff (i : grid0.Coords) (w : BitVec 32) : k0_cond2 i w = 1#1 ↔ ¬ k0_cond1 i w = 1#1 := by
  unfold k0_cond1 k0_cond2
  simp only [Scalar.cmpi, Scalar.extui, IntOp.cmpi, BitVec.sle_eq_not_slt]
  cases BitVec.slt (BitVec.ofNat 32 ↑(i 0)) w <;> decide

/-! ## The windows' blocks -/

/-- Window `w`'s block at point `t`, read off its array at entry. -/
def block (ok : Ok m) (c : Dev nD) (w : Fin (pipe m ok).W) (t : Fin (pipe m ok).N) :
    (((pipe m ok).win w).xblock ((pipe m ok).grid.coords t)).Idx → Elt F ((pipe m ok).win w).elt :=
  (((pipe m ok).win w).blk t).view.read (Elt F) (atEntry m c (Pipeline.arrRef spec0 w))

/-- What a tile's buffer is left at: the experts' products on a tile in use, zeros on padding. -/
def left (ok : Ok m) (c : Dev nD) (t : Fin (pipe m ok).N) : Vec F S256x1024 .f32 :=
  if k0_cond1 (grid0.coords t) (usedWord m) = 1#1 then
    tileOut (block m ok c 0 t) (block m ok c 1 t) (block m ok c 2 t) (block m ok c 3 t) (block m ok c 4 t) (block m ok c 5 t) (block m ok c 6 t)
  else k0_pay2

/-- The run's data: arrays as found, inputs' buffers left at their blocks, the output's at `left`; each input holds its share
    of the array it reads, the weight matrices' arrays being read by two windows each. -/
def data (ok : Ok m) (_ : Fin 1) (c : Dev nD) : Dat τ (Elt F) Unit ℕ (UR sig nD τ) ℕ (pipe m ok) c where
  A w := atEntry m c (Pipeline.arrRef spec0 w)
  after w t := match w with
    | ⟨0, _⟩ => block m ok c 0 t
    | ⟨1, _⟩ => block m ok c 1 t
    | ⟨2, _⟩ => block m ok c 2 t
    | ⟨3, _⟩ => block m ok c 3 t
    | ⟨4, _⟩ => block m ok c 4 t
    | ⟨5, _⟩ => block m ok c 5 t
    | ⟨6, _⟩ => block m ok c 6 t
    | ⟨7, _⟩ => left m ok c t
  Φ _ := iprop(Pipeline.ΦA spec0 c ∗ Pipeline.ΦT pre0 (tables m) c)
  q w := Pipeline.shareOf spec0 w
  owed _ := 0

theorem data_A (ok : Ok m) (c : Dev nD) (w : Fin (pipe m ok).W) : (data m ok 0 c).A w = atEntry m c (Pipeline.arrRef spec0 w) := by
  dsimp only [data]

theorem after_0 (ok : Ok m) (c : Dev nD) (t : Fin (pipe m ok).N) : (data m ok 0 c).after 0 t = block m ok c 0 t := by dsimp only [data]; try rfl
theorem after_1 (ok : Ok m) (c : Dev nD) (t : Fin (pipe m ok).N) : (data m ok 0 c).after 1 t = block m ok c 1 t := by dsimp only [data]; try rfl
theorem after_2 (ok : Ok m) (c : Dev nD) (t : Fin (pipe m ok).N) : (data m ok 0 c).after 2 t = block m ok c 2 t := by dsimp only [data]; try rfl
theorem after_3 (ok : Ok m) (c : Dev nD) (t : Fin (pipe m ok).N) : (data m ok 0 c).after 3 t = block m ok c 3 t := by dsimp only [data]; try rfl
theorem after_4 (ok : Ok m) (c : Dev nD) (t : Fin (pipe m ok).N) : (data m ok 0 c).after 4 t = block m ok c 4 t := by dsimp only [data]; try rfl
theorem after_5 (ok : Ok m) (c : Dev nD) (t : Fin (pipe m ok).N) : (data m ok 0 c).after 5 t = block m ok c 5 t := by dsimp only [data]; try rfl
theorem after_6 (ok : Ok m) (c : Dev nD) (t : Fin (pipe m ok).N) : (data m ok 0 c).after 6 t = block m ok c 6 t := by dsimp only [data]; try rfl
theorem after_7 (ok : Ok m) (c : Dev nD) (t : Fin (pipe m ok).N) : (data m ok 0 c).after 7 t = left m ok c t := by dsimp only [data]; try rfl

/-! An input's buffer holds its block at every point, whether it was fetched there or stayed from the point before. -/

theorem before_0 (ok : Ok m) (c : Dev nD) (t : Fin (pipe m ok).N) (d) : (data m ok 0 c).before 0 t d = block m ok c 0 t :=
  ((data m ok 0 c).before_in_eq_fetched 0 rfl (fun _ => rfl) (fun _ _ _ => rfl)
    (fun t => by rw [after_0]; unfold Dat.blockOf block; rw [data_A]; try rfl) t d).trans
    (by unfold Dat.fetched Dat.blockOf block; rw [data_A]; try rfl)
theorem before_1 (ok : Ok m) (c : Dev nD) (t : Fin (pipe m ok).N) (d) : (data m ok 0 c).before 1 t d = block m ok c 1 t :=
  ((data m ok 0 c).before_in_eq_fetched 1 rfl (fun _ => rfl) (fun _ _ _ => rfl)
    (fun t => by rw [after_1]; unfold Dat.blockOf block; rw [data_A]; try rfl) t d).trans
    (by unfold Dat.fetched Dat.blockOf block; rw [data_A]; try rfl)
theorem before_2 (ok : Ok m) (c : Dev nD) (t : Fin (pipe m ok).N) (d) : (data m ok 0 c).before 2 t d = block m ok c 2 t :=
  ((data m ok 0 c).before_in_eq_fetched 2 rfl (fun _ => rfl) (fun _ _ _ => rfl)
    (fun t => by rw [after_2]; unfold Dat.blockOf block; rw [data_A]; try rfl) t d).trans
    (by unfold Dat.fetched Dat.blockOf block; rw [data_A]; try rfl)
theorem before_3 (ok : Ok m) (c : Dev nD) (t : Fin (pipe m ok).N) (d) : (data m ok 0 c).before 3 t d = block m ok c 3 t :=
  ((data m ok 0 c).before_in_eq_fetched 3 rfl (fun _ => rfl) (fun _ _ _ => rfl)
    (fun t => by rw [after_3]; unfold Dat.blockOf block; rw [data_A]; try rfl) t d).trans
    (by unfold Dat.fetched Dat.blockOf block; rw [data_A]; try rfl)
theorem before_4 (ok : Ok m) (c : Dev nD) (t : Fin (pipe m ok).N) (d) : (data m ok 0 c).before 4 t d = block m ok c 4 t :=
  ((data m ok 0 c).before_in_eq_fetched 4 rfl (fun _ => rfl) (fun _ _ _ => rfl)
    (fun t => by rw [after_4]; unfold Dat.blockOf block; rw [data_A]; try rfl) t d).trans
    (by unfold Dat.fetched Dat.blockOf block; rw [data_A]; try rfl)
theorem before_5 (ok : Ok m) (c : Dev nD) (t : Fin (pipe m ok).N) (d) : (data m ok 0 c).before 5 t d = block m ok c 5 t :=
  ((data m ok 0 c).before_in_eq_fetched 5 rfl (fun _ => rfl) (fun _ _ _ => rfl)
    (fun t => by rw [after_5]; unfold Dat.blockOf block; rw [data_A]; try rfl) t d).trans
    (by unfold Dat.fetched Dat.blockOf block; rw [data_A]; try rfl)
theorem before_6 (ok : Ok m) (c : Dev nD) (t : Fin (pipe m ok).N) (d) : (data m ok 0 c).before 6 t d = block m ok c 6 t :=
  ((data m ok 0 c).before_in_eq_fetched 6 rfl (fun _ => rfl) (fun _ _ _ => rfl)
    (fun t => by rw [after_6]; unfold Dat.blockOf block; rw [data_A]; try rfl) t d).trans
    (by unfold Dat.fetched Dat.blockOf block; rw [data_A]; try rfl)

/-! No window is ever idle: an input by definition, the output because one of the two branches is taken. -/

theorem live_0 (ok : Ok m) (t : Fin (pipe m ok).N) : (pipe m ok).idle 0 (grid0.coords t) = false := rfl
theorem live_1 (ok : Ok m) (t : Fin (pipe m ok).N) : (pipe m ok).idle 1 (grid0.coords t) = false := rfl
theorem live_2 (ok : Ok m) (t : Fin (pipe m ok).N) : (pipe m ok).idle 2 (grid0.coords t) = false := rfl
theorem live_3 (ok : Ok m) (t : Fin (pipe m ok).N) : (pipe m ok).idle 3 (grid0.coords t) = false := rfl
theorem live_4 (ok : Ok m) (t : Fin (pipe m ok).N) : (pipe m ok).idle 4 (grid0.coords t) = false := rfl
theorem live_5 (ok : Ok m) (t : Fin (pipe m ok).N) : (pipe m ok).idle 5 (grid0.coords t) = false := rfl
theorem live_6 (ok : Ok m) (t : Fin (pipe m ok).N) : (pipe m ok).idle 6 (grid0.coords t) = false := rfl
theorem live_7 (ok : Ok m) (t : Fin (pipe m ok).N) : (pipe m ok).idle 7 (grid0.coords t) = false := by
  show (!(k0_cond1 (grid0.coords t) ((tables m).atD 2 ![0]) == 1#1) && !(k0_cond2 (grid0.coords t) ((tables m).atD 2 ![0]) == 1#1)) = false
  generalize (tables m).atD 2 ![0] = w
  have h := cond2_iff (grid0.coords t) w
  by_cases h1 : k0_cond1 (grid0.coords t) w = 1#1
  · rw [h1]; rfl
  · rw [h.mpr h1, Bool.and_eq_false_iff]; exact .inr rfl

/-! ## The body at a grid point -/

abbrev mem_0 (ok : Ok m) (t : Fin (pipe m ok).N) : Memref sig .tc .vmem S256x1152 .f32 := spec0_0.stage ((pipe m ok).slots t 0)
abbrev whole_0 (ok : Ok m) (t : Fin (pipe m ok).N) : (mem_0 m ok t).IsWhole := hstage0_0 (((pipe m ok).slots t 0).cast nbuf0_0)
abbrev mem_1 (ok : Ok m) (t : Fin (pipe m ok).N) : Memref sig .tc .vmem S1x1024x512 .bf16 := spec0_1.stage ((pipe m ok).slots t 1)
abbrev whole_1 (ok : Ok m) (t : Fin (pipe m ok).N) : (mem_1 m ok t).IsWhole := hstage0_1 (((pipe m ok).slots t 1).cast nbuf0_1)
abbrev mem_2 (ok : Ok m) (t : Fin (pipe m ok).N) : Memref sig .tc .vmem S1x1024x512 .bf16 := spec0_2.stage ((pipe m ok).slots t 2)
abbrev whole_2 (ok : Ok m) (t : Fin (pipe m ok).N) : (mem_2 m ok t).IsWhole := hstage0_2 (((pipe m ok).slots t 2).cast nbuf0_2)
abbrev mem_3 (ok : Ok m) (t : Fin (pipe m ok).N) : Memref sig .tc .vmem S1x512x1024 .bf16 := spec0_3.stage ((pipe m ok).slots t 3)
abbrev whole_3 (ok : Ok m) (t : Fin (pipe m ok).N) : (mem_3 m ok t).IsWhole := hstage0_3 (((pipe m ok).slots t 3).cast nbuf0_3)
abbrev mem_4 (ok : Ok m) (t : Fin (pipe m ok).N) : Memref sig .tc .vmem S1x1024x512 .bf16 := spec0_4.stage ((pipe m ok).slots t 4)
abbrev whole_4 (ok : Ok m) (t : Fin (pipe m ok).N) : (mem_4 m ok t).IsWhole := hstage0_4 (((pipe m ok).slots t 4).cast nbuf0_4)
abbrev mem_5 (ok : Ok m) (t : Fin (pipe m ok).N) : Memref sig .tc .vmem S1x1024x512 .bf16 := spec0_5.stage ((pipe m ok).slots t 5)
abbrev whole_5 (ok : Ok m) (t : Fin (pipe m ok).N) : (mem_5 m ok t).IsWhole := hstage0_5 (((pipe m ok).slots t 5).cast nbuf0_5)
abbrev mem_6 (ok : Ok m) (t : Fin (pipe m ok).N) : Memref sig .tc .vmem S1x512x1024 .bf16 := spec0_6.stage ((pipe m ok).slots t 6)
abbrev whole_6 (ok : Ok m) (t : Fin (pipe m ok).N) : (mem_6 m ok t).IsWhole := hstage0_6 (((pipe m ok).slots t 6).cast nbuf0_6)
abbrev mem_7 (ok : Ok m) (t : Fin (pipe m ok).N) : Memref sig .tc .vmem S256x1024 .f32 := spec0_7.stage ((pipe m ok).slots t 7)
abbrev whole_7 (ok : Ok m) (t : Fin (pipe m ok).N) : (mem_7 m ok t).IsWhole := hstage0_7 (((pipe m ok).slots t 7).cast nbuf0_7)

/-- The body at point `t` on the staging buffers current there. -/
abbrev bodyAt (ok : Ok m) (t : Fin (pipe m ok).N) : Prog (TpuEff nD τ sig (Elt F) Λ₀ .tc) PUnit :=
  bodyOn (grid0.coords t) (mem_0 m ok t) (whole_0 m ok t) (mem_1 m ok t) (whole_1 m ok t) (mem_2 m ok t) (whole_2 m ok t) (mem_3 m ok t) (whole_3 m ok t) (mem_4 m ok t) (whole_4 m ok t) (mem_5 m ok t) (whole_5 m ok t) (mem_6 m ok t) (whole_6 m ok t) (mem_7 m ok t) (whole_7 m ok t)

def pointPre (ok : Ok m) (c : Dev nD) (t : Fin (pipe m ok).N) : sProp 𝕄 :=
  iprop((data m ok 0 c).Φ t.castSucc ∗ (data m ok 0 c).owesAt () t.castSucc
    ∗ (∃ d, owns (c : Thread nD τ) (mem_0 m ok t) fullShare ((data m ok 0 c).before 0 t d))
    ∗ (∃ d, owns (c : Thread nD τ) (mem_1 m ok t) fullShare ((data m ok 0 c).before 1 t d))
    ∗ (∃ d, owns (c : Thread nD τ) (mem_2 m ok t) fullShare ((data m ok 0 c).before 2 t d))
    ∗ (∃ d, owns (c : Thread nD τ) (mem_3 m ok t) fullShare ((data m ok 0 c).before 3 t d))
    ∗ (∃ d, owns (c : Thread nD τ) (mem_4 m ok t) fullShare ((data m ok 0 c).before 4 t d))
    ∗ (∃ d, owns (c : Thread nD τ) (mem_5 m ok t) fullShare ((data m ok 0 c).before 5 t d))
    ∗ (∃ d, owns (c : Thread nD τ) (mem_6 m ok t) fullShare ((data m ok 0 c).before 6 t d))
    ∗ (∃ d, owns (c : Thread nD τ) (mem_7 m ok t) fullShare ((data m ok 0 c).before 7 t d)))

def pointPost (ok : Ok m) (c : Dev nD) (t : Fin (pipe m ok).N) : sProp 𝕄 :=
  iprop((data m ok 0 c).Φ t.succ ∗ (data m ok 0 c).owesAt () t.succ
    ∗ (data m ok 0 c).leavesExact 0 t
    ∗ (data m ok 0 c).leavesExact 1 t
    ∗ (data m ok 0 c).leavesExact 2 t
    ∗ (data m ok 0 c).leavesExact 3 t
    ∗ (data m ok 0 c).leavesExact 4 t
    ∗ (data m ok 0 c).leavesExact 5 t
    ∗ (data m ok 0 c).leavesExact 6 t
    ∗ (data m ok 0 c).leavesExact 7 t)

theorem leaves_0 (ok : Ok m) (c : Dev nD) (t : Fin (pipe m ok).N) :
    ((data m ok 0 c).leavesExact 0 t : sProp 𝕄) = owns (c : Thread nD τ) (mem_0 m ok t) fullShare (block m ok c 0 t) := by
  rw [show (data m ok 0 c).leavesExact 0 t = owns (c : Thread nD τ) (mem_0 m ok t) fullShare ((data m ok 0 c).after 0 t) from by
    unfold Dat.leavesExact; rw [live_0 m ok t]; try rfl, after_0]
theorem leaves_1 (ok : Ok m) (c : Dev nD) (t : Fin (pipe m ok).N) :
    ((data m ok 0 c).leavesExact 1 t : sProp 𝕄) = owns (c : Thread nD τ) (mem_1 m ok t) fullShare (block m ok c 1 t) := by
  rw [show (data m ok 0 c).leavesExact 1 t = owns (c : Thread nD τ) (mem_1 m ok t) fullShare ((data m ok 0 c).after 1 t) from by
    unfold Dat.leavesExact; rw [live_1 m ok t]; try rfl, after_1]
theorem leaves_2 (ok : Ok m) (c : Dev nD) (t : Fin (pipe m ok).N) :
    ((data m ok 0 c).leavesExact 2 t : sProp 𝕄) = owns (c : Thread nD τ) (mem_2 m ok t) fullShare (block m ok c 2 t) := by
  rw [show (data m ok 0 c).leavesExact 2 t = owns (c : Thread nD τ) (mem_2 m ok t) fullShare ((data m ok 0 c).after 2 t) from by
    unfold Dat.leavesExact; rw [live_2 m ok t]; try rfl, after_2]
theorem leaves_3 (ok : Ok m) (c : Dev nD) (t : Fin (pipe m ok).N) :
    ((data m ok 0 c).leavesExact 3 t : sProp 𝕄) = owns (c : Thread nD τ) (mem_3 m ok t) fullShare (block m ok c 3 t) := by
  rw [show (data m ok 0 c).leavesExact 3 t = owns (c : Thread nD τ) (mem_3 m ok t) fullShare ((data m ok 0 c).after 3 t) from by
    unfold Dat.leavesExact; rw [live_3 m ok t]; try rfl, after_3]
theorem leaves_4 (ok : Ok m) (c : Dev nD) (t : Fin (pipe m ok).N) :
    ((data m ok 0 c).leavesExact 4 t : sProp 𝕄) = owns (c : Thread nD τ) (mem_4 m ok t) fullShare (block m ok c 4 t) := by
  rw [show (data m ok 0 c).leavesExact 4 t = owns (c : Thread nD τ) (mem_4 m ok t) fullShare ((data m ok 0 c).after 4 t) from by
    unfold Dat.leavesExact; rw [live_4 m ok t]; try rfl, after_4]
theorem leaves_5 (ok : Ok m) (c : Dev nD) (t : Fin (pipe m ok).N) :
    ((data m ok 0 c).leavesExact 5 t : sProp 𝕄) = owns (c : Thread nD τ) (mem_5 m ok t) fullShare (block m ok c 5 t) := by
  rw [show (data m ok 0 c).leavesExact 5 t = owns (c : Thread nD τ) (mem_5 m ok t) fullShare ((data m ok 0 c).after 5 t) from by
    unfold Dat.leavesExact; rw [live_5 m ok t]; try rfl, after_5]
theorem leaves_6 (ok : Ok m) (c : Dev nD) (t : Fin (pipe m ok).N) :
    ((data m ok 0 c).leavesExact 6 t : sProp 𝕄) = owns (c : Thread nD τ) (mem_6 m ok t) fullShare (block m ok c 6 t) := by
  rw [show (data m ok 0 c).leavesExact 6 t = owns (c : Thread nD τ) (mem_6 m ok t) fullShare ((data m ok 0 c).after 6 t) from by
    unfold Dat.leavesExact; rw [live_6 m ok t]; try rfl, after_6]
theorem leaves_7 (ok : Ok m) (c : Dev nD) (t : Fin (pipe m ok).N) :
    ((data m ok 0 c).leavesExact 7 t : sProp 𝕄) = owns (c : Thread nD τ) (mem_7 m ok t) fullShare (left m ok c t) := by
  rw [show (data m ok 0 c).leavesExact 7 t = owns (c : Thread nD τ) (mem_7 m ok t) fullShare ((data m ok 0 c).after 7 t) from by
    unfold Dat.leavesExact; rw [live_7 m ok t]; try rfl, after_7]

set_option maxHeartbeats 3200000 in
theorem point_sound (ok : Ok m) (c : Dev nD) (t : Fin (pipe m ok).N) :
    pointPre m ok c t ⊢ wp frame (wpE (defs₀ (F := F)) Variants.none c none) Set.univ (bodyAt m ok t) (fun _ => pointPost m ok c t) := by
  unfold pointPre pointPost
  simp only [before_0, before_1, before_2, before_3, before_4, before_5, before_6]
  rw [leaves_0, leaves_1, leaves_2, leaves_3, leaves_4, leaves_5, leaves_6, leaves_7]
  rw [show (data m ok 0 c).Φ t.succ = (data m ok 0 c).Φ t.castSucc from rfl,
    show (data m ok 0 c).owesAt () t.succ = (data m ok 0 c).owesAt () t.castSucc from rfl]
  rw [show (data m ok 0 c).Φ t.castSucc = iprop(Pipeline.ΦA spec0 c ∗ Pipeline.ΦT pre0 (tables m) c) from rfl, tables_held]
  unfold left
  by_cases h : k0_cond1 (grid0.coords t) (usedWord m) = 1#1
  · rw [if_pos h]
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_used c (grid0.coords t) _ _ _ _ _ _ _ _ _ _ _ _ _ _ _ _ (block m ok c 0 t) (block m ok c 1 t) (block m ok c 2 t) (block m ok c 3 t) (block m ok c 4 t) (block m ok c 5 t) (block m ok c 6 t) (tables m 0) (tables m 1) (tables m 2)
      (fun r y => by rw [used_read m r y c]; exact h)
      (fun r y => by rw [used_read m r y c]; exact fun e => (cond2_iff _ _).mp e h) Set.univ _)
    isplitl [H0 H1 H2 H3 H4 H5 H6 HT0 HT1 HT2]
    · unfold inputs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      isplitl [HT1]; · iexact HT1
      iexact HT2
    isplitl [H7]; · iexists _; iexact H7
    unfold inputs
    iintro ⟨⟨H0, H1, H2, H3, H4, H5, H6, HT0, HT1, HT2⟩, H7⟩
    isplitl [HΦ HT0 HT1 HT2]
    · isplitl [HΦ]; · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [if_neg h]
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_padding c (grid0.coords t) _ _ _ _ _ _ _ _ _ _ _ _ _ _ _ _ (block m ok c 0 t) (block m ok c 1 t) (block m ok c 2 t) (block m ok c 3 t) (block m ok c 4 t) (block m ok c 5 t) (block m ok c 6 t) (tables m 0) (tables m 1) (tables m 2)
      (fun r y => by rw [used_read m r y c]; exact h)
      (fun r y => by rw [used_read m r y c]; exact (cond2_iff _ _).mpr h) Set.univ _)
    isplitl [H0 H1 H2 H3 H4 H5 H6 HT0 HT1 HT2]
    · unfold inputs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HT0]; · iexact HT0
      isplitl [HT1]; · iexact HT1
      iexact HT2
    isplitl [H7]; · iexists _; iexact H7
    unfold inputs
    iintro ⟨⟨H0, H1, H2, H3, H4, H5, H6, HT0, HT1, HT2⟩, H7⟩
    isplitl [HΦ HT0 HT1 HT2]
    · isplitl [HΦ]; · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_row (ok : Ok m) (t : Fin (pipe m ok).N) :
    defs₀ (F := F) .tc (pipe m ok).body ((pipe m ok).bodyArgs t ((pipe m ok).slots t)) = bodyAt m ok t := by
  unfold defs₀; rw [Defs.onTc_tc]

theorem obligation (ok : Ok m) (c : Dev nD) : BodyObligation (data (F := F) m ok 0 c) (defs₀ (F := F)) Variants.none () Set.univ := fun t => by
  rw [bigSep_W0, bigSep_W0, body_row m ok]
  exact triple_restated (point_sound m ok c t) rfl .rfl fun _ => .rfl

/-! ## The whole run -/

set_option backward.isDefEq.respectTransparency.types false in
/-- The launch: every array at what the pipeline leaves, every other buffer as found, every counter zero. -/
theorem launched (ok : Ok m) : θ_run defs (onTc (τ := τ) (main (F := F))) (s₀ m ρ)
    (fun r => Pipeline.FramePost (Pipeline.pin pcfgs fun _ => adm m ok) (data m ok) 0 (atEntry m) r ∧ r.2.sem = fun _ => 0) :=
  Pipeline.θ_run_frameP_shared (Q' := _) pcfgs (fun _ => adm m ok) (data m ok) (0 : Fin 1) launch₀0 defs₀ Variants.none m ρ main
    (hbody := fun c => (obligation m ok c).loose) (hq := fun _ _ _ => rfl)
    (howed := fun _ _ => rfl) (V := atEntry m) (hmain := entry m Variants.none) (hA := data_A m ok) (hpf := tables_eq m) (hΦ := fun _ _ => rfl)

/-- The run with its result named: the arguments unchanged, the counters zero, the result array as written back. -/
theorem runs (ok : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ (r.2.sem = fun _ => 0)
      ∧ ∀ c : Dev nD, r.2.mem ((c.tc : Thread nD τ).loc main_v0) = (data m ok 0 c).arrAt 7 (pipe m ok).N) :=
  (θ_run defs _ _).mono (fun _ h => ⟨fun c => ⟨(h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      ((h.1 c).1 0).trans (((data m ok 0 c).arrAt_in 0 rfl _).trans (data_A m ok c 0)),
      ((h.1 c).1 4).trans (((data m ok 0 c).arrAt_in 4 rfl _).trans (data_A m ok c 4)),
      ((h.1 c).1 5).trans (((data m ok 0 c).arrAt_in 5 rfl _).trans (data_A m ok c 5)),
      ((h.1 c).1 6).trans (((data m ok 0 c).arrAt_in 6 rfl _).trans (data_A m ok c 6))⟩, h.2, fun c => (h.1 c).1 7⟩) (launched m ρ ok)

end Cert.KernelIdeal.Experts

end
-- ==== Proof.Experts.Ideal.Ok.lean ====
/-
  From the precondition to the launch's side condition: table entries below sixteen and at least one tile in use keep every
  window's block inside its array at every grid point.
-/
module

public import proofs.«01_k».proof.Proof.Experts.Ideal.Frame
public import proofs.«01_k».proof.Proof.Experts.Pre

@[expose] public section

noncomputable section

namespace Cert.KernelIdeal.Experts

open Idealize.ShloMosaic Idealize.ShloMosaic.TcCoe
open Cert.KernelIdeal.Gen

variable {F : FTy → Type} [FloatOps F]
variable (m : (ℓ : Loc nD τ sig) → Buf (Elt F) ℓ)

/-- The two expert tables and the count, as arrays of words. -/
abbrev firsts : S88.Idx → BitVec 32 := m (((0 : Dev nD) : Thread nD τ).loc main_arg0)
abbrev seconds : S88.Idx → BitVec 32 := m (((0 : Dev nD) : Thread nD τ).loc main_arg1)
abbrev count : S1.Idx → BitVec 32 := m (((0 : Dev nD) : Thread nD τ).loc main_arg2)

/-- The row tile a grid point reads: its own, or the last one in use when the point is padding. -/
def rowTile (i : grid0.Coords) : BitVec 32 := Scalar.minsi (BitVec.ofNat 32 (i 0).val) (Scalar.subi (usedWord m) 1#32)

/-- The tile's entry of an expert table. -/
def tileIx (i : grid0.Coords) : S88.Idx := fun a => ⟨(i 0).val, by revert a; exact fun a => by obtain rfl : a = 0 := Subsingleton.elim (α := Fin 1) _ _; exact (i 0).isLt⟩

theorem transform_0 (i : grid0.Coords) :
    cc0_transform_0 Facts₀.inb_S1_S1_0 Facts₀.numel1_S1 (tables m) i = ![(rowTile m i).toNat, 0] := by
  unfold cc0_transform_0 rowTile
  have : (tables m).at 2 (Rect.unit (s := S1) ![0] S1.size Facts₀.inb_S1_S1_0) Facts₀.numel1_S1 = usedWord m := by
    show (show S1.Idx → BitVec 32 from tables m 2) _ = (show S1.Idx → BitVec 32 from tables m 2) _
    refine congrArg (show S1.Idx → BitVec 32 from tables m 2) (funext fun a : Fin 1 => ?_)
    obtain rfl : a = 0 := Subsingleton.elim (α := Fin 1) _ _
    exact Subsingleton.elim (α := Fin 1) _ _
  simp only [this]; rfl

theorem entry_ix (i : grid0.Coords) (h1 : 0 < S1.numel) :
    (Rect.unit (s := S88) ![(Scalar.indexCast (BitVec.ofNat 32 (i 0).val)).toNat] S1.size (Facts₀.k0_off1_inb i)).emb
      (Shape.Idx.first h1) = tileIx i := by
  funext (a : Fin 1)
  obtain rfl : a = 0 := Subsingleton.elim (α := Fin 1) _ _
  refine Fin.ext ?_
  have h : (i 0).val < 88 := (i 0).isLt
  have hz : ((Shape.Idx.first h1 : S1.Idx) 0).val = 0 := congrArg Fin.val (Subsingleton.elim (α := Fin 1) _ (0 : Fin 1))
  show (BitVec.ofNat 32 (i 0).val).toNat + 1 * ((Shape.Idx.first h1 : S1.Idx) 0).val = (i 0).val
  rw [hz, BitVec.toNat_ofNat]; omega

theorem transform_first (i : grid0.Coords) :
    cc0_transform_1 Facts₀.k0_off1_inb Facts₀.numel1_S1 (tables m) i = ![(firsts m (tileIx i)).toNat, 0, 0] := by
  unfold cc0_transform_1
  exact congrArg (fun x => ![(firsts m x).toNat, 0, 0]) (entry_ix i _)

theorem transform_second (i : grid0.Coords) :
    cc0_transform_4 Facts₀.k0_off1_inb Facts₀.numel1_S1 (tables m) i = ![(seconds m (tileIx i)).toNat, 0, 0] := by
  unfold cc0_transform_4
  exact congrArg (fun x => ![(seconds m x).toNat, 0, 0]) (entry_ix i _)

/-- The row tile a grid point reads never lies beyond the last. -/
theorem tile_lt (i w : BitVec 32) (hi : i.toNat < 88) (hw : (1#32).sle w = true) :
    (Scalar.minsi i (Scalar.subi w 1#32)).toNat < 88 := by
  show (if i.slt (w - 1#32) then i else w - 1#32).toNat < 88
  have := w.isLt
  split
  · exact hi
  · rename_i h
    simp only [BitVec.sle_eq_decide, BitVec.slt_eq_decide, decide_eq_true_eq,
      BitVec.toInt_eq_toNat_cond, BitVec.toNat_ofNat, BitVec.toNat_sub, Nat.reducePow, Nat.reduceMod] at hw h ⊢
    omega

/-- An expert's block lies inside a stack of sixteen. -/
theorem rows_in {ix : Fin 3 → Nat} {n p q : Nat} (e : ix = ![n, 0, 0]) (h : n < 16) :
    ∀ a, (ix a + 1) * (![1, p, q] : Fin 3 → Nat) a ≤ (![16, p, q] : Fin 3 → Nat) a := by
  subst e; intro a; fin_cases a
  · show (n + 1) * 1 ≤ 16; omega
  · show (0 + 1) * p ≤ p; omega
  · show (0 + 1) * q ≤ q; omega

theorem ok_of (hf : ∀ i, (firsts m i).toNat < 16) (hs : ∀ i, (seconds m i).toNat < 16) (hu : (1#32).sle (usedWord m) = true) :
    Ok m := by
  have hg : ∀ i : grid0.Coords, (BitVec.ofNat 32 (i 0).val).toNat < 88 := fun i => by
    have : (i 0).val < 88 := (i 0).isLt
    simp only [BitVec.toNat_ofNat]; omega
  refine ⟨fun i => ⟨?_, .inl rfl⟩, fun i => ⟨?_, .inr (Affine.block_words_rows (by decide) rfl)⟩, fun i => ⟨?_, .inr (Affine.block_words_rows (by decide) rfl)⟩,
    fun i => ⟨?_, .inr (Affine.block_words_rows (by decide) rfl)⟩, fun i => ⟨?_, .inr (Affine.block_words_rows (by decide) rfl)⟩,
    fun i => ⟨?_, .inr (Affine.block_words_rows (by decide) rfl)⟩, fun i => ⟨?_, .inr (Affine.block_words_rows (by decide) rfl)⟩⟩
  · rw [transform_0]
    have h := tile_lt _ _ (hg i) hu
    intro a
    fin_cases a
    · show ((rowTile m i).toNat + 1) * 256 ≤ 22528
      unfold rowTile; omega
    · show (0 + 1) * 1152 ≤ 1152; decide
  · exact rows_in (transform_first m i) (hf _)
  · exact rows_in (transform_first m i) (hf _)
  · exact rows_in (transform_first m i) (hf _)
  · exact rows_in (transform_second m i) (hs _)
  · exact rows_in (transform_second m i) (hs _)
  · exact rows_in (transform_second m i) (hs _)

end Cert.KernelIdeal.Experts

end
-- ==== Proof.Experts.Sums.lean ====
/-
  The experts' arithmetic over the extended reals, for one row: an expert's hidden activations, its output, and the two laws the
  kernel and the reference differ by.

  The kernel scales the hidden activations by the routing weight before the last product; the reference scales the product. The
  two agree because a weight at least zero and below infinity distributes over every sum of extended reals. The kernel adds two
  experts; the reference adds sixteen, of which those no table entry names carry the weight zero.
-/
module

public import Idealize.ShloMosaic.PureOps.Ideal
public import Idealize.ShloMosaic.Lib.IdealHost

@[expose] public section

noncomputable section

namespace Cert.Experts

open Idealize.ShloMosaic

/-- A row times a matrix. -/
def rowDot (x : Fin 1024 → EReal) (W : Fin 1024 → Fin 512 → EReal) (j : Fin 512) : EReal := ∑ k, x k * W k j

/-- An expert's hidden activations: `silu` of the gate's product, times the up product. -/
def hidden (x : Fin 1024 → EReal) (G U : Fin 1024 → Fin 512 → EReal) (j : Fin 512) : EReal :=
  Ideal.div (rowDot x G j) (1 + Ideal.exp (0 - rowDot x G j)) * rowDot x U j

/-- An expert's output on a row. -/
def expert (x : Fin 1024 → EReal) (G U : Fin 1024 → Fin 512 → EReal) (D : Fin 512 → Fin 1024 → EReal) (d : Fin 1024) : EReal :=
  ∑ j, hidden x G U j * D j d

theorem exp_nonneg (x : EReal) : 0 ≤ Ideal.exp x := by
  induction x with
  | bot => exact le_refl _
  | top => exact le_top
  | coe r =>
    show (0 : EReal) ≤ ((Real.exp r : ℝ) : EReal)
    exact_mod_cast (Real.exp_pos r).le

/-- The denominator of the sigmoid is never zero. -/
theorem one_add_exp_ne (x : EReal) : 1 + Ideal.exp x ≠ 0 := by
  have h : (0 : EReal) < 1 + Ideal.exp x := lt_of_lt_of_le zero_lt_one (le_add_of_nonneg_right (exp_nonneg x))
  exact h.ne'

/-- The gate times its sigmoid, as one quotient. -/
theorem mul_sigmoid (g : EReal) : g * Ideal.div 1 (1 + Ideal.exp (-g)) = Ideal.div g (1 + Ideal.exp (0 - g)) := by
  rw [zero_sub, Ideal.mul_one_div (one_add_exp_ne _)]

/-- A finite weight at least zero distributes over a sum. -/
theorem mul_sum_of_finite {ι : Type} (s : Finset ι) (w : EReal) (h0 : 0 ≤ w) (ht : w ≠ ⊤) (f : ι → EReal) :
    w * ∑ j ∈ s, f j = ∑ j ∈ s, w * f j := by
  classical
  induction s using Finset.induction_on with
  | empty => simp
  | insert a s ha ih => rw [Finset.sum_insert ha, Finset.sum_insert ha, EReal.left_distrib_of_nonneg_of_ne_top h0 ht, ih]

/-- Scaling the hidden activations scales the output. -/
theorem weighted (h D : Fin 512 → EReal) (w : EReal) (h0 : 0 ≤ w) (ht : w ≠ ⊤) :
    ∑ j, h j * w * D j = w * ∑ j, h j * D j := by
  rw [mul_sum_of_finite _ w h0 ht]
  exact Finset.sum_congr rfl fun j _ => by rw [mul_comm (h j) w, mul_assoc]

/-- The sum over all experts of an output times the weight its own number carries is the two weighted outputs. -/
theorem select_sum (a b : Fin 16) (wa wb : EReal) (ha : 0 ≤ wa) (hb : 0 ≤ wb) (E : Fin 16 → EReal) :
    ∑ e, ((if a = e then wa else 0) + (if b = e then wb else 0)) * E e = wa * E a + wb * E b := by
  have h : ∀ e, ((if a = e then wa else 0) + (if b = e then wb else 0)) * E e
      = (if a = e then wa * E e else 0) + (if b = e then wb * E e else 0) := fun e => by
    rw [EReal.right_distrib_of_nonneg (by split <;> simp [*]) (by split <;> simp [*])]
    congr 1 <;> split <;> simp
  rw [Finset.sum_congr rfl fun e _ => h e, Finset.sum_add_distrib, Finset.sum_ite_eq, Finset.sum_ite_eq]
  simp

/-! ## The call's result -/

/-- The tile a row lies in. -/
def tileRow (r : Fin 22528) : Fin 88 := ⟨r.val / 256, by have := r.isLt; omega⟩

/-- The expert a table entry names. -/
def named (A : Fin 88 → BitVec 32) (t : Fin 88) : Fin 16 := ⟨(A t).toNat % 16, Nat.mod_lt _ (by decide)⟩

/-- The result at row `r`, column `d`: on a tile in use the two named experts' outputs on the row's features, each times its
    weight, which the row carries behind its features; on padding zero. -/
def output (A B : Fin 88 → BitVec 32) (n : BitVec 32) (X : Fin 22528 → Fin 1152 → EReal)
    (G U : Fin 16 → Fin 1024 → Fin 512 → EReal) (D : Fin 16 → Fin 512 → Fin 1024 → EReal) (r : Fin 22528) (d : Fin 1024) : EReal :=
  if (BitVec.ofNat 32 (tileRow r).val).slt n = true then
    X r 1024 * expert (fun k => X r (k.castLE (by decide))) (G (named A (tileRow r))) (U (named A (tileRow r))) (D (named A (tileRow r))) d
      + X r 1025 * expert (fun k => X r (k.castLE (by decide))) (G (named B (tileRow r))) (U (named B (tileRow r))) (D (named B (tileRow r))) d
  else 0

end Cert.Experts

end
-- ==== Proof.Experts.Ideal.Tile.lean ====
/-
  What the kernel leaves in a tile in use, element by element over the extended reals: the two experts' outputs on the row, each
  with its hidden activations scaled by the row's routing weight.
-/
module

public import proofs.«01_k».proof.Proof.Experts.Ideal.Run
public import proofs.«01_k».proof.Proof.Experts.Sums
public import Idealize.ShloMosaic.Lib.ValueIdx
public import Idealize.ShloMosaic.Lib.ValueIdxCoords

@[expose] public section

noncomputable section

namespace Cert.KernelIdeal.Experts

open Idealize.ShloMosaic Idealize.ShloMosaic.TcCoe Idealize.ShloMosaic.ValueIdx
open Cert.KernelIdeal.Gen Cert.Experts

/-- A gate or up matrix as a function of its two coordinates. -/
abbrev mat (g : Vec Ideal S1x1024x512 .bf16) : Fin 1024 → Fin 512 → EReal := fun k j => g (ix3 0 k j)
/-- A down matrix as a function of its two coordinates. -/
abbrev matD (g : Vec Ideal S1x512x1024 .bf16) : Fin 512 → Fin 1024 → EReal := fun j d => g (ix3 0 j d)
/-- A row of features. -/
abbrev rowOf (x : Vec Ideal S256x1024 .f32) (r : Fin 256) : Fin 1024 → EReal := fun k => x (ix2 r k)

theorem cast_mat (g : Vec Ideal S1x1024x512 .bf16) (k : Fin 1024) (j : Fin 512) :
    (shapeCast S1024x512 g Facts₀.shapeCasts_S1x1024x512_S1024x512) (ix2 k j) = mat g k j := by
  rw [shapeCast_dropUnit_apply (n := 2) ![1024, 512]]
  refine congrArg g (funext fun a => ?_)
  match a with
  | ⟨0, _⟩ => rfl
  | ⟨1, _⟩ => rfl
  | ⟨2, _⟩ => rfl

theorem cast_matD (g : Vec Ideal S1x512x1024 .bf16) (k : Fin 512) (j : Fin 1024) :
    (shapeCast S512x1024 g Facts₀.shapeCasts_S1x512x1024_S512x1024) (ix2 k j) = matD g k j := by
  rw [shapeCast_dropUnit_apply (n := 2) ![512, 1024]]
  refine congrArg g (funext fun a => ?_)
  match a with
  | ⟨0, _⟩ => rfl
  | ⟨1, _⟩ => rfl
  | ⟨2, _⟩ => rfl

/-- A routing weight spread over the hidden axis. -/
theorem weight_a (l : Vec Ideal S256x128 .f32) (r : Fin 256) (j : Fin 512) :
    broadcastTo S256x512 (extractStridedSlice S256x1 ![0, 0] l Facts₀.slices_S256x128_o0_0_S256x1) Facts₀.broadcasts_S256x1_S256x512 (ix2 r j)
      = l (ix2 r 0) := by
  rw [broadcastTo_apply _ _ _ (ix2 r 0) (fun a => by match a with | ⟨0, _⟩ => rfl | ⟨1, _⟩ => rfl),
    extractStridedSlice_apply _ _ _ _ (ix2 r 0) (fun a => by match a with | ⟨0, _⟩ => exact (Nat.zero_add _).symm | ⟨1, _⟩ => rfl)]

theorem weight_b (l : Vec Ideal S256x128 .f32) (r : Fin 256) (j : Fin 512) :
    broadcastTo S256x512 (extractStridedSlice S256x1 ![0, 1] l Facts₀.slices_S256x128_o0_1_S256x1) Facts₀.broadcasts_S256x1_S256x512 (ix2 r j)
      = l (ix2 r 1) := by
  rw [broadcastTo_apply _ _ _ (ix2 r 0) (fun a => by match a with | ⟨0, _⟩ => rfl | ⟨1, _⟩ => rfl),
    extractStridedSlice_apply _ _ _ _ (ix2 r 1) (fun a => by match a with | ⟨0, _⟩ => exact (Nat.zero_add _).symm | ⟨1, _⟩ => rfl)]

/-- The product of a tile's rows with a gate or up matrix. -/
theorem product_in (x : FVec Ideal S256x1024 .bf16) (g : FVec Ideal S1024x512 .bf16) (r : Fin 256) (j : Fin 512) :
    matmul dot_S256x1024_S1024x512_S256x512_1_0_0_1_n_n none x g (constant S256x512 .f32 0x00000000#32) (ix2 r j)
      = ∑ k : Fin 1024, x (ix2 r k) * g (ix2 k j) := by
  simp only [matmul]
  rw [Ideal.matmul_constant_zero_apply, ← Equiv.sum_comp (contrEquiv1 dot_S256x1024_S1024x512_S256x512_1_0_0_1_n_n 1024 rfl rfl).symm]
  refine Finset.sum_congr rfl fun k _ => ?_
  have hk := contrEquiv1_symm_val dot_S256x1024_S1024x512_S256x512_1_0_0_1_n_n 1024 rfl rfl k
  congr 2
  · funext a; match a with
    | ⟨0, _⟩ => exact Fin.ext (by simp [DotDims.lhsIdx, dot_S256x1024_S1024x512_S256x512_1_0_0_1_n_n]; rfl)
    | ⟨1, _⟩ => exact Fin.ext (Eq.trans (by simp [DotDims.lhsIdx, dot_S256x1024_S1024x512_S256x512_1_0_0_1_n_n]; rfl) hk)
  · funext a; match a with
    | ⟨0, _⟩ => exact Fin.ext (Eq.trans (by simp [DotDims.rhsIdx, dot_S256x1024_S1024x512_S256x512_1_0_0_1_n_n]; rfl) hk)
    | ⟨1, _⟩ => exact Fin.ext (by simp [DotDims.rhsIdx, dot_S256x1024_S1024x512_S256x512_1_0_0_1_n_n]; rfl)

/-- The product of a tile's activations with a down matrix. -/
theorem product_out (x : FVec Ideal S256x512 .bf16) (g : FVec Ideal S512x1024 .bf16) (r : Fin 256) (d : Fin 1024) :
    matmul dot_S256x512_S512x1024_S256x1024_1_0_0_1_n_n none x g (constant S256x1024 .f32 0x00000000#32) (ix2 r d)
      = ∑ k : Fin 512, x (ix2 r k) * g (ix2 k d) := by
  simp only [matmul]
  rw [Ideal.matmul_constant_zero_apply, ← Equiv.sum_comp (contrEquiv1 dot_S256x512_S512x1024_S256x1024_1_0_0_1_n_n 512 rfl rfl).symm]
  refine Finset.sum_congr rfl fun k _ => ?_
  have hk := contrEquiv1_symm_val dot_S256x512_S512x1024_S256x1024_1_0_0_1_n_n 512 rfl rfl k
  congr 2
  · funext a; match a with
    | ⟨0, _⟩ => exact Fin.ext (by simp [DotDims.lhsIdx, dot_S256x512_S512x1024_S256x1024_1_0_0_1_n_n]; rfl)
    | ⟨1, _⟩ => exact Fin.ext (Eq.trans (by simp [DotDims.lhsIdx, dot_S256x512_S512x1024_S256x1024_1_0_0_1_n_n]; rfl) hk)
  · funext a; match a with
    | ⟨0, _⟩ => exact Fin.ext (Eq.trans (by simp [DotDims.rhsIdx, dot_S256x512_S512x1024_S256x1024_1_0_0_1_n_n]; rfl) hk)
    | ⟨1, _⟩ => exact Fin.ext (by simp [DotDims.rhsIdx, dot_S256x512_S512x1024_S256x1024_1_0_0_1_n_n]; rfl)

/-- The gate's product on a tile. -/
theorem pay5_apply (x : Vec Ideal S256x1024 .f32) (g : Vec Ideal S1x1024x512 .bf16) (r : Fin 256) (j : Fin 512) :
    k0_pay5 x g (ix2 r j) = rowDot (rowOf x r) (mat g) j := by
  unfold k0_pay5 rowDot
  refine (product_in _ _ r j).trans (Finset.sum_congr rfl fun k _ => ?_)
  rw [cast_mat]; rfl

/-- The up product on a tile. -/
theorem pay6_apply (x : Vec Ideal S256x1024 .f32) (g : Vec Ideal S1x1024x512 .bf16) (r : Fin 256) (j : Fin 512) :
    k0_pay6 x g (ix2 r j) = rowDot (rowOf x r) (mat g) j := pay5_apply x g r j

theorem pay7_apply (x : Vec Ideal S256x1024 .f32) (g : Vec Ideal S1x1024x512 .bf16) (r : Fin 256) (j : Fin 512) :
    k0_pay7 x g (ix2 r j) = Ideal.exp (0 - rowDot (rowOf x r) (mat g) j) := by
  have : k0_pay7 x g (ix2 r j) = Ideal.exp (Ideal.ofBits .f32 0x00000000#32 - k0_pay5 x g (ix2 r j)) := rfl
  rw [this, pay5_apply, Ideal.ofBits_zero_f32]

/-- The first expert's share of a tile. -/
theorem pay4_apply (x : Vec Ideal S256x1024 .f32) (l : Vec Ideal S256x128 .f32) (ga ua : Vec Ideal S1x1024x512 .bf16)
    (da : Vec Ideal S1x512x1024 .bf16) (r : Fin 256) (d : Fin 1024) :
    k0_pay4 x l ga ua da (ix2 r d)
      = ∑ j, hidden (rowOf x r) (mat ga) (mat ua) j * l (ix2 r 0) * matD da j d := by
  refine (product_out _ _ r d).trans (Finset.sum_congr rfl fun j _ => ?_)
  rw [cast_matD]
  refine congrArg (· * matD da j d) ?_
  refine congrArg₂ (fun u v : EReal => u * v) ?_ (weight_a l r j)
  have : ∀ (g u : EReal), g = rowDot (rowOf x r) (mat ga) j → u = rowDot (rowOf x r) (mat ua) j →
      Ideal.div g (Ideal.ofBits .f32 0x3F800000#32 + Ideal.exp (Ideal.ofBits .f32 0x00000000#32 - g)) * u
        = hidden (rowOf x r) (mat ga) (mat ua) j := by
    rintro g u rfl rfl
    rw [Ideal.ofBits_one_f32, Ideal.ofBits_zero_f32]; rfl
  exact this _ _ (pay5_apply x ga r j) (pay6_apply x ua r j)

/-- A tile in use, element by element. -/
theorem tileOut_apply (x : Vec Ideal S256x1152 .f32) (ga ua : Vec Ideal S1x1024x512 .bf16) (da : Vec Ideal S1x512x1024 .bf16)
    (gb ub : Vec Ideal S1x1024x512 .bf16) (db : Vec Ideal S1x512x1024 .bf16) (r : Fin 256) (d : Fin 1024) :
    tileOut x ga ua da gb ub db (ix2 r d)
      = (∑ j, hidden (rowOf (feats x) r) (mat ga) (mat ua) j * lanes x (ix2 r 0) * matD da j d)
        + ∑ j, hidden (rowOf (feats x) r) (mat gb) (mat ub) j * lanes x (ix2 r 1) * matD db j d := by
  refine congrArg₂ (fun u v : EReal => u + v) (pay4_apply _ _ _ _ _ r d) ?_
  refine (product_out _ _ r d).trans (Finset.sum_congr rfl fun j _ => ?_)
  rw [cast_matD]
  refine congrArg (· * matD db j d) ?_
  refine congrArg₂ (fun u v : EReal => u * v) ?_ (weight_b _ r j)
  have : ∀ (g u e : EReal), g = rowDot (rowOf (feats x) r) (mat gb) j → u = rowDot (rowOf (feats x) r) (mat ub) j →
      e = Ideal.exp (0 - rowDot (rowOf (feats x) r) (mat gb) j) →
      Ideal.div g (Ideal.ofBits .f32 0x3F800000#32 + e) * u = hidden (rowOf (feats x) r) (mat gb) (mat ub) j := by
    rintro g u e rfl rfl rfl
    rw [Ideal.ofBits_one_f32]; rfl
  exact this _ _ _ (pay5_apply _ gb r j) (pay6_apply _ ub r j) (pay7_apply _ gb r j)

/-- The features and weights of a tile's row, from the staged rows. -/
theorem feats_apply (x : Vec Ideal S256x1152 .f32) (r : Fin 256) (k : Fin 1024) :
    feats x (ix2 r k) = x (ix2 r ⟨k.val, by omega⟩) := by
  unfold feats
  refine congrArg x (funext fun a => Fin.ext ?_)
  match a with
  | ⟨0, _⟩ => show 0 + 1 * r.val = r.val; omega
  | ⟨1, _⟩ => show 0 + 1 * k.val = k.val; omega

theorem lanes_apply (x : Vec Ideal S256x1152 .f32) (r : Fin 256) (k : Fin 128) :
    lanes x (ix2 r k) = x (ix2 r ⟨1024 + k.val, by omega⟩) := by
  unfold lanes
  refine congrArg x (funext fun a => Fin.ext ?_)
  match a with
  | ⟨0, _⟩ => show 0 + 1 * r.val = r.val; omega
  | ⟨1, _⟩ => show 1024 + 1 * k.val = 1024 + k.val; omega

end Cert.KernelIdeal.Experts

end
-- ==== Proof.Experts.Ideal.Result.lean ====
/-
  The experts' result array, element by element over the extended reals: on a row of a tile in use, the two experts its tile's
  table entries name, each scaled by the row's weight; on padding, zero.
-/
module

public import proofs.«01_k».proof.Proof.Experts.Ideal.Ok
public import proofs.«01_k».proof.Proof.Experts.Ideal.Tile
public import Idealize.ShloMosaic.Lib.Pipeline.ValueKit

@[expose] public section

noncomputable section

namespace Cert.KernelIdeal.Experts

open Idealize.ShloMosaic hiding ix1 ix2 ix3
open Idealize.ShloMosaic.TcCoe Idealize.ShloMosaic.ValueIdx
open Idealize.ShloMosaic.Pipeline (Dat Cfg Window)
open Cert.KernelIdeal.Gen Cert.Experts

section Blocks
variable {F : FTy → Type} [FloatOps F]
variable (m : (ℓ : Loc nD τ sig) → Buf (Elt F) ℓ) (ok : Ok m) (c : Dev nD)

/-- The argument arrays by name. -/
abbrev rowsA : Vec F S22528x1152 .f32 := m ((c : Thread nD τ).loc main_arg3)
abbrev gateA : Vec F S16x1024x512 .bf16 := m ((c : Thread nD τ).loc main_arg4)
abbrev upA : Vec F S16x1024x512 .bf16 := m ((c : Thread nD τ).loc main_arg5)
abbrev downA : Vec F S16x512x1024 .bf16 := m ((c : Thread nD τ).loc main_arg6)

theorem block_rows (t : Fin (pipe m ok).N) (y : S256x1152.Idx) (i : S22528x1152.Idx)
    (h0 : (i 0).val = (rowTile m (grid0.coords t)).toNat * 256 + (y 0).val) (h1 : (i 1).val = (y 1).val) :
    block m ok c 0 t y = rowsA m c i := by
  have e : ((pipe m ok).win 0).index t = ![(rowTile m (grid0.coords t)).toNat, 0] := transform_0 m _
  refine congrArg (rowsA m c) (funext fun a => Fin.ext ?_)
  refine (Window.rect_emb_val ((pipe m ok).win 0) t y a).trans ?_
  rw [e]
  match a with
  | ⟨0, _⟩ => exact h0.symm
  | ⟨1, _⟩ => exact (Nat.zero_add _).trans h1.symm

/-- A member of a stack of sixteen, read through the block a table entry places. -/
theorem member_val {n p q : ℕ} (ix : Fin 3 → ℕ) (e : ix = ![n, 0, 0]) (hn : n < 16) (y : (⟨3, ![1, p, q]⟩ : Shape).Idx) (a : Fin 3) :
    ix a * (![1, p, q] : Fin 3 → ℕ) a + (y a).val = (ix3 (⟨n, hn⟩ : Fin 16) (y 1) (y 2) a).val := by
  subst e
  match a with
  | ⟨0, _⟩ =>
    have : (y 0).val < 1 := (y 0).isLt
    show n * 1 + (y 0).val = n
    omega
  | ⟨1, _⟩ => show 0 * p + (y 1).val = (y 1).val; omega
  | ⟨2, _⟩ => show 0 * q + (y 2).val = (y 2).val; omega

variable (t : Fin (pipe m ok).N)
theorem block_gate_a (h : (firsts m (tileIx (grid0.coords t))).toNat < 16) (y : S1x1024x512.Idx) :
    block m ok c 1 t y = gateA m c (ix3 ⟨_, h⟩ (y 1) (y 2)) :=
  congrArg (gateA m c) (funext fun a => Fin.ext ((Window.rect_emb_val ((pipe m ok).win 1) t y a).trans
    (member_val _ (transform_first m (grid0.coords t)) h y a)))
theorem block_up_a (h : (firsts m (tileIx (grid0.coords t))).toNat < 16) (y : S1x1024x512.Idx) :
    block m ok c 2 t y = upA m c (ix3 ⟨_, h⟩ (y 1) (y 2)) :=
  congrArg (upA m c) (funext fun a => Fin.ext ((Window.rect_emb_val ((pipe m ok).win 2) t y a).trans
    (member_val _ (transform_first m (grid0.coords t)) h y a)))
theorem block_down_a (h : (firsts m (tileIx (grid0.coords t))).toNat < 16) (y : S1x512x1024.Idx) :
    block m ok c 3 t y = downA m c (ix3 ⟨_, h⟩ (y 1) (y 2)) :=
  congrArg (downA m c) (funext fun a => Fin.ext ((Window.rect_emb_val ((pipe m ok).win 3) t y a).trans
    (member_val _ (transform_first m (grid0.coords t)) h y a)))
theorem block_gate_b (h : (seconds m (tileIx (grid0.coords t))).toNat < 16) (y : S1x1024x512.Idx) :
    block m ok c 4 t y = gateA m c (ix3 ⟨_, h⟩ (y 1) (y 2)) :=
  congrArg (gateA m c) (funext fun a => Fin.ext ((Window.rect_emb_val ((pipe m ok).win 4) t y a).trans
    (member_val _ (transform_second m (grid0.coords t)) h y a)))
theorem block_up_b (h : (seconds m (tileIx (grid0.coords t))).toNat < 16) (y : S1x1024x512.Idx) :
    block m ok c 5 t y = upA m c (ix3 ⟨_, h⟩ (y 1) (y 2)) :=
  congrArg (upA m c) (funext fun a => Fin.ext ((Window.rect_emb_val ((pipe m ok).win 5) t y a).trans
    (member_val _ (transform_second m (grid0.coords t)) h y a)))
theorem block_down_b (h : (seconds m (tileIx (grid0.coords t))).toNat < 16) (y : S1x512x1024.Idx) :
    block m ok c 6 t y = downA m c (ix3 ⟨_, h⟩ (y 1) (y 2)) :=
  congrArg (downA m c) (funext fun a => Fin.ext ((Window.rect_emb_val ((pipe m ok).win 6) t y a).trans
    (member_val _ (transform_second m (grid0.coords t)) h y a)))

/-! ## The array from its tiles -/

/-- Every tile of the result is written back at its own point. -/
theorem written : ((pipe m ok).win 7).flush t = true := by
  have h : ∀ t : Fin grid0.N, Window.flushOf grid0 true cc0_transform_7 t = true := fun t =>
    (Window.flushOf_reads cc0_transform_7 reads0_7 hreads0_7 0 (by decide) (by decide)
      (Window.sep_of_coord cc0_transform_7 0 0 (fun _ => rfl) (by decide)) (P := 1) (m := 0) (by decide) rfl t).mpr (Nat.mod_one _)
  exact h t

theorem point_coord : (grid0.coords t 0).val = t.val := by
  have h : t.val < 88 := t.isLt
  rw [Pipeline.Grid.coords_val (G := grid0) t 0 (S := 1) (B := 88) (by decide) rfl]; omega

/-- The tile of a row. -/
def tileOf (i : S22528x1024.Idx) : Fin (pipe m ok).N := ⟨(i 0).val / 256, by
  have : (i 0).val < 22528 := (i 0).isLt
  show (i 0).val / 256 < 88; omega⟩

/-- Where a row lies in its tile. -/
def inTile (i : S22528x1024.Idx) : S256x1024.Idx := ix2 ⟨(i 0).val % 256, Nat.mod_lt _ (by decide)⟩ (i 1)

theorem index_7 : ((pipe m ok).win 7).index t = ![t.val, 0] := by
  show cc0_transform_7 (grid0.coords t) = _
  unfold cc0_transform_7
  have h : t.val < 88 := t.isLt
  have : (BitVec.ofNat 32 (grid0.coords t 0).val).toNat = t.val := by rw [point_coord m ok t, BitVec.toNat_ofNat]; omega
  simp only [this]; rfl

theorem left_at (y : S256x1024.Idx) (i : S22528x1024.Idx) (h0 : (i 0).val = t.val * 256 + (y 0).val)
    (h1 : (i 1).val = (y 1).val) : left m ok c t y = left m ok c (tileOf m ok i) (inTile i) := by
  have hy : (y 0).val < 256 := (y 0).isLt
  have et : tileOf m ok i = t := Fin.ext (by show (i 0).val / 256 = t.val; omega)
  have ey : inTile i = y := funext fun a => Fin.ext (by
    match a with
    | ⟨0, _⟩ => show (i 0).val % 256 = (y 0).val; omega
    | ⟨1, _⟩ => exact h1)
  rw [et, ey]

theorem in_tile (i : S22528x1024.Idx) (a : Fin 2) :
    (![(i 0).val / 256, 0] : Fin 2 → ℕ) a * (![256, 1024] : Fin 2 → ℕ) a ≤ (i a).val
      ∧ (i a).val < (![(i 0).val / 256, 0] : Fin 2 → ℕ) a * (![256, 1024] : Fin 2 → ℕ) a + (![256, 1024] : Fin 2 → ℕ) a := by
  have h0 : (i 0).val < 22528 := (i 0).isLt
  have h1 : (i 1).val < 1024 := (i 1).isLt
  match a with
  | ⟨0, _⟩ =>
    show (i 0).val / 256 * 256 ≤ (i 0).val ∧ (i 0).val < (i 0).val / 256 * 256 + 256
    omega
  | ⟨1, _⟩ =>
    show 0 * 1024 ≤ (i 1).val ∧ (i 1).val < 0 * 1024 + 1024
    omega

/-- The result array at an element is what its tile's point left there. -/
theorem result_eq (i : S22528x1024.Idx) :
    (data m ok 0 c).arrAt 7 (pipe m ok).N i = left m ok c (tileOf m ok i) (inTile i) := by
  refine (data m ok 0 c).arrAt_forall_of_cover 7
    (fun (i : S22528x1024.Idx) v => v = left m ok c (tileOf m ok i) (inTile i)) (fun t _ y => ?_) (fun i => ⟨tileOf m ok i, written m ok _, ?_⟩) i
  · have e0 := Window.rect_emb_val ((pipe m ok).win 7) t y (0 : Fin 2)
    have e1 := Window.rect_emb_val ((pipe m ok).win 7) t y (1 : Fin 2)
    rw [index_7] at e0 e1
    exact left_at m ok c t y _ e0 (e1.trans (Nat.zero_add _))
  · refine ((pipe m ok).win 7).emb_mem_blk_iff _ i |>.mpr fun a => ?_
    rw [index_7]
    exact in_tile i a

theorem live_iff : k0_cond1 (grid0.coords t) (usedWord m) = 1#1 ↔ (BitVec.ofNat 32 t.val).slt (usedWord m) = true := by
  unfold k0_cond1
  rw [point_coord m ok t]
  simp only [Scalar.cmpi, Scalar.extui, IntOp.cmpi]
  cases BitVec.slt (BitVec.ofNat 32 t.val) (usedWord m) <;> decide

end Blocks

/-- The smaller of a number below a bound and the bound less one is the number. -/
theorem min_of_slt (x n : BitVec 32) (h : x.slt n = true) : Scalar.minsi x (Scalar.subi n 1#32) = x := by
  show (if x.slt (n - 1#32) then x else n - 1#32) = x
  split
  · rfl
  · rename_i h2
    apply BitVec.eq_of_toNat_eq
    simp only [BitVec.slt_eq_decide, decide_eq_true_eq, BitVec.toInt_eq_toNat_cond, BitVec.toNat_sub, BitVec.toNat_ofNat,
      Nat.reducePow, Nat.reduceMod] at h h2 ⊢
    have := x.isLt
    have := n.isLt
    omega

section Value
variable (m : (ℓ : Loc nD τ sig) → Buf (Elt Ideal) ℓ) (ok : Ok m) (c : Dev nD)

/-- The result array over the extended reals. -/
theorem result_apply (hf : ∀ i, (firsts m i).toNat < 16) (hs : ∀ i, (seconds m i).toNat < 16)
    (h0 : ∀ r (k : Fin 2), 0 ≤ rowsA m c (ix2 r ⟨1024 + k.val, by omega⟩)) (ht : ∀ r (k : Fin 2), rowsA m c (ix2 r ⟨1024 + k.val, by omega⟩) ≠ (⊤ : EReal))
    (r : Fin 22528) (d : Fin 1024) :
    (data m ok 0 c).arrAt 7 (pipe m ok).N (ix2 r d : S22528x1024.Idx)
      = output (fun t => firsts m (ix1 t)) (fun t => seconds m (ix1 t)) (usedWord m) (fun r k => rowsA m c (ix2 r k))
          (fun e k j => gateA m c (ix3 e k j)) (fun e k j => upA m c (ix3 e k j)) (fun e j d => downA m c (ix3 e j d)) r d := by
  rw [result_eq]
  have er : (tileOf m ok (ix2 r d)).val = r.val / 256 := rfl
  have hc := point_coord m ok (tileOf m ok (ix2 r d))
  have hix : tileIx (grid0.coords (tileOf m ok (ix2 r d))) = ix1 (tileRow r) := by
    funext (a : Fin 1)
    obtain rfl : a = 0 := Subsingleton.elim (α := Fin 1) _ _
    exact Fin.ext hc
  unfold output
  by_cases h : (BitVec.ofNat 32 (tileRow r).val).slt (usedWord m) = true
  · rw [if_pos h]
    refine (congrFun (if_pos ((live_iff m ok _).mpr h)) _).trans ?_
    have hrow : (rowTile m (grid0.coords (tileOf m ok (ix2 r d)))).toNat = r.val / 256 := by
      unfold rowTile
      rw [hc, er, min_of_slt _ _ (show (BitVec.ofNat 32 (r.val / 256)).slt (usedWord m) = true from h), BitVec.toNat_ofNat]
      have := r.isLt
      omega
    have hx : ∀ k : Fin 1152, block m ok c 0 (tileOf m ok (ix2 r d)) (ix2 ⟨r.val % 256, Nat.mod_lt _ (by decide)⟩ k) = rowsA m c (ix2 r k) := fun k => by
      refine block_rows m ok c _ _ _ ?_ rfl
      rw [hrow]
      show r.val = r.val / 256 * 256 + r.val % 256
      omega
    have ha : ⟨_, hf (tileIx (grid0.coords (tileOf m ok (ix2 r d))))⟩ = named (fun t => firsts m (ix1 t)) (tileRow r) := Fin.ext (by
      show (firsts m _).toNat = (firsts m _).toNat % 16
      rw [hix, Nat.mod_eq_of_lt (hf _)])
    have hb : ⟨_, hs (tileIx (grid0.coords (tileOf m ok (ix2 r d))))⟩ = named (fun t => seconds m (ix1 t)) (tileRow r) := Fin.ext (by
      show (seconds m _).toNat = (seconds m _).toNat % 16
      rw [hix, Nat.mod_eq_of_lt (hs _)])
    have e1 : mat (block m ok c 1 (tileOf m ok (ix2 r d))) = fun k j => gateA m c (ix3 (named (fun t => firsts m (ix1 t)) (tileRow r)) k j) := by
      funext k j; exact (block_gate_a m ok c _ (hf _) (ix3 0 k j)).trans (congrArg (fun e => gateA m c (ix3 e k j)) ha)
    have e2 : mat (block m ok c 2 (tileOf m ok (ix2 r d))) = fun k j => upA m c (ix3 (named (fun t => firsts m (ix1 t)) (tileRow r)) k j) := by
      funext k j; exact (block_up_a m ok c _ (hf _) (ix3 0 k j)).trans (congrArg (fun e => upA m c (ix3 e k j)) ha)
    have e3 : matD (block m ok c 3 (tileOf m ok (ix2 r d))) = fun k j => downA m c (ix3 (named (fun t => firsts m (ix1 t)) (tileRow r)) k j) := by
      funext k j; exact (block_down_a m ok c _ (hf _) (ix3 0 k j)).trans (congrArg (fun e => downA m c (ix3 e k j)) ha)
    have e4 : mat (block m ok c 4 (tileOf m ok (ix2 r d))) = fun k j => gateA m c (ix3 (named (fun t => seconds m (ix1 t)) (tileRow r)) k j) := by
      funext k j; exact (block_gate_b m ok c _ (hs _) (ix3 0 k j)).trans (congrArg (fun e => gateA m c (ix3 e k j)) hb)
    have e5 : mat (block m ok c 5 (tileOf m ok (ix2 r d))) = fun k j => upA m c (ix3 (named (fun t => seconds m (ix1 t)) (tileRow r)) k j) := by
      funext k j; exact (block_up_b m ok c _ (hs _) (ix3 0 k j)).trans (congrArg (fun e => upA m c (ix3 e k j)) hb)
    have e6 : matD (block m ok c 6 (tileOf m ok (ix2 r d))) = fun k j => downA m c (ix3 (named (fun t => seconds m (ix1 t)) (tileRow r)) k j) := by
      funext k j; exact (block_down_b m ok c _ (hs _) (ix3 0 k j)).trans (congrArg (fun e => downA m c (ix3 e k j)) hb)
    have ef : rowOf (feats (block m ok c 0 (tileOf m ok (ix2 r d)))) ⟨r.val % 256, Nat.mod_lt _ (by decide)⟩
        = fun k : Fin 1024 => rowsA m c (ix2 r (k.castLE (by decide))) := by
      funext k
      exact (feats_apply _ _ k).trans (hx _)
    have wa : lanes (block m ok c 0 (tileOf m ok (ix2 r d))) (ix2 ⟨r.val % 256, Nat.mod_lt _ (by decide)⟩ 0) = rowsA m c (ix2 r 1024) :=
      (lanes_apply _ _ _).trans (hx _)
    have wb : lanes (block m ok c 0 (tileOf m ok (ix2 r d))) (ix2 ⟨r.val % 256, Nat.mod_lt _ (by decide)⟩ 1) = rowsA m c (ix2 r 1025) :=
      (lanes_apply _ _ _).trans (hx _)
    refine (tileOut_apply _ _ _ _ _ _ _ _ _).trans ?_
    rw [e1, e2, e3, e4, e5, e6, ef, wa, wb]
    exact congrArg₂ (· + ·) (weighted _ _ _ (h0 r 0) (ht r 0)) (weighted _ _ _ (h0 r 1) (ht r 1))
  · rw [if_neg h]
    refine (congrFun (if_neg fun e => h ((live_iff m ok _).mp e)) _).trans ?_
    exact Ideal.ofBits_zero_f32

end Value

end Cert.KernelIdeal.Experts

end
-- ==== Proof.Experts.Reference.lean ====
/-
  The reference's result, element by element over the extended reals: the sum over all sixteen experts, of which only the two a
  row's tile names carry a weight.
-/
module

public import proofs.«01_k».proof.Proof.Gen.ReferenceIdeal.Read
public import proofs.«01_k».proof.Proof.Experts.Sums

@[expose] public section

noncomputable section

namespace Cert.ReferenceIdeal.Experts

open Idealize.ShloMosaic Idealize.ShloMosaic.TcCoe Idealize.ShloMosaic.ValueIdx
open Cert.ReferenceIdeal Cert.ReferenceIdeal.Read Cert.Experts

variable (ea eb : S88.Idx → BitVec 32) (n : S1.Idx → BitVec 32) (xs : S22528x1152.Idx → EReal)
  (g u : S16x1024x512.Idx → EReal) (d : S16x512x1024.Idx → EReal)

/-- A row's features. -/
abbrev feat (r : Fin 22528) : Fin 1024 → EReal := fun k => xs (ix2 r (k.castLE (by decide)))

theorem gate_apply (e : Fin 16) (r : Fin 22528) (j : Fin 512) :
    val_main_v30 (F := Ideal) xs g (ix3 e r j) = rowDot (feat xs r) (fun k j => g (ix3 e k j)) j := by
  rw [val_main_v30_apply, val_main_v29_apply]
  refine Finset.sum_congr rfl fun k _ => (mul_comm _ _).trans (congrArg₂ (· * ·) ?_ ?_)
  · rw [val_main_v0_apply]
    exact congrArg xs (funext fun (a : Fin 2) => by match a with | ⟨0, _⟩ => rfl | ⟨1, _⟩ => rfl)
  · exact congrArg g (funext fun (a : Fin 3) => by match a with | ⟨0, _⟩ => rfl | ⟨1, _⟩ => rfl | ⟨2, _⟩ => rfl)

theorem up_apply (e : Fin 16) (r : Fin 22528) (j : Fin 512) :
    val_main_v33 (F := Ideal) xs u (ix3 e r j) = rowDot (feat xs r) (fun k j => u (ix3 e k j)) j :=
  gate_apply xs u e r j

theorem hidden_apply (e : Fin 16) (r : Fin 22528) (j : Fin 512) :
    val_main_v35 (F := Ideal) xs g u (ix3 e r j)
      = hidden (feat xs r) (fun k j => g (ix3 e k j)) (fun k j => u (ix3 e k j)) j := by
  rw [val_main_v35_apply, val_main_v34_apply, up_apply, val_main_call3_v5_apply, val_main_call3_v4_apply, val_main_call3_v3_apply,
    val_main_call3_v2_apply, val_main_call3_v1_apply, val_main_call3_v0_apply, gate_apply, val_main_call3_cst_apply, val_main_call3_cst_0_apply]
  unfold Cert.Experts.hidden
  rw [← mul_sigmoid]
  show _ * Ideal.div (FloatOps.ofBits (F := Ideal) .f32 0x3F800000#32) ((FloatOps.ofBits (F := Ideal) .f32 0x3F800000#32) + Ideal.exp (-_)) * _ = _
  rw [show (FloatOps.ofBits (F := Ideal) .f32 0x3F800000#32) = (1 : EReal) from Ideal.ofBits_one_f32]

theorem expert_apply (e : Fin 16) (r : Fin 22528) (c : Fin 1024) :
    val_main_v37 (F := Ideal) xs g u d (ix3 e r c)
      = expert (feat xs r) (fun k j => g (ix3 e k j)) (fun k j => u (ix3 e k j)) (fun j c => d (ix3 e j c)) c := by
  rw [val_main_v37_apply]
  refine Finset.sum_congr rfl fun j _ => congrArg₂ (· * ·) ?_ ?_
  · rw [← hidden_apply]
    exact congrArg _ (funext fun (a : Fin 3) => by match a with | ⟨0, _⟩ => rfl | ⟨1, _⟩ => rfl | ⟨2, _⟩ => rfl)
  · exact congrArg d (funext fun (a : Fin 3) => by match a with | ⟨0, _⟩ => rfl | ⟨1, _⟩ => rfl | ⟨2, _⟩ => rfl)

/-- The flag a comparison of a table entry with an expert's number gives. -/
theorem named_iff (w : BitVec 32) (h : w.toNat < 16) (e : Fin 16) :
    IntOp.cmpi .eq w (BitVec.ofNat 32 e.val) = 1#1 ↔ (⟨w.toNat % 16, Nat.mod_lt _ (by decide)⟩ : Fin 16) = e := by
  have he := e.isLt
  have h1 : IntOp.cmpi .eq w (BitVec.ofNat 32 e.val) = 1#1 ↔ w = BitVec.ofNat 32 e.val := by
    show BitVec.ofBool (w == BitVec.ofNat 32 e.val) = 1#1 ↔ _
    rw [← beq_iff_eq (a := w)]
    cases (w == BitVec.ofNat 32 e.val) <;> decide
  rw [h1, ← BitVec.toNat_inj, Fin.ext_iff, BitVec.toNat_ofNat]
  show w.toNat = e.val % 2 ^ 32 ↔ w.toNat % 16 = e.val
  omega

theorem tile_ix (x : S88.Idx) (r : Fin 22528) (h : (x 0).val = r.val / 256) : x = ix1 (tileRow r) := by
  funext (a : Fin 1)
  obtain rfl : a = 0 := Subsingleton.elim (α := Fin 1) _ _
  exact Fin.ext h

theorem select_named (w : BitVec 32) (h : w.toNat < 16) (e : Fin 16) (v z : EReal) (hz : z = 0) :
    Scalar.select (IntOp.cmpi .eq w (BitVec.ofNat 32 e.val)) v z
      = if (⟨w.toNat % 16, Nat.mod_lt _ (by decide)⟩ : Fin 16) = e then v else 0 := by
  subst hz
  by_cases he : IntOp.cmpi .eq w (BitVec.ofNat 32 e.val) = 1#1
  · rw [if_pos ((named_iff w h e).mp he), he]; rfl
  · rw [if_neg (fun q => he ((named_iff w h e).mpr q)), eq_zero_of_ne_one he]; rfl

theorem first_weight (h : ∀ i, (ea i).toNat < 16) (e : Fin 16) (r : Fin 22528) :
    val_main_v17 (F := Ideal) ea xs (ix2 r e) = if named (fun t => ea (ix1 t)) (tileRow r) = e then xs (ix2 r 1024) else 0 := by
  rw [val_main_v17_apply, val_main_v15_apply, val_main_v13_apply, val_main_v12_apply, val_main_v11_apply, val_main_v10_apply,
    val_main_v14_apply, val_main_v2_apply, val_main_v1_apply, val_main_call0_v1_apply, val_main_v16_apply,
    val_main_call0_v2_apply, val_main_call0_v0_apply, val_main_cst_apply,
    tile_ix (idx_main_v10 (idx_main_v11 (idx_main_v12 (idx_main_v13 (ix2 r e))))) r (by first | rfl | simp [idx_main_v12] | (show _ = r.val / 256; simp)),
    show idx_main_v16 (idx_main_call0_v1 (ix2 r e)) = ix2 r 1024 from
      funext fun (a : Fin 2) => by match a with | ⟨0, _⟩ => rfl | ⟨1, _⟩ => rfl]
  exact select_named _ (h _) e _ _ Ideal.ofBits_zero_f32

theorem second_weight (h : ∀ i, (eb i).toNat < 16) (e : Fin 16) (r : Fin 22528) :
    val_main_v25 (F := Ideal) eb xs (ix2 r e) = if named (fun t => eb (ix1 t)) (tileRow r) = e then xs (ix2 r 1025) else 0 := by
  rw [val_main_v25_apply, val_main_v23_apply, val_main_v21_apply, val_main_v20_apply, val_main_v19_apply, val_main_v18_apply,
    val_main_v22_apply, val_main_v2_apply, val_main_v1_apply, val_main_call1_v1_apply, val_main_v24_apply,
    val_main_call1_v2_apply, val_main_call1_v0_apply, val_main_cst_0_apply,
    tile_ix (idx_main_v18 (idx_main_v19 (idx_main_v20 (idx_main_v21 (ix2 r e))))) r (by first | rfl | simp [idx_main_v20] | (show _ = r.val / 256; simp)),
    show idx_main_v24 (idx_main_call1_v1 (ix2 r e)) = ix2 r 1025 from
      funext fun (a : Fin 2) => by match a with | ⟨0, _⟩ => rfl | ⟨1, _⟩ => rfl]
  exact select_named _ (h _) e _ _ Ideal.ofBits_zero_f32

theorem live_apply (r : Fin 22528) (e : Fin 16) :
    val_main_call2_v1 (F := Ideal) n (ix2 r e) = BitVec.ofBool ((BitVec.ofNat 32 (tileRow r).val).slt (n (ix1 0))) := by
  rw [val_main_call2_v1_apply, val_main_v9_apply, val_main_v8_apply, val_main_v7_apply, val_main_v6_apply, val_main_v3_apply, val_main_v5_apply,
    tile_ix (idx_main_v7 (idx_main_v8 (idx_main_v9 (idx_main_call2_v1 (ix2 r e))))) r (by first | rfl | simp [idx_main_v9] | (show _ = r.val / 256; simp))]
  have hn : ∀ x : S1.Idx, x = ix1 0 := fun x => funext fun (a : Fin 1) => by
    obtain rfl : a = 0 := Subsingleton.elim (α := Fin 1) _ _
    exact Subsingleton.elim (α := Fin 1) _ _
  have e4 : ∀ y : S_.Idx, val_main_v4 (F := Ideal) n y = n (ix1 0) := fun y => congrArg n (hn _)
  rw [e4]; rfl

theorem weight_apply (ha : ∀ i, (ea i).toNat < 16) (hb : ∀ i, (eb i).toNat < 16) (e : Fin 16) (r : Fin 22528) (c : Fin 1024) :
    val_main_v40 (F := Ideal) ea eb n xs (ix3 e r c)
      = if (BitVec.ofNat 32 (tileRow r).val).slt (n (ix1 0)) = true then
          (if named (fun t => ea (ix1 t)) (tileRow r) = e then xs (ix2 r 1024) else 0)
            + (if named (fun t => eb (ix1 t)) (tileRow r) = e then xs (ix2 r 1025) else 0)
        else 0 := by
  rw [val_main_v40_apply, val_main_v39_apply, val_main_v38_apply,
    show idx_main_v38 (idx_main_v39 (idx_main_v40 (ix3 e r c))) = ix2 r e from
      funext fun (a : Fin 2) => by match a with | ⟨0, _⟩ => rfl | ⟨1, _⟩ => rfl,
    val_main_v27_apply, live_apply, val_main_v26_apply, first_weight ea xs ha, second_weight eb xs hb, val_main_call2_v2_apply,
    val_main_call2_v0_apply, val_main_cst_1_apply]
  by_cases h : (BitVec.ofNat 32 (tileRow r).val).slt (n (ix1 0)) = true
  · rw [if_pos h, h]; rfl
  · rw [if_neg h, Bool.eq_false_of_not_eq_true h]; exact Ideal.ofBits_zero_f32

/-- The reference's result over the extended reals. -/
theorem result_apply (ha : ∀ i, (ea i).toNat < 16) (hb : ∀ i, (eb i).toNat < 16)
    (h0 : ∀ r (k : Fin 2), 0 ≤ xs (ix2 r ⟨1024 + k.val, by omega⟩)) (r : Fin 22528) (c : Fin 1024) :
    val_main_v42 (F := Ideal) ea eb n xs g u d (ix2 r c)
      = output (fun t => ea (ix1 t)) (fun t => eb (ix1 t)) (n (ix1 0)) (fun r k => xs (ix2 r k))
          (fun e k j => g (ix3 e k j)) (fun e k j => u (ix3 e k j)) (fun e j c => d (ix3 e j c)) r c := by
  rw [val_main_v42_apply, val_main_cst_2_apply]
  have hi : ∀ e : Fin 16, idx_main_v42 (ix2 r c) e = ix3 e r c := fun e =>
    funext fun (a : Fin 3) => by match a with | ⟨0, _⟩ => rfl | ⟨1, _⟩ => rfl | ⟨2, _⟩ => rfl
  simp only [hi, val_main_v41_apply, weight_apply ea eb n xs ha hb, expert_apply]
  refine (congrArg (· + _) (Ideal.ofBits_zero_f32)).trans ((zero_add _).trans ?_)
  unfold output
  by_cases h : (BitVec.ofNat 32 (tileRow r).val).slt (n (ix1 0)) = true
  · simp only [if_pos h]
    exact select_sum _ _ _ _ (h0 r 0) (h0 r 1) (fun e => expert (feat xs r) (fun k j => g (ix3 e k j)) (fun k j => u (ix3 e k j)) (fun j c => d (ix3 e j c)) c)
  · simp only [if_neg h]
    exact Finset.sum_eq_zero fun e _ => zero_mul _

end Cert.ReferenceIdeal.Experts

end
-- ==== Proof.Experts.Claims.lean ====
/-
  The experts' claims: both programs' frames from the precondition's words, the reference's frame, and the equality of results over
  the extended reals, both sides being `Cert.Experts.output` of the arguments.
-/
module

public import proofs.«01_k».proof.Defs
public import proofs.«01_k».proof.Proof.Experts.Pre
public import proofs.«01_k».proof.Proof.Gen.Pre_routed
public import proofs.«01_k».proof.Proof.Experts.Bits.Ok
public import proofs.«01_k».proof.Proof.Experts.Ideal.Result
public import proofs.«01_k».proof.Proof.Experts.Reference

@[expose] public section

noncomputable section

namespace Cert.Experts.Claims

open Idealize.ShloMosaic Idealize.SL.Sem

/-- A weight the precondition admits is at least zero and below infinity. -/
theorem weight_range (x : EReal) (h0 : FloatOps.cmpf (F := Ideal) (φ := .f32) .oge x (FloatOps.ofBits .f32 0x00000000#32) = 1#1)
    (ht : FloatOps.cmpf (F := Ideal) (φ := .f32) .olt x (FloatOps.ofBits .f32 0x7F800000#32) = 1#1) : 0 ≤ x ∧ x ≠ ⊤ := by
  have hb : ∀ b : Bool, BitVec.ofBool b = 1#1 → b = true := by decide
  have e0 : (FloatOps.ofBits (F := Ideal) .f32 0x00000000#32) = (0 : EReal) := Ideal.ofBits_zero_f32
  have et : (FloatOps.ofBits (F := Ideal) .f32 0x7F800000#32) = (⊤ : EReal) := by
    show Ideal.ofBits .f32 0x7F800000#32 = ⊤
    simp [Ideal.ofBits, Ideal.ieee]
  rw [e0] at h0
  rw [et] at ht
  exact ⟨of_decide_eq_true (hb _ h0), (of_decide_eq_true (hb _ ht) : x < ⊤).ne⟩

theorem column_range (xs : (⟨2, ![22528, 1152]⟩ : Shape).Idx → EReal)
    (h0 : ∀ i, FloatOps.cmpf .oge (Cert.Pre_routed.Decode.weights (F := Ideal) xs i) (FloatOps.ofBits .f32 0x00000000#32) = 1#1)
    (ht : ∀ i, FloatOps.cmpf .olt (Cert.Pre_routed.Decode.weights (F := Ideal) xs i) (FloatOps.ofBits .f32 0x7F800000#32) = 1#1)
    (r : Fin 22528) (k : Fin 2) :
    0 ≤ xs (ValueIdx.ix2 r ⟨1024 + k.val, by omega⟩) ∧ xs (ValueIdx.ix2 r ⟨1024 + k.val, by omega⟩) ≠ ⊤ := by
  have e : Cert.Pre_routed.Decode.weights (F := Ideal) xs (ValueIdx.ix2 r k) = xs (ValueIdx.ix2 r ⟨1024 + k.val, by omega⟩) :=
    extractStridedSlice_apply ![0, 1024] xs _ (ValueIdx.ix2 r k) (ValueIdx.ix2 r ⟨1024 + k.val, by omega⟩) (fun a => match a with
      | ⟨0, _⟩ => (Nat.zero_add _).symm
      | ⟨1, _⟩ => rfl)
  have := weight_range _ (h0 (ValueIdx.ix2 r k)) (ht (ValueIdx.ix2 r k))
  rw [e] at this
  exact this

theorem frame_bits : Cert.quiescent_Kernel := fun m ρ h => by
  have d := Cert.Pre_routed.Decode.routed (h 0)
  exact (θ_run Cert.Kernel.defs _ _).mono (fun r q => ⟨q.1, q.2.1⟩)
    (Cert.Kernel.Experts.runs m ρ (Cert.Kernel.Experts.ok_of m d.first d.second (d.some_used _)))

theorem ok_ideal (m) (h : Cert.Pre_KernelIdeal m) : Cert.KernelIdeal.Experts.Ok m :=
  have d := Cert.Pre_routed.Decode.routed (h 0)
  Cert.KernelIdeal.Experts.ok_of m d.first d.second (d.some_used _)

theorem frame_ideal : Cert.quiescent_KernelIdeal := fun m ρ h =>
  (θ_run Cert.KernelIdeal.defs _ _).mono (fun _ q => ⟨q.1, q.2.1⟩) (Cert.KernelIdeal.Experts.runs m ρ (ok_ideal m h))

theorem frame_reference : Cert.quiescent_ReferenceIdeal := fun m ρ _ =>
  (θ_run Cert.ReferenceIdeal.defs _ _).mono (fun r q => ⟨fun c => (q c).2, sem_eq_zero_of_no_sems (by decide) r.2⟩)
    (Cert.ReferenceIdeal.Value.run (F := Ideal) m ρ)

theorem frame_reference_routed : Cert.quiescent_ReferenceIdeal_pre_routed := fun m ρ _ =>
  (θ_run Cert.ReferenceIdeal.defs _ _).mono (fun r q => ⟨fun c => (q c).2, sem_eq_zero_of_no_sems (by decide) r.2⟩)
    (Cert.ReferenceIdeal.Value.run (F := Ideal) m ρ)

theorem equal : Cert.algebraic_KernelIdeal_ReferenceIdeal := fun m ρ m' ρ' h hag => by
  have d := Cert.Pre_routed.Decode.routed (h 0)
  have hw := column_range _ d.weight_ge d.weight_lt
  refine ⟨fun c => (Cert.KernelIdeal.Experts.data m (ok_ideal m h) 0 c).arrAt 7 (Cert.KernelIdeal.Experts.pipe m (ok_ideal m h)).N, ?_, ?_⟩
  · exact (θ_run Cert.KernelIdeal.defs _ _).mono (fun _ q c => ⟨q.2.2 c, q.1 c⟩) (Cert.KernelIdeal.Experts.runs m ρ (ok_ideal m h))
  · refine (θ_run Cert.ReferenceIdeal.defs _ _).mono (fun r q c => ⟨(q c).1.trans ?_, (q c).2⟩) (Cert.ReferenceIdeal.Value.run (F := Ideal) m' ρ')
    obtain rfl : c = 0 := Subsingleton.elim (α := Fin 1) _ _
    obtain ⟨a0, a1, a2, a3, a4, a5, a6⟩ := hag 0
    rw [Cert.ReferenceIdeal.Read.val_main_v42_eq, a0, a1, a2, a3, a4, a5, a6]
    funext i
    obtain ⟨r, k, rfl⟩ : ∃ (r : Fin 22528) (k : Fin 1024), i = ValueIdx.ix2 r k := ⟨i 0, i 1, ValueIdx.eq_ix2 i⟩
    refine (Cert.ReferenceIdeal.Experts.result_apply _ _ _ _ _ _ _ d.first d.second (fun r k => (hw r k).1) r k).trans
      (Eq.trans ?_ (Cert.KernelIdeal.Experts.result_apply m (ok_ideal m h) 0 d.first d.second (fun r k => (hw r k).1) (fun r k => (hw r k).2) r k).symm)
    have eu : Cert.KernelIdeal.Experts.usedWord m
        = (show (⟨1, ![1]⟩ : Shape).Idx → BitVec 32 from m ((Dev.tc 0).loc Cert.KernelIdeal.main_arg2)) (ValueIdx.ix1 0) :=
      congrArg (show (⟨1, ![1]⟩ : Shape).Idx → BitVec 32 from m ((Dev.tc 0).loc Cert.KernelIdeal.main_arg2)) (funext fun (a : Fin 1) => by
        obtain rfl : a = 0 := Subsingleton.elim (α := Fin 1) _ _
        rfl)
    rw [eu]

end Cert.Experts.Claims

end
-- ==== Proof.Front.Math.lean ====
/-
  The arithmetic of the layer's front over the extended reals, for one row and one sequence: the normalized row, a projection, the
  rotated heads, the forget gate's logarithm and its running sum, with the laws the kernel and the reference differ by.

  The kernel rotates with three tables over two heads at once, whose zeros and ones leave the untouched lanes alone. The kernel
  splits the forget logarithm in three parts before it sums; over the extended reals the second and third part are zero unless the
  first is `-∞`, and the logarithm is never `+∞`, so the three sums add up to the sum of the logarithm. The kernel carries the
  running sum from tile to tile.
-/
module

public import Idealize.ShloMosaic.PureOps.Ideal
public import Idealize.ShloMosaic.Lib.IdealHost

@[expose] public section

noncomputable section

namespace Cert.Front

open Idealize.ShloMosaic

/-- A row scaled to unit mean square, times the gain. -/
def normed (x g : Fin 1024 → EReal) (k : Fin 1024) : EReal :=
  x k * Ideal.rsqrt (Ideal.div (∑ i, x i * x i) (Ideal.ofBits .f32 0x44800000#32) + Ideal.ofBits .f32 0x358637BD#32) * g k

/-- One output of the projection of the normalized row. -/
def proj (x g w : Fin 1024 → EReal) : EReal := ∑ k, normed x g k * w k

/-- A row of queries, keys and values: the heads of the first 1024 columns rotated in their first sixteen lanes. -/
def rotated (c s : Fin 8 → EReal) (t : Fin 1536 → EReal) (e : Fin 1536) : EReal :=
  if he : e.val < 1024 then
    if h8 : e.val % 64 < 8 then
      t e * c ⟨e.val % 64, h8⟩ + -(t ⟨e.val + 8, by omega⟩) * s ⟨e.val % 64, h8⟩
    else if h16 : e.val % 64 < 16 then
      t e * c ⟨e.val % 64 - 8, by omega⟩ + t ⟨e.val - 8, by omega⟩ * s ⟨e.val % 64 - 8, by omega⟩
    else t e
  else t e

/-- The same row from tables over a pair of heads: each lane, the lane eight to the right and the lane eight to the left in its
    block of 128, each times its table. -/
def spun (cv sa sb : Fin 128 → EReal) (t : Fin 1536 → EReal) (e : Fin 1536) : EReal :=
  if he : e.val < 1024 then
    t e * cv ⟨e.val % 128, by omega⟩
      + t ⟨e.val / 128 * 128 + (e.val % 128 + 8) % 128, by omega⟩ * sa ⟨e.val % 128, by omega⟩
      + t ⟨e.val / 128 * 128 + (e.val % 128 + 120) % 128, by omega⟩ * sb ⟨e.val % 128, by omega⟩
  else t e

/-- The table of factors on a lane itself. -/
def tabC (c : Fin 8 → EReal) (l : Fin 128) : EReal :=
  if h8 : l.val % 64 < 8 then c ⟨l.val % 64, h8⟩
  else if h16 : l.val % 64 < 16 then c ⟨l.val % 64 - 8, by omega⟩ else 1

/-- The table of factors on the lane eight to the right. -/
def tabR (s : Fin 8 → EReal) (l : Fin 128) : EReal :=
  if h8 : l.val % 64 < 8 then -(s ⟨l.val % 64, h8⟩) else 0

/-- The table of factors on the lane eight to the left. -/
def tabL (s : Fin 8 → EReal) (l : Fin 128) : EReal :=
  if h8 : l.val % 64 < 8 then 0
  else if h16 : l.val % 64 < 16 then s ⟨l.val % 64 - 8, by omega⟩ else 0

/-- With those tables the pair-of-heads form is the rotation of each head. -/
theorem spun_eq (c s : Fin 8 → EReal) (t : Fin 1536 → EReal) (e : Fin 1536) :
    spun (tabC c) (tabR s) (tabL s) t e = rotated c s t e := by
  unfold spun rotated
  by_cases he : e.val < 1024
  · rw [dif_pos he, dif_pos he]
    have hm : e.val % 128 % 64 = e.val % 64 := by omega
    unfold tabC tabR tabL
    dsimp only
    by_cases h8 : e.val % 64 < 8
    · have h8' : e.val % 128 % 64 < 8 := by omega
      rw [dif_pos h8, dif_pos h8', dif_pos h8', dif_pos h8', mul_zero, add_zero, neg_mul, mul_neg]
      have h1 : (⟨e.val / 128 * 128 + (e.val % 128 + 8) % 128, by omega⟩ : Fin 1536) = ⟨e.val + 8, by omega⟩ := Fin.ext (by
        show e.val / 128 * 128 + (e.val % 128 + 8) % 128 = e.val + 8; omega)
      simp only [h1, hm]
    · have h8' : ¬e.val % 128 % 64 < 8 := by omega
      rw [dif_neg h8, dif_neg h8', dif_neg h8', dif_neg h8', mul_zero, add_zero]
      by_cases h16 : e.val % 64 < 16
      · have h16' : e.val % 128 % 64 < 16 := by omega
        rw [dif_pos h16, dif_pos h16', dif_pos h16']
        have h1 : (⟨e.val / 128 * 128 + (e.val % 128 + 120) % 128, by omega⟩ : Fin 1536) = ⟨e.val - 8, by omega⟩ := Fin.ext (by
          show e.val / 128 * 128 + (e.val % 128 + 120) % 128 = e.val - 8; omega)
        simp only [h1, hm]
      · have h16' : ¬e.val % 128 % 64 < 16 := by omega
        rw [dif_neg h16, dif_neg h16', dif_neg h16', mul_zero, add_zero, mul_one]
  · rw [dif_neg he, dif_neg he]

/-- The logarithm of the forget gate, in base two. -/
def logForget (z : EReal) : EReal :=
  (min z 0 - Ideal.log1p (Ideal.exp (0 - max z (-z)))) * Ideal.ofBits .f32 0x3FB8AA3B#32

theorem exp_nonneg (x : EReal) : 0 ≤ Ideal.exp x := by
  induction x with
  | bot => exact le_refl _
  | top => exact le_top
  | coe r =>
    show (0 : EReal) ≤ ((Real.exp r : ℝ) : EReal)
    exact_mod_cast (Real.exp_pos r).le

theorem log1p_nonneg (e : EReal) (he : 0 ≤ e) : 0 ≤ Ideal.log1p e := by
  unfold Ideal.log1p
  induction e with
  | bot => exact absurd he (by simp)
  | top =>
    have : (1 : EReal) + ⊤ = ⊤ := rfl
    rw [this]; exact le_top
  | coe r =>
    have hr : 0 ≤ r := by exact_mod_cast he
    have : (1 : EReal) + (r : EReal) = ((1 + r : ℝ) : EReal) := by push_cast; rfl
    rw [this]
    show (0 : EReal) ≤ if 1 + r ≤ 0 then ⊥ else ((Real.log (1 + r) : ℝ) : EReal)
    rw [if_neg (by linarith)]
    exact_mod_cast Real.log_nonneg (by linarith)

theorem scale_nonneg : (0 : EReal) ≤ Ideal.ofBits .f32 0x3FB8AA3B#32 := by
  simp [Ideal.ofBits, Ideal.ieee]
  exact mul_nonneg (by norm_cast) (EReal.coe_nonneg.mpr (by positivity))

/-- The forget logarithm is at most zero. -/
theorem logForget_nonpos (z : EReal) : logForget z ≤ 0 := by
  unfold logForget
  have h1 : min z 0 - Ideal.log1p (Ideal.exp (0 - max z (-z))) ≤ 0 := by
    rw [sub_eq_add_neg]
    refine (add_le_add (min_le_right z 0) (?_ : _ ≤ (0 : EReal))).trans (by simp)
    exact EReal.neg_le_zero.mpr (log1p_nonneg _ (exp_nonneg _))
  have h2 := scale_nonneg
  generalize min z 0 - Ideal.log1p (Ideal.exp (0 - max z (-z))) = a at h1
  generalize Ideal.ofBits .f32 0x3FB8AA3B#32 = b at h2
  have h3 : 0 ≤ -a := EReal.le_neg_of_le_neg (by simpa using h1)
  have h4 : 0 ≤ -a * b := mul_nonneg h3 h2
  rw [EReal.neg_mul] at h4
  simpa using EReal.neg_le_zero.mpr h4

theorem logForget_ne_top (z : EReal) : logForget z ≠ ⊤ := fun h => by
  have := logForget_nonpos z
  rw [h] at this
  exact absurd this (by simp)

/-- The reference's logarithm of the sigmoid, by way of `softplus`, is the kernel's. -/
theorem neg_softplus (z : EReal) :
    -(max (-z) 0 + Ideal.log1p (Ideal.exp (-(max (-z - 0) (-(-z - 0))))))
      = min z 0 - Ideal.log1p (Ideal.exp (0 - max z (-z))) := by
  have e1 : max (-z - 0) (-(-z - 0)) = max z (-z) := by rw [sub_zero, neg_neg, max_comm]
  rw [e1, zero_sub]
  have hb : 0 ≤ Ideal.log1p (Ideal.exp (-max z (-z))) := log1p_nonneg _ (exp_nonneg _)
  have ha : (0 : EReal) ≤ max (-z) 0 := le_max_right _ _
  have hm : -(max (-z) 0) = min z 0 := by
    rcases le_total z 0 with h | h
    · rw [min_eq_left h, max_eq_left (EReal.le_neg_of_le_neg (by simpa using h)), neg_neg]
    · rw [min_eq_right h, max_eq_right (EReal.neg_le_zero.mpr h), neg_zero]
  generalize Ideal.log1p (Ideal.exp (-max z (-z))) = b at hb
  rw [EReal.neg_add (Or.inl (fun h => by rw [h] at ha; exact absurd ha (by simp)))
    (Or.inr (fun h => by rw [h] at hb; exact absurd hb (by simp))), hm]

theorem sum_eq_bot {ι : Type} (s : Finset ι) (f : ι → EReal) (i : ι) (hi : i ∈ s) (h : f i = ⊥) : ∑ j ∈ s, f j = ⊥ := by
  classical
  rw [← Finset.add_sum_erase s f hi, h, EReal.bot_add]

/-- The three parts of a split, each weighted by zeros and ones, sum to the weighted sum of the whole. -/
theorem split_sum {ι : Type} (s : Finset ι) (t a : ι → EReal) (ht : ∀ i, t i = 0 ∨ t i = 1) (ha : ∀ i, a i ≠ ⊤) :
    (∑ i ∈ s, t i * a i + ∑ i ∈ s, t i * (a i - a i)) + ∑ i ∈ s, t i * ((a i - a i) - (a i - a i))
      = ∑ i ∈ s, t i * a i := by
  by_cases hb : ∃ i ∈ s, t i = 1 ∧ a i = ⊥
  · obtain ⟨i, hi, h1, h2⟩ := hb
    rw [sum_eq_bot s (fun i => t i * a i) i hi (by show t i * a i = ⊥; rw [h1, h2, one_mul]), EReal.bot_add, EReal.bot_add]
  · have hz : ∀ i ∈ s, t i * (a i - a i) = 0 := fun i hi => by
      rcases ht i with h | h
      · rw [h, zero_mul]
      · have hne : a i ≠ ⊥ := fun hh => hb ⟨i, hi, h, hh⟩
        rw [EReal.sub_self (ha i) hne, mul_zero]
    have hz' : ∀ i ∈ s, t i * ((a i - a i) - (a i - a i)) = 0 := fun i hi => by
      rcases ht i with h | h
      · rw [h, zero_mul]
      · have hne : a i ≠ ⊥ := fun hh => hb ⟨i, hi, h, hh⟩
        rw [EReal.sub_self (ha i) hne, sub_zero, mul_zero]
    rw [Finset.sum_eq_zero hz, Finset.sum_eq_zero hz', add_zero, add_zero]

/-- The running sum of a sequence, its term included. -/
def running (f : ℕ → EReal) (n : ℕ) : EReal := ∑ s ∈ Finset.range (n + 1), f s

/-- A tile's row of the running sum: the terms of the tile up to the row. -/
theorem tile_sum (f : ℕ → EReal) (r : Fin 512) :
    ∑ s : Fin 512, (if s.val ≤ r.val then (1 : EReal) else 0) * f s.val = ∑ s ∈ Finset.range (r.val + 1), f s := by
  rw [Fin.sum_univ_eq_sum_range (fun s => (if s ≤ r.val then (1 : EReal) else 0) * f s) 512]
  have h : Finset.range 512 = Finset.range ((r.val + 1) + (511 - r.val)) := congrArg _ (by omega)
  rw [h, Finset.sum_range_add, Finset.sum_eq_zero (s := Finset.range (511 - r.val)) (fun s _ => by
    rw [if_neg (by omega), zero_mul]), add_zero]
  refine Finset.sum_congr rfl fun s hs => ?_
  rw [if_pos (by have := Finset.mem_range.mp hs; omega), one_mul]

/-- The running sum at a row of a tile, from the sum up to the tile. -/
theorem running_tile (f : ℕ → EReal) (n r : ℕ) :
    running f (n + r) = ∑ s ∈ Finset.range (r + 1), f (n + s) + ∑ s ∈ Finset.range n, f s := by
  unfold running
  rw [show n + r + 1 = n + (r + 1) from by omega, Finset.sum_range_add, add_comm]

/-- The terms of a window of 4096 that lie inside the sequence are those up to the place. -/
theorem window_sum (f : ℕ → EReal) (j : ℕ) (hj : j < 4096) :
    ∑ k : Fin 4096, (if 4095 ≤ j + k.val then f (j + k.val - 4095) else 0) = running f j := by
  rw [Fin.sum_univ_eq_sum_range (fun k => if 4095 ≤ j + k then f (j + k - 4095) else 0) 4096]
  have h : Finset.range 4096 = Finset.range ((4095 - j) + (j + 1)) := congrArg _ (by omega)
  rw [h, Finset.sum_range_add, Finset.sum_eq_zero (s := Finset.range (4095 - j)) (fun k hk => by
    rw [if_neg (by have := Finset.mem_range.mp hk; omega)]), zero_add]
  unfold running
  refine Finset.sum_congr rfl fun k hk => ?_
  rw [if_pos (by omega)]
  exact congrArg f (by omega)

end Cert.Front

end
-- ==== Proof.Front.Ideal.Tile.lean ====
/-
  What the kernel computes on one tile of 512 rows, element by element over the extended reals: the projections, the rotated heads,
  and the tile's part of the running sum of the forget logarithms.
-/
module

public import proofs.«01_k».proof.Proof.Gen.Kernel2Ideal.Value
public import proofs.«01_k».proof.Proof.Front.Math
public import Idealize.ShloMosaic.Lib.ValueIdx
public import Idealize.ShloMosaic.Lib.ValueIdxCoords
public import Idealize.ShloMosaic.Lib.KernelVsHost

@[expose] public section

noncomputable section

namespace Cert.Kernel2Ideal.Front

open Idealize.ShloMosaic Idealize.ShloMosaic.TcCoe Idealize.ShloMosaic.ValueIdx
open Cert.Kernel2Ideal.Gen Cert.Front

/-- A row of a tile of the input. -/
abbrev rowX (x : Vec Ideal S512x1024 .f32) (r : Fin 512) : Fin 1024 → EReal := fun k => x (ix2 r k)
/-- The gain. -/
abbrev gain (g : Vec Ideal S1x1024 .f32) : Fin 1024 → EReal := fun k => g (ix2 0 k)

/-- The normalized tile. -/
theorem pay4_apply (x : Vec Ideal S512x1024 .f32) (g : Vec Ideal S1x1024 .f32) (r : Fin 512) (k : Fin 1024) :
    k0_pay4 x g (ix2 r k) = normed (rowX x r) (gain g) k := by
  unfold k0_pay4
  dsimp only
  rw [shapeCast_self]
  have hs : (shapeCast S512x1 (multiReduction .add [1] S512 (mulf x x : FVec Ideal S512x1024 .f32) 0x00000000#32 Facts₀.reduces_S512x1024_S512 (.inl rfl) rfl : FVec Ideal S512 .f32)
      Facts₀.shapeCasts_S512_S512x1 : FVec Ideal S512x1 .f32) (ix2 r 0) = ∑ i : Fin 1024, x (ix2 r i) * x (ix2 r i) := by
    rw [shapeCast_apply _ _ _ (ix1 r) (by rfl)]
    refine (Ideal.multiReduction_add_single (a := 1) (mulf x x : FVec Ideal S512x1024 .f32) 0x00000000#32 Facts₀.reduces_S512x1024_S512 (.inl rfl) rfl (ix1 r)).trans ?_
    refine Finset.sum_congr rfl fun i _ => ?_
    have hi : Facts₀.reduces_S512x1024_S512.lift (ix1 r) i = ix2 r i := funext fun a => by
      match a with
      | ⟨0, _⟩ => rfl
      | ⟨1, _⟩ => rfl
    rw [hi]; rfl
  have hb : ∀ (v : FVec Ideal S512x1 .f32), broadcastTo S512x1024 v Facts₀.broadcasts_S512x1_S512x1024 (ix2 r k) = v (ix2 r 0) := fun v =>
    broadcastTo_apply _ _ _ (ix2 r 0) (fun a => by match a with | ⟨0, _⟩ => rfl | ⟨1, _⟩ => rfl)
  have hg : broadcastTo S512x1024 g Facts₀.broadcasts_S1x1024_S512x1024 (ix2 r k) = g (ix2 0 k) :=
    broadcastTo_apply _ _ _ (ix2 0 k) (fun a => by match a with | ⟨0, _⟩ => rfl | ⟨1, _⟩ => rfl)
  show x (ix2 r k) * broadcastTo S512x1024 _ Facts₀.broadcasts_S512x1_S512x1024 (ix2 r k) * broadcastTo S512x1024 g Facts₀.broadcasts_S1x1024_S512x1024 (ix2 r k) = _
  rw [hb, hg]
  unfold normed
  rw [← hs]
  rfl

/-- The product of a tile's normalized rows with 512 rows of the weights. -/
theorem product_wide (x : FVec Ideal S512x1024 .bf16) (w : FVec Ideal S512x1024 .bf16) (r e : Fin 512) :
    matmul dot_S512x1024_S512x1024_S512x512_1_1_0_0_n_n none x w (constant S512x512 .f32 0x00000000#32) (ix2 r e)
      = ∑ k : Fin 1024, x (ix2 r k) * w (ix2 e k) := by
  simp only [matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  congr 2
  · funext a; match a with
    | ⟨0, _⟩ => exact Fin.ext (by simp [DotDims.lhsIdx, dot_S512x1024_S512x1024_S512x512_1_1_0_0_n_n]; rfl)
    | ⟨1, _⟩ => exact Fin.ext (Eq.trans (by simp [DotDims.lhsIdx, dot_S512x1024_S512x1024_S512x512_1_1_0_0_n_n]; rfl) hk)
  · funext a; match a with
    | ⟨0, _⟩ => exact Fin.ext (by simp [DotDims.rhsIdx, dot_S512x1024_S512x1024_S512x512_1_1_0_0_n_n]; rfl)
    | ⟨1, _⟩ => exact Fin.ext (Eq.trans (by simp [DotDims.rhsIdx, dot_S512x1024_S512x1024_S512x512_1_1_0_0_n_n]; rfl) hk)

/-- The product of a tile's normalized rows with the 128 rows of the forget weights. -/
theorem product_gate (x : FVec Ideal S512x1024 .bf16) (w : FVec Ideal S128x1024 .bf16) (r : Fin 512) (e : Fin 128) :
    matmul dot_S512x1024_S128x1024_S512x128_1_1_0_0_n_n none x w (constant S512x128 .f32 0x00000000#32) (ix2 r e)
      = ∑ k : Fin 1024, x (ix2 r k) * w (ix2 e k) := by
  simp only [matmul]
  rw [Ideal.matmul_constant_zero_apply, ← Equiv.sum_comp (contrEquiv1 dot_S512x1024_S128x1024_S512x128_1_1_0_0_n_n 1024 rfl rfl).symm]
  refine Finset.sum_congr rfl fun k _ => ?_
  have hk := contrEquiv1_symm_val dot_S512x1024_S128x1024_S512x128_1_1_0_0_n_n 1024 rfl rfl k
  congr 2
  · funext a; match a with
    | ⟨0, _⟩ => exact Fin.ext (by simp [DotDims.lhsIdx, dot_S512x1024_S128x1024_S512x128_1_1_0_0_n_n]; rfl)
    | ⟨1, _⟩ => exact Fin.ext (Eq.trans (by simp [DotDims.lhsIdx, dot_S512x1024_S128x1024_S512x128_1_1_0_0_n_n]; rfl) hk)
  · funext a; match a with
    | ⟨0, _⟩ => exact Fin.ext (by simp [DotDims.rhsIdx, dot_S512x1024_S128x1024_S512x128_1_1_0_0_n_n]; rfl)
    | ⟨1, _⟩ => exact Fin.ext (Eq.trans (by simp [DotDims.rhsIdx, dot_S512x1024_S128x1024_S512x128_1_1_0_0_n_n]; rfl) hk)

/-- The triangle's product with two tables side by side. -/
theorem product_two (x : FVec Ideal S512x512 .bf16) (w : FVec Ideal S512x256 .bf16) (r : Fin 512) (e : Fin 256) :
    matmul dot_S512x512_S512x256_S512x256_1_0_0_1_n_n none x w (constant S512x256 .f32 0x00000000#32) (ix2 r e)
      = ∑ k : Fin 512, x (ix2 r k) * w (ix2 k e) := by
  simp only [matmul]
  rw [Ideal.matmul_constant_zero_apply, ← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  congr 2
  · funext a; match a with
    | ⟨0, _⟩ => exact Fin.ext (by simp [DotDims.lhsIdx, dot_S512x512_S512x256_S512x256_1_0_0_1_n_n]; rfl)
    | ⟨1, _⟩ => exact Fin.ext (Eq.trans (by simp [DotDims.lhsIdx, dot_S512x512_S512x256_S512x256_1_0_0_1_n_n]; rfl) hk)
  · funext a; match a with
    | ⟨0, _⟩ => exact Fin.ext (Eq.trans (by simp [DotDims.rhsIdx, dot_S512x512_S512x256_S512x256_1_0_0_1_n_n]; rfl) hk)
    | ⟨1, _⟩ => exact Fin.ext (by simp [DotDims.rhsIdx, dot_S512x512_S512x256_S512x256_1_0_0_1_n_n]; rfl)

/-- The triangle's product with one table. -/
theorem product_one (x : FVec Ideal S512x512 .bf16) (w : FVec Ideal S512x128 .bf16) (r : Fin 512) (e : Fin 128) :
    matmul dot_S512x512_S512x128_S512x128_1_0_0_1_n_n none x w (constant S512x128 .f32 0x00000000#32) (ix2 r e)
      = ∑ k : Fin 512, x (ix2 r k) * w (ix2 k e) := by
  simp only [matmul]
  rw [Ideal.matmul_constant_zero_apply, ← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  congr 2
  · funext a; match a with
    | ⟨0, _⟩ => exact Fin.ext (by simp [DotDims.lhsIdx, dot_S512x512_S512x128_S512x128_1_0_0_1_n_n]; rfl)
    | ⟨1, _⟩ => exact Fin.ext (Eq.trans (by simp [DotDims.lhsIdx, dot_S512x512_S512x128_S512x128_1_0_0_1_n_n]; rfl) hk)
  · funext a; match a with
    | ⟨0, _⟩ => exact Fin.ext (Eq.trans (by simp [DotDims.rhsIdx, dot_S512x512_S512x128_S512x128_1_0_0_1_n_n]; rfl) hk)
    | ⟨1, _⟩ => exact Fin.ext (by simp [DotDims.rhsIdx, dot_S512x512_S512x128_S512x128_1_0_0_1_n_n]; rfl)

/-- 512 columns of a tile's projections. -/
theorem pay8_apply (x : Vec Ideal S512x1024 .f32) (g : Vec Ideal S1x1024 .f32) (w : Vec Ideal S512x1024 .bf16) (r e : Fin 512) :
    k0_pay8 (k0_pay4 x g) w (ix2 r e) = proj (rowX x r) (gain g) (fun k => w (ix2 e k)) := by
  unfold k0_pay8 proj
  refine (product_wide _ _ r e).trans (Finset.sum_congr rfl fun k _ => ?_)
  rw [pay4_apply]

/-- A lane rotation by 120 of 128 reads eight lanes to the right. -/
theorem rotate_right (v : FVec Ideal S512x128 .f32) (r : Fin 512) (l : Fin 128) :
    dynamicRotate 1 120#32 none v Facts₀.rotates_S512x128_d1 (ix2 r l) = v (ix2 r ⟨(l.val + 8) % 128, Nat.mod_lt _ (by decide)⟩) :=
  dynamicRotate_apply _ _ _ _ _ _ (fun b => by
    match b with
    | ⟨0, _⟩ => rfl
    | ⟨1, _⟩ =>
      show (l.val + 8) % 128 = (l.val + 128 - 120 % 128) % 128
      exact congrArg (· % 128) (by omega))

/-- A lane rotation by 8 reads eight lanes to the left. -/
theorem rotate_left (v : FVec Ideal S512x128 .f32) (r : Fin 512) (l : Fin 128) :
    dynamicRotate 1 8#32 none v Facts₀.rotates_S512x128_d1 (ix2 r l) = v (ix2 r ⟨(l.val + 120) % 128, Nat.mod_lt _ (by decide)⟩) :=
  dynamicRotate_apply _ _ _ _ _ _ (fun b => by
    match b with
    | ⟨0, _⟩ => rfl
    | ⟨1, _⟩ =>
      show (l.val + 120) % 128 = (l.val + 128 - 8 % 128) % 128
      exact congrArg (· % 128) (by omega))

/-- A block of 128 lanes rotated with the three tables. -/
def turn (v c a b : FVec Ideal S512x128 .f32) : FVec Ideal S512x128 .bf16 :=
  truncf .bf16 (addf (addf (mulf v c) (mulf (dynamicRotate 1 120#32 none v Facts₀.rotates_S512x128_d1) a))
    (mulf (dynamicRotate 1 8#32 none v Facts₀.rotates_S512x128_d1) b)) Facts₀.bitsLt_bf16_f32

theorem turn_apply (v c a b : FVec Ideal S512x128 .f32) (r : Fin 512) (l : Fin 128) :
    turn v c a b (ix2 r l) = v (ix2 r l) * c (ix2 r l)
      + v (ix2 r ⟨(l.val + 8) % 128, Nat.mod_lt _ (by decide)⟩) * a (ix2 r l)
      + v (ix2 r ⟨(l.val + 120) % 128, Nat.mod_lt _ (by decide)⟩) * b (ix2 r l) := by
  rw [← rotate_right v r l, ← rotate_left v r l]; rfl

/-- A block of 128 columns of a table of 512. -/
theorem cut_apply (off : ℕ) (v : FVec Ideal S512x512 .f32) (h : S512x512.Slices ![0, off] S512x128) (r : Fin 512) (l : Fin 128)
    (e : Fin 512) (he : e.val = off + l.val) : extractStridedSlice S512x128 ![0, off] v h (ix2 r l) = v (ix2 r e) :=
  extractStridedSlice_apply _ _ _ _ (ix2 r e) (fun a => by
    match a with
    | ⟨0, _⟩ => exact (Nat.zero_add _).symm
    | ⟨1, _⟩ => exact he)

/-- The three tables' rows. -/
abbrev lanes (t : Vec Ideal S512x128 .f32) (r : Fin 512) : Fin 128 → EReal := fun l => t (ix2 r l)

/-- A row of the first 1536 projections. -/
abbrev projA (x : Vec Ideal S512x1024 .f32) (g : Vec Ideal S1x1024 .f32) (w : Vec Ideal S3200x1024 .bf16) (r : Fin 512) :
    Fin 1536 → EReal := fun e => proj (rowX x r) (gain g) (fun k => w (ix2 ⟨e.val, by omega⟩ k))

/-- What the tile of queries, keys and values holds at a row and column. -/
def tileA (x : Vec Ideal S512x1024 .f32) (g : Vec Ideal S1x1024 .f32) (w : Vec Ideal S3200x1024 .bf16)
    (cv sa sb : Vec Ideal S512x128 .f32) (y : S512x1536.Idx) : EReal :=
  spun (lanes cv (y 0)) (lanes sa (y 0)) (lanes sb (y 0)) (projA x g w (y 0)) (y 1)

/-- What the second tile holds at a row and column. -/
def tileB (x : Vec Ideal S512x1024 .f32) (g : Vec Ideal S1x1024 .f32) (w : Vec Ideal S3200x1024 .bf16) (y : S512x1536.Idx) : EReal :=
  proj (rowX x (y 0)) (gain g) (fun k => w (ix2 ⟨1536 + (y 1).val, by have : (y 1).val < 1536 := (y 1).isLt; omega⟩ k))

/-- A block of rows of the weights, loaded from a row on. -/
theorem load_apply (w : Vec Ideal S3200x1024 .bf16) (n off : ℕ) (h : ∀ a, (![off, 0] : Fin 2 → ℕ) a + (![n, 1024] : Fin 2 → ℕ) a ≤ S3200x1024.size a)
    (e : Fin n) (k : Fin 1024) (i : Fin 3200) (hi : i.val = off + e.val) :
    (View.ld w (Rect.unit ![off, 0] ![n, 1024] h)) (ix2 (n0 := n) (n1 := 1024) e k) = w (ix2 i k) := by
  refine congrArg w (funext fun a => Fin.ext ?_)
  match a with
  | ⟨0, _⟩ => show off + 1 * e.val = i.val; omega
  | ⟨1, _⟩ => show 0 + 1 * k.val = k.val; omega

/-- One block of 128 columns among the rotated heads. -/
theorem block_apply (x : Vec Ideal S512x1024 .f32) (g : Vec Ideal S1x1024 .f32) (w : Vec Ideal S3200x1024 .bf16)
    (cv sa sb : Vec Ideal S512x128 .f32) (base off : ℕ) (hb : base = 0 ∨ base = 512)
    (ho : off = 0 ∨ off = 128 ∨ off = 256 ∨ off = 384)
    (h : ∀ a, (![base, 0] : Fin 2 → ℕ) a + (![512, 1024] : Fin 2 → ℕ) a ≤ S3200x1024.size a)
    (hs : S512x512.Slices ![0, off] S512x128) (r : Fin 512) (l : Fin 128) (y : S512x1536.Idx)
    (hy : y = ix2 r ⟨base + off + l.val, by omega⟩) :
    turn (extractStridedSlice S512x128 ![0, off] (k0_pay8 (k0_pay4 x g) (View.ld w (Rect.unit ![base, 0] ![512, 1024] h))) hs) cv sa sb (ix2 r l)
      = tileA x g w cv sa sb y := by
  have ht : ∀ (l' : Fin 128), extractStridedSlice S512x128 ![0, off] (k0_pay8 (k0_pay4 x g) (View.ld w (Rect.unit ![base, 0] ![512, 1024] h))) hs (ix2 r l')
      = projA x g w r ⟨base + off + l'.val, by omega⟩ := fun l' => by
    rw [cut_apply off _ hs r l' ⟨off + l'.val, by omega⟩ rfl, pay8_apply]
    refine congrArg (proj (rowX x r) (gain g)) (funext fun k => ?_)
    exact load_apply w 512 base h _ k ⟨base + off + l'.val, by omega⟩ (by show base + off + l'.val = base + (off + l'.val); omega)
  rw [turn_apply, ht, ht, ht, hy]
  unfold tileA spun
  have hlt : base + off + l.val < 1024 := by omega
  rw [dif_pos (show ((ix2 r (⟨base + off + l.val, by omega⟩ : Fin 1536) : S512x1536.Idx) 1).val < 1024 from hlt)]
  have hl : (⟨(base + off + l.val) % 128, Nat.mod_lt _ (by decide)⟩ : Fin 128) = l := Fin.ext (by
    show (base + off + l.val) % 128 = l.val; omega)
  have h1 : (⟨(base + off + l.val) / 128 * 128 + ((base + off + l.val) % 128 + 8) % 128, by omega⟩ : Fin 1536)
      = ⟨base + off + (l.val + 8) % 128, by omega⟩ := Fin.ext (by
    show (base + off + l.val) / 128 * 128 + ((base + off + l.val) % 128 + 8) % 128 = base + off + (l.val + 8) % 128; omega)
  have h2 : (⟨(base + off + l.val) / 128 * 128 + ((base + off + l.val) % 128 + 120) % 128, by omega⟩ : Fin 1536)
      = ⟨base + off + (l.val + 120) % 128, by omega⟩ := Fin.ext (by
    show (base + off + l.val) / 128 * 128 + ((base + off + l.val) % 128 + 120) % 128 = base + off + (l.val + 120) % 128; omega)
  show _ = projA x g w r ⟨base + off + l.val, _⟩ * lanes cv r ⟨(base + off + l.val) % 128, _⟩
      + projA x g w r ⟨(base + off + l.val) / 128 * 128 + ((base + off + l.val) % 128 + 8) % 128, _⟩ * lanes sa r ⟨(base + off + l.val) % 128, _⟩
      + projA x g w r ⟨(base + off + l.val) / 128 * 128 + ((base + off + l.val) % 128 + 120) % 128, _⟩ * lanes sb r ⟨(base + off + l.val) % 128, _⟩
  rw [hl, h1, h2]

/-- 512 columns of projections stored as they are. -/
theorem plain_apply (x : Vec Ideal S512x1024 .f32) (g : Vec Ideal S1x1024 .f32) (w : Vec Ideal S3200x1024 .bf16) (base : ℕ)
    (h : ∀ a, (![base, 0] : Fin 2 → ℕ) a + (![512, 1024] : Fin 2 → ℕ) a ≤ S3200x1024.size a) (r e : Fin 512) (i : Fin 3200)
    (hi : i.val = base + e.val) :
    k0_pay20 (k0_pay4 x g) (View.ld w (Rect.unit ![base, 0] ![512, 1024] h)) (ix2 r e)
      = proj (rowX x r) (gain g) (fun k => w (ix2 i k)) :=
  (pay8_apply x g _ r e).trans (congrArg (proj (rowX x r) (gain g)) (funext fun k => load_apply w 512 base h e k i hi))

end Cert.Kernel2Ideal.Front

end
-- ==== Proof.Front.Ideal.Pieces.lean ====
/-
  What each point of the launch leaves in its buffers, read off the kernel's stores over the extended reals: the tile of rotated
  queries and keys with the first values, the tile of the second projections, the tile of the running sum, and the carried row.
-/
module

public import proofs.«01_k».proof.Proof.Front.Ideal.Tile
public import Idealize.ShloMosaic.Lib.ValueIdx

public import Idealize.ShloMosaic.Lib.Pipeline.ReadBack

@[expose] public section

set_option maxRecDepth 16384

noncomputable section

namespace Cert.Kernel2Ideal.Front

open Idealize.ShloMosaic Idealize.ShloMosaic.TcCoe Idealize.ShloMosaic.ValueIdx Idealize.ShloMosaic.Tactic
open Cert.Kernel2Ideal.Gen Cert.Front

theorem zero_off : (![0, 0] : Fin 2 → Nat) = fun _ => 0 := funext fun a => by fin_cases a <;> rfl

theorem pay5_eq (v : Vec Ideal S512x128 .f32) : k0_pay5 v = v := shapeCast_self _ _
theorem pay6_eq (v : Vec Ideal S512x128 .f32) : k0_pay6 v = v := shapeCast_self _ _
theorem pay7_eq (v : Vec Ideal S512x128 .f32) : k0_pay7 v = v := shapeCast_self _ _

/-- A stored block of 128 rotated columns is that block of the tile. -/
theorem block_piece (x : Vec Ideal S512x1024 .f32) (g : Vec Ideal S1x1024 .f32) (w : Vec Ideal S3200x1024 .bf16)
    (cv sa sb : Vec Ideal S512x128 .f32) (base off col : ℕ) (hb : base = 0 ∨ base = 512)
    (ho : off = 0 ∨ off = 128 ∨ off = 256 ∨ off = 384) (hcol : col = base + off)
    (h : ∀ a, (![base, 0] : Fin 2 → ℕ) a + (![512, 1024] : Fin 2 → ℕ) a ≤ S3200x1024.size a)
    (hs : S512x512.Slices ![0, off] S512x128)
    (inb : ∀ a, (![0, col] : Fin 2 → ℕ) a + (![512, 128] : Fin 2 → ℕ) a ≤ S512x1536.size a) (z : S512x128.Idx) :
    turn (extractStridedSlice S512x128 ![0, off] (k0_pay8 (k0_pay4 x g) (View.ld w (Rect.unit ![base, 0] ![512, 1024] h))) hs) cv sa sb z
      = tileA x g w cv sa sb ((Rect.unit (s := S512x1536) ![0, col] ![512, 128] inb).emb z) := by
  obtain ⟨r, l, rfl⟩ : ∃ (r : Fin 512) (l : Fin 128), z = ix2 r l := ⟨z 0, z 1, funext fun a => by
    match a with
    | ⟨0, _⟩ => rfl
    | ⟨1, _⟩ => rfl⟩
  refine block_apply x g w cv sa sb base off hb ho h hs r l _ (funext fun a => Fin.ext ?_)
  match a with
  | ⟨0, _⟩ => show 0 + 1 * r.val = r.val; omega
  | ⟨1, _⟩ => show col + 1 * l.val = base + off + l.val; omega

/-- A stored block of 512 plain columns is that block of the first tile. -/
theorem plain_piece (x : Vec Ideal S512x1024 .f32) (g : Vec Ideal S1x1024 .f32) (w : Vec Ideal S3200x1024 .bf16)
    (cv sa sb : Vec Ideal S512x128 .f32)
    (h : ∀ a, (![1024, 0] : Fin 2 → ℕ) a + (![512, 1024] : Fin 2 → ℕ) a ≤ S3200x1024.size a)
    (inb : ∀ a, (![0, 1024] : Fin 2 → ℕ) a + (![512, 512] : Fin 2 → ℕ) a ≤ S512x1536.size a) (z : S512x512.Idx) :
    k0_pay20 (k0_pay4 x g) (View.ld w (Rect.unit ![1024, 0] ![512, 1024] h)) z
      = tileA x g w cv sa sb ((Rect.unit (s := S512x1536) ![0, 1024] ![512, 512] inb).emb z) := by
  obtain ⟨r, l, rfl⟩ : ∃ (r : Fin 512) (l : Fin 512), z = ix2 r l := ⟨z 0, z 1, funext fun a => by
    match a with
    | ⟨0, _⟩ => rfl
    | ⟨1, _⟩ => rfl⟩
  have hy : (Rect.unit (s := S512x1536) ![0, 1024] ![512, 512] inb).emb (ix2 r l : S512x512.Idx) = (ix2 r ⟨1024 + l.val, by omega⟩ : S512x1536.Idx) :=
    funext fun a => Fin.ext (by
      match a with
      | ⟨0, _⟩ => show 0 + 1 * r.val = r.val; omega
      | ⟨1, _⟩ => show 1024 + 1 * l.val = 1024 + l.val; omega)
  refine Eq.trans ?_ (congrArg (tileA x g w cv sa sb) hy).symm
  unfold tileA spun
  rw [dif_neg (show ¬((ix2 r (⟨1024 + l.val, by omega⟩ : Fin 1536) : S512x1536.Idx) 1).val < 1024 from by
    show ¬(1024 + l.val < 1024); omega)]
  exact plain_apply x g w 1024 h r l ⟨1024 + l.val, by omega⟩ rfl

/-- A stored block of 512 columns of the second tile. -/
theorem second_piece (x : Vec Ideal S512x1024 .f32) (g : Vec Ideal S1x1024 .f32) (w : Vec Ideal S3200x1024 .bf16) (base col : ℕ)
    (hcol : base = 1536 + col) (hc : col ≤ 1024)
    (h : ∀ a, (![base, 0] : Fin 2 → ℕ) a + (![512, 1024] : Fin 2 → ℕ) a ≤ S3200x1024.size a)
    (inb : ∀ a, (![0, col] : Fin 2 → ℕ) a + (![512, 512] : Fin 2 → ℕ) a ≤ S512x1536.size a) (z : S512x512.Idx) :
    k0_pay20 (k0_pay4 x g) (View.ld w (Rect.unit ![base, 0] ![512, 1024] h)) z
      = tileB x g w ((Rect.unit (s := S512x1536) ![0, col] ![512, 512] inb).emb z) := by
  obtain ⟨r, l, rfl⟩ : ∃ (r : Fin 512) (l : Fin 512), z = ix2 r l := ⟨z 0, z 1, funext fun a => by
    match a with
    | ⟨0, _⟩ => rfl
    | ⟨1, _⟩ => rfl⟩
  have hy : (Rect.unit (s := S512x1536) ![0, col] ![512, 512] inb).emb (ix2 r l : S512x512.Idx) = (ix2 r ⟨col + l.val, by omega⟩ : S512x1536.Idx) :=
    funext fun a => Fin.ext (by
      match a with
      | ⟨0, _⟩ => show 0 + 1 * r.val = r.val; omega
      | ⟨1, _⟩ => show col + 1 * l.val = col + l.val; omega)
  refine Eq.trans ?_ (congrArg (tileB x g w) hy).symm
  exact plain_apply x g w base h r l ⟨1536 + (col + l.val), by omega⟩ (by show 1536 + (col + l.val) = base + l.val; omega)

/-- The tile's part of the running sum. -/
def part (x : Vec Ideal S512x1024 .f32) (g : Vec Ideal S1x1024 .f32) (w : Vec Ideal S3200x1024 .bf16) (bf : Vec Ideal S1x128 .f32) :
    Vec Ideal S512x128 .f32 :=
  k0_pay25 (k0_pay24 (k0_pay4 x g) (View.ld w (Rect.unit ![3072, 0] ![128, 1024] Facts₀.inb_S3200x1024_S128x1024_3072_0))) bf

/-- The carried row. -/
def carried (xs : Vec Ideal S8x128 .f32) : Vec Ideal S1x128 .f32 := View.ld xs (Rect.unit ![0, 0] ![1, 128] Facts₀.inb_S8x128_S1x128_0_0)

/-- The carried row read back from a buffer just cleared. -/
theorem carried_fill {sig : RefSig} {κ : Kind} {sp : Space} (v : View sig κ sp S8x128 .f32) :
    v.readCov (Val := Elt Ideal) [(⟨Rect.unit (s := S8x128) ![0, 0] ![8, 128] Facts₀.inb_S8x128_S8x128_0_0, k0_pay1 (F := Ideal)⟩ : View.Piece (Elt Ideal) S8x128 .f32)]
      (Rect.unit (s := S8x128) ![0, 0] ![1, 128] Facts₀.inb_S8x128_S1x128_0_0).toLoadRect = carried (k0_pay1 (F := Ideal)) := by
  rw [View.readCov_eq_canon']
  rw [View.canon_unit_zero (S := S8x128) zero_off]
  rfl

/-- The first tile, at a point that starts a sequence. -/
theorem out_A_7 (c : Dev nD) (i : grid0.Coords)
    (a1 : Memref sig .tc .vmem S512x1024 .f32) (h1 : a1.IsWhole)
    (a2 : Memref sig .tc .vmem S1x1024 .f32) (h2 : a2.IsWhole)
    (a3 : Memref sig .tc .vmem S3200x1024 .bf16) (h3 : a3.IsWhole)
    (a4 : Memref sig .tc .vmem S512x128 .f32) (h4 : a4.IsWhole)
    (a5 : Memref sig .tc .vmem S512x128 .f32) (h5 : a5.IsWhole)
    (a6 : Memref sig .tc .vmem S512x128 .f32) (h6 : a6.IsWhole)
    (a7 : Memref sig .tc .vmem S1x128 .f32) (h7 : a7.IsWhole)
    (a8 : Memref sig .tc .vmem S512x1536 .bf16) (h8 : a8.IsWhole)
    (a9 : Memref sig .tc .vmem S512x1536 .bf16) (h9 : a9.IsWhole)
    (a10 : Memref sig .tc .vmem S512x128 .f32) (h10 : a10.IsWhole)
    (a11 : Memref sig .tc .vmem S512x1024 .bf16) (h11 : a11.IsWhole)
    (a12 : Memref sig .tc .vmem S8x128 .f32) (h12 : a12.IsWhole) (hc : cond0_0 i)
    (x0 : Vec Ideal S512x1024 .f32) (x1 : Vec Ideal S1x1024 .f32) (x2 : Vec Ideal S3200x1024 .bf16) (x3 x4 x5 : Vec Ideal S512x128 .f32) (x6 : Vec Ideal S1x128 .f32) (y : S512x1536.Idx) :
    out0_A_7 c i a1 h1 a2 h2 a3 h3 a4 h4 a5 h5 a6 h6 a7 h7 a8 h8 a9 h9 a10 h10 a11 h11 a12 h12 hc x0 x1 x2 x3 x4 x5 x6 y = tileA x0 x1 x2 x3 x4 x5 y := by
  unfold out0_A_7
  rw [View.read_writes_eq_canon _ _ _ (cover0_A_7 c i a1 h1 a2 h2 a3 h3 a4 h4 a5 h5 a6 h6 a7 h7 a8 h8 a9 h9 a10 h10 a11 h11 a12 h12 hc x0 x1 x2 x3 x4 x5 x6)]
  refine View.canon_apply_of_pieces (tileA x0 x1 x2 x3 x4 x5) _ ?_ y (cover0_A_7 c i a1 h1 a2 h2 a3 h3 a4 h4 a5 h5 a6 h6 a7 h7 a8 h8 a9 h9 a10 h10 a11 h11 a12 h12 hc x0 x1 x2 x3 x4 x5 x6 y)
  unfold kernelRun0_A
  dsimp only
  sl_unfold_words
  simp only [View.readCov_unit_zero (S := S512x1024) _ zero_off,  View.readAt_eq_ld, h1.read_unread, h2.read_unread, h3.read_unread, h4.read_unread,
      h5.read_unread, h6.read_unread, h7.read_unread, View.ld_unit_zero (S := S512x1024) zero_off, View.ld_unit_zero (S := S1x1024) zero_off,
      View.ld_unit_zero (S := S512x128) zero_off, View.ld_unit_zero (S := S1x128) zero_off, pay5_eq, pay6_eq, pay7_eq]
  intro p hp
  simp only [List.mem_cons, List.not_mem_nil, or_false] at hp
  rcases hp with rfl | rfl | rfl | rfl | rfl | rfl | rfl | rfl | rfl
  · exact plain_piece x0 x1 x2 x3 x4 x5 _ Facts₀.inb_S512x1536_S512x512_0_1024
  · exact block_piece x0 x1 x2 x3 x4 x5 512 384 896 (by decide) (by decide) rfl _ Facts₀.slices_S512x512_o0_384_S512x128 Facts₀.inb_S512x1536_S512x128_0_896
  · exact block_piece x0 x1 x2 x3 x4 x5 512 256 768 (by decide) (by decide) rfl _ Facts₀.slices_S512x512_o0_256_S512x128 Facts₀.inb_S512x1536_S512x128_0_768
  · exact block_piece x0 x1 x2 x3 x4 x5 512 128 640 (by decide) (by decide) rfl _ Facts₀.slices_S512x512_o0_128_S512x128 Facts₀.inb_S512x1536_S512x128_0_640
  · exact block_piece x0 x1 x2 x3 x4 x5 512 0 512 (by decide) (by decide) rfl _ Facts₀.slices_S512x512_o0_0_S512x128 Facts₀.inb_S512x1536_S512x128_0_512
  · exact block_piece x0 x1 x2 x3 x4 x5 0 384 384 (by decide) (by decide) rfl _ Facts₀.slices_S512x512_o0_384_S512x128 Facts₀.inb_S512x1536_S512x128_0_384
  · exact block_piece x0 x1 x2 x3 x4 x5 0 256 256 (by decide) (by decide) rfl _ Facts₀.slices_S512x512_o0_256_S512x128 Facts₀.inb_S512x1536_S512x128_0_256
  · exact block_piece x0 x1 x2 x3 x4 x5 0 128 128 (by decide) (by decide) rfl _ Facts₀.slices_S512x512_o0_128_S512x128 Facts₀.inb_S512x1536_S512x128_0_128
  · unfold k0_pay9
    simp only [pay5_eq, pay6_eq, pay7_eq]
    exact block_piece x0 x1 x2 x3 x4 x5 0 0 0 (by decide) (by decide) rfl _ Facts₀.slices_S512x512_o0_0_S512x128 Facts₀.inb_S512x1536_S512x128_0_0

/-- The second tile there. -/
theorem out_A_8 (c : Dev nD) (i : grid0.Coords)
    (a1 : Memref sig .tc .vmem S512x1024 .f32) (h1 : a1.IsWhole)
    (a2 : Memref sig .tc .vmem S1x1024 .f32) (h2 : a2.IsWhole)
    (a3 : Memref sig .tc .vmem S3200x1024 .bf16) (h3 : a3.IsWhole)
    (a4 : Memref sig .tc .vmem S512x128 .f32) (h4 : a4.IsWhole)
    (a5 : Memref sig .tc .vmem S512x128 .f32) (h5 : a5.IsWhole)
    (a6 : Memref sig .tc .vmem S512x128 .f32) (h6 : a6.IsWhole)
    (a7 : Memref sig .tc .vmem S1x128 .f32) (h7 : a7.IsWhole)
    (a8 : Memref sig .tc .vmem S512x1536 .bf16) (h8 : a8.IsWhole)
    (a9 : Memref sig .tc .vmem S512x1536 .bf16) (h9 : a9.IsWhole)
    (a10 : Memref sig .tc .vmem S512x128 .f32) (h10 : a10.IsWhole)
    (a11 : Memref sig .tc .vmem S512x1024 .bf16) (h11 : a11.IsWhole)
    (a12 : Memref sig .tc .vmem S8x128 .f32) (h12 : a12.IsWhole) (hc : cond0_0 i)
    (x0 : Vec Ideal S512x1024 .f32) (x1 : Vec Ideal S1x1024 .f32) (x2 : Vec Ideal S3200x1024 .bf16) (x3 x4 x5 : Vec Ideal S512x128 .f32) (x6 : Vec Ideal S1x128 .f32) (y : S512x1536.Idx) :
    out0_A_8 c i a1 h1 a2 h2 a3 h3 a4 h4 a5 h5 a6 h6 a7 h7 a8 h8 a9 h9 a10 h10 a11 h11 a12 h12 hc x0 x1 x2 x3 x4 x5 x6 y = tileB x0 x1 x2 y := by
  unfold out0_A_8
  rw [View.read_writes_eq_canon _ _ _ (cover0_A_8 c i a1 h1 a2 h2 a3 h3 a4 h4 a5 h5 a6 h6 a7 h7 a8 h8 a9 h9 a10 h10 a11 h11 a12 h12 hc x0 x1 x2 x3 x4 x5 x6)]
  refine View.canon_apply_of_pieces (tileB x0 x1 x2) _ ?_ y (cover0_A_8 c i a1 h1 a2 h2 a3 h3 a4 h4 a5 h5 a6 h6 a7 h7 a8 h8 a9 h9 a10 h10 a11 h11 a12 h12 hc x0 x1 x2 x3 x4 x5 x6 y)
  unfold kernelRun0_A
  dsimp only
  sl_unfold_words
  simp only [View.readCov_unit_zero (S := S512x1024) _ zero_off,  View.readAt_eq_ld, h1.read_unread, h2.read_unread, h3.read_unread, h4.read_unread,
      h5.read_unread, h6.read_unread, h7.read_unread, View.ld_unit_zero (S := S512x1024) zero_off, View.ld_unit_zero (S := S1x1024) zero_off,
      View.ld_unit_zero (S := S512x128) zero_off, View.ld_unit_zero (S := S1x128) zero_off, pay5_eq, pay6_eq, pay7_eq]
  intro p hp
  simp only [List.mem_cons, List.not_mem_nil, or_false] at hp
  rcases hp with rfl | rfl | rfl
  · exact second_piece x0 x1 x2 2560 1024 rfl (by decide) _ Facts₀.inb_S512x1536_S512x512_0_1024
  · exact second_piece x0 x1 x2 2048 512 rfl (by decide) _ Facts₀.inb_S512x1536_S512x512_0_512
  · exact second_piece x0 x1 x2 1536 0 rfl (by decide) _ Facts₀.inb_S512x1536_S512x512_0_0

/-- The running sum's tile there. -/
theorem out_A_9 (c : Dev nD) (i : grid0.Coords)
    (a1 : Memref sig .tc .vmem S512x1024 .f32) (h1 : a1.IsWhole)
    (a2 : Memref sig .tc .vmem S1x1024 .f32) (h2 : a2.IsWhole)
    (a3 : Memref sig .tc .vmem S3200x1024 .bf16) (h3 : a3.IsWhole)
    (a4 : Memref sig .tc .vmem S512x128 .f32) (h4 : a4.IsWhole)
    (a5 : Memref sig .tc .vmem S512x128 .f32) (h5 : a5.IsWhole)
    (a6 : Memref sig .tc .vmem S512x128 .f32) (h6 : a6.IsWhole)
    (a7 : Memref sig .tc .vmem S1x128 .f32) (h7 : a7.IsWhole)
    (a8 : Memref sig .tc .vmem S512x1536 .bf16) (h8 : a8.IsWhole)
    (a9 : Memref sig .tc .vmem S512x1536 .bf16) (h9 : a9.IsWhole)
    (a10 : Memref sig .tc .vmem S512x128 .f32) (h10 : a10.IsWhole)
    (a11 : Memref sig .tc .vmem S512x1024 .bf16) (h11 : a11.IsWhole)
    (a12 : Memref sig .tc .vmem S8x128 .f32) (h12 : a12.IsWhole) (hc : cond0_0 i)
    (x0 : Vec Ideal S512x1024 .f32) (x1 : Vec Ideal S1x1024 .f32) (x2 : Vec Ideal S3200x1024 .bf16) (x3 x4 x5 : Vec Ideal S512x128 .f32) (x6 : Vec Ideal S1x128 .f32) :
    out0_A_9 c i a1 h1 a2 h2 a3 h3 a4 h4 a5 h5 a6 h6 a7 h7 a8 h8 a9 h9 a10 h10 a11 h11 a12 h12 hc x0 x1 x2 x3 x4 x5 x6 = k0_pay2 (part x0 x1 x2 x6) (carried (k0_pay1 (F := Ideal))) := by
  unfold out0_A_9
  rw [View.read_writes_eq_canon _ _ _ (cover0_A_9 c i a1 h1 a2 h2 a3 h3 a4 h4 a5 h5 a6 h6 a7 h7 a8 h8 a9 h9 a10 h10 a11 h11 a12 h12 hc x0 x1 x2 x3 x4 x5 x6)]
  unfold kernelRun0_A
  dsimp only
  sl_unfold_words
  rw [View.canon_unit_zero (S := S512x128) zero_off]
  simp only [View.readCov_unit_zero (S := S512x1024) _ zero_off,  View.readAt_eq_ld, h1.read_unread, h2.read_unread, h3.read_unread, h4.read_unread,
      h5.read_unread, h6.read_unread, h7.read_unread, View.ld_unit_zero (S := S512x1024) zero_off, View.ld_unit_zero (S := S1x1024) zero_off,
      View.ld_unit_zero (S := S512x128) zero_off, View.ld_unit_zero (S := S1x128) zero_off, pay5_eq, pay6_eq, pay7_eq]
  exact congrArg (k0_pay2 (part x0 x1 x2 x6)) (carried_fill a12.view)

/-- The carried row left there. -/
theorem sout_A_1 (c : Dev nD) (i : grid0.Coords)
    (a1 : Memref sig .tc .vmem S512x1024 .f32) (h1 : a1.IsWhole)
    (a2 : Memref sig .tc .vmem S1x1024 .f32) (h2 : a2.IsWhole)
    (a3 : Memref sig .tc .vmem S3200x1024 .bf16) (h3 : a3.IsWhole)
    (a4 : Memref sig .tc .vmem S512x128 .f32) (h4 : a4.IsWhole)
    (a5 : Memref sig .tc .vmem S512x128 .f32) (h5 : a5.IsWhole)
    (a6 : Memref sig .tc .vmem S512x128 .f32) (h6 : a6.IsWhole)
    (a7 : Memref sig .tc .vmem S1x128 .f32) (h7 : a7.IsWhole)
    (a8 : Memref sig .tc .vmem S512x1536 .bf16) (h8 : a8.IsWhole)
    (a9 : Memref sig .tc .vmem S512x1536 .bf16) (h9 : a9.IsWhole)
    (a10 : Memref sig .tc .vmem S512x128 .f32) (h10 : a10.IsWhole)
    (a11 : Memref sig .tc .vmem S512x1024 .bf16) (h11 : a11.IsWhole)
    (a12 : Memref sig .tc .vmem S8x128 .f32) (h12 : a12.IsWhole) (hc : cond0_0 i)
    (x0 : Vec Ideal S512x1024 .f32) (x1 : Vec Ideal S1x1024 .f32) (x2 : Vec Ideal S3200x1024 .bf16) (x3 x4 x5 : Vec Ideal S512x128 .f32) (x6 : Vec Ideal S1x128 .f32) :
    sout0_A_1 c i a1 h1 a2 h2 a3 h3 a4 h4 a5 h5 a6 h6 a7 h7 a8 h8 a9 h9 a10 h10 a11 h11 a12 h12 hc x0 x1 x2 x3 x4 x5 x6 = k0_pay3 (part x0 x1 x2 x6) (carried (k0_pay1 (F := Ideal))) := by
  unfold sout0_A_1
  rw [View.read_writes_eq_canon _ _ _ (scover0_A_1 c i a1 h1 a2 h2 a3 h3 a4 h4 a5 h5 a6 h6 a7 h7 a8 h8 a9 h9 a10 h10 a11 h11 a12 h12 hc x0 x1 x2 x3 x4 x5 x6)]
  unfold kernelRun0_A
  dsimp only
  sl_unfold_words
  rw [View.canon_cons_unit_zero (S := S8x128) zero_off]
  simp only [View.readCov_unit_zero (S := S512x1024) _ zero_off,  View.readAt_eq_ld, h1.read_unread, h2.read_unread, h3.read_unread, h4.read_unread,
      h5.read_unread, h6.read_unread, h7.read_unread, View.ld_unit_zero (S := S512x1024) zero_off, View.ld_unit_zero (S := S1x1024) zero_off,
      View.ld_unit_zero (S := S512x128) zero_off, View.ld_unit_zero (S := S1x128) zero_off, pay5_eq, pay6_eq, pay7_eq]
  exact congrArg (k0_pay3 (part x0 x1 x2 x6)) (carried_fill a12.view)

/-- The first tile, at a point inside a sequence. -/
theorem out_B_7 (c : Dev nD) (i : grid0.Coords)
    (a1 : Memref sig .tc .vmem S512x1024 .f32) (h1 : a1.IsWhole)
    (a2 : Memref sig .tc .vmem S1x1024 .f32) (h2 : a2.IsWhole)
    (a3 : Memref sig .tc .vmem S3200x1024 .bf16) (h3 : a3.IsWhole)
    (a4 : Memref sig .tc .vmem S512x128 .f32) (h4 : a4.IsWhole)
    (a5 : Memref sig .tc .vmem S512x128 .f32) (h5 : a5.IsWhole)
    (a6 : Memref sig .tc .vmem S512x128 .f32) (h6 : a6.IsWhole)
    (a7 : Memref sig .tc .vmem S1x128 .f32) (h7 : a7.IsWhole)
    (a8 : Memref sig .tc .vmem S512x1536 .bf16) (h8 : a8.IsWhole)
    (a9 : Memref sig .tc .vmem S512x1536 .bf16) (h9 : a9.IsWhole)
    (a10 : Memref sig .tc .vmem S512x128 .f32) (h10 : a10.IsWhole)
    (a11 : Memref sig .tc .vmem S512x1024 .bf16) (h11 : a11.IsWhole)
    (a12 : Memref sig .tc .vmem S8x128 .f32) (h12 : a12.IsWhole) (hc : ¬cond0_0 i)
    (x0 : Vec Ideal S512x1024 .f32) (x1 : Vec Ideal S1x1024 .f32) (x2 : Vec Ideal S3200x1024 .bf16) (x3 x4 x5 : Vec Ideal S512x128 .f32) (x6 : Vec Ideal S1x128 .f32) (xs1 : Vec Ideal S8x128 .f32) (y : S512x1536.Idx) :
    out0_B_7 c i a1 h1 a2 h2 a3 h3 a4 h4 a5 h5 a6 h6 a7 h7 a8 h8 a9 h9 a10 h10 a11 h11 a12 h12 hc x0 x1 x2 x3 x4 x5 x6 xs1 y = tileA x0 x1 x2 x3 x4 x5 y := by
  unfold out0_B_7
  rw [View.read_writes_eq_canon _ _ _ (cover0_B_7 c i a1 h1 a2 h2 a3 h3 a4 h4 a5 h5 a6 h6 a7 h7 a8 h8 a9 h9 a10 h10 a11 h11 a12 h12 hc x0 x1 x2 x3 x4 x5 x6 xs1)]
  refine View.canon_apply_of_pieces (tileA x0 x1 x2 x3 x4 x5) _ ?_ y (cover0_B_7 c i a1 h1 a2 h2 a3 h3 a4 h4 a5 h5 a6 h6 a7 h7 a8 h8 a9 h9 a10 h10 a11 h11 a12 h12 hc x0 x1 x2 x3 x4 x5 x6 xs1 y)
  unfold kernelRun0_B
  dsimp only
  sl_unfold_words
  simp only [View.readCov_unit_zero (S := S512x1024) _ zero_off,  View.readAt_eq_ld, h1.read_unread, h2.read_unread, h3.read_unread, h4.read_unread,
      h5.read_unread, h6.read_unread, h7.read_unread, View.ld_unit_zero (S := S512x1024) zero_off, View.ld_unit_zero (S := S1x1024) zero_off,
      View.ld_unit_zero (S := S512x128) zero_off, View.ld_unit_zero (S := S1x128) zero_off, pay5_eq, pay6_eq, pay7_eq]
  intro p hp
  simp only [List.mem_cons, List.not_mem_nil, or_false] at hp
  rcases hp with rfl | rfl | rfl | rfl | rfl | rfl | rfl | rfl | rfl
  · exact plain_piece x0 x1 x2 x3 x4 x5 _ Facts₀.inb_S512x1536_S512x512_0_1024
  · exact block_piece x0 x1 x2 x3 x4 x5 512 384 896 (by decide) (by decide) rfl _ Facts₀.slices_S512x512_o0_384_S512x128 Facts₀.inb_S512x1536_S512x128_0_896
  · exact block_piece x0 x1 x2 x3 x4 x5 512 256 768 (by decide) (by decide) rfl _ Facts₀.slices_S512x512_o0_256_S512x128 Facts₀.inb_S512x1536_S512x128_0_768
  · exact block_piece x0 x1 x2 x3 x4 x5 512 128 640 (by decide) (by decide) rfl _ Facts₀.slices_S512x512_o0_128_S512x128 Facts₀.inb_S512x1536_S512x128_0_640
  · exact block_piece x0 x1 x2 x3 x4 x5 512 0 512 (by decide) (by decide) rfl _ Facts₀.slices_S512x512_o0_0_S512x128 Facts₀.inb_S512x1536_S512x128_0_512
  · exact block_piece x0 x1 x2 x3 x4 x5 0 384 384 (by decide) (by decide) rfl _ Facts₀.slices_S512x512_o0_384_S512x128 Facts₀.inb_S512x1536_S512x128_0_384
  · exact block_piece x0 x1 x2 x3 x4 x5 0 256 256 (by decide) (by decide) rfl _ Facts₀.slices_S512x512_o0_256_S512x128 Facts₀.inb_S512x1536_S512x128_0_256
  · exact block_piece x0 x1 x2 x3 x4 x5 0 128 128 (by decide) (by decide) rfl _ Facts₀.slices_S512x512_o0_128_S512x128 Facts₀.inb_S512x1536_S512x128_0_128
  · unfold k0_pay9
    simp only [pay5_eq, pay6_eq, pay7_eq]
    exact block_piece x0 x1 x2 x3 x4 x5 0 0 0 (by decide) (by decide) rfl _ Facts₀.slices_S512x512_o0_0_S512x128 Facts₀.inb_S512x1536_S512x128_0_0

/-- The second tile there. -/
theorem out_B_8 (c : Dev nD) (i : grid0.Coords)
    (a1 : Memref sig .tc .vmem S512x1024 .f32) (h1 : a1.IsWhole)
    (a2 : Memref sig .tc .vmem S1x1024 .f32) (h2 : a2.IsWhole)
    (a3 : Memref sig .tc .vmem S3200x1024 .bf16) (h3 : a3.IsWhole)
    (a4 : Memref sig .tc .vmem S512x128 .f32) (h4 : a4.IsWhole)
    (a5 : Memref sig .tc .vmem S512x128 .f32) (h5 : a5.IsWhole)
    (a6 : Memref sig .tc .vmem S512x128 .f32) (h6 : a6.IsWhole)
    (a7 : Memref sig .tc .vmem S1x128 .f32) (h7 : a7.IsWhole)
    (a8 : Memref sig .tc .vmem S512x1536 .bf16) (h8 : a8.IsWhole)
    (a9 : Memref sig .tc .vmem S512x1536 .bf16) (h9 : a9.IsWhole)
    (a10 : Memref sig .tc .vmem S512x128 .f32) (h10 : a10.IsWhole)
    (a11 : Memref sig .tc .vmem S512x1024 .bf16) (h11 : a11.IsWhole)
    (a12 : Memref sig .tc .vmem S8x128 .f32) (h12 : a12.IsWhole) (hc : ¬cond0_0 i)
    (x0 : Vec Ideal S512x1024 .f32) (x1 : Vec Ideal S1x1024 .f32) (x2 : Vec Ideal S3200x1024 .bf16) (x3 x4 x5 : Vec Ideal S512x128 .f32) (x6 : Vec Ideal S1x128 .f32) (xs1 : Vec Ideal S8x128 .f32) (y : S512x1536.Idx) :
    out0_B_8 c i a1 h1 a2 h2 a3 h3 a4 h4 a5 h5 a6 h6 a7 h7 a8 h8 a9 h9 a10 h10 a11 h11 a12 h12 hc x0 x1 x2 x3 x4 x5 x6 xs1 y = tileB x0 x1 x2 y := by
  unfold out0_B_8
  rw [View.read_writes_eq_canon _ _ _ (cover0_B_8 c i a1 h1 a2 h2 a3 h3 a4 h4 a5 h5 a6 h6 a7 h7 a8 h8 a9 h9 a10 h10 a11 h11 a12 h12 hc x0 x1 x2 x3 x4 x5 x6 xs1)]
  refine View.canon_apply_of_pieces (tileB x0 x1 x2) _ ?_ y (cover0_B_8 c i a1 h1 a2 h2 a3 h3 a4 h4 a5 h5 a6 h6 a7 h7 a8 h8 a9 h9 a10 h10 a11 h11 a12 h12 hc x0 x1 x2 x3 x4 x5 x6 xs1 y)
  unfold kernelRun0_B
  dsimp only
  sl_unfold_words
  simp only [View.readCov_unit_zero (S := S512x1024) _ zero_off,  View.readAt_eq_ld, h1.read_unread, h2.read_unread, h3.read_unread, h4.read_unread,
      h5.read_unread, h6.read_unread, h7.read_unread, View.ld_unit_zero (S := S512x1024) zero_off, View.ld_unit_zero (S := S1x1024) zero_off,
      View.ld_unit_zero (S := S512x128) zero_off, View.ld_unit_zero (S := S1x128) zero_off, pay5_eq, pay6_eq, pay7_eq]
  intro p hp
  simp only [List.mem_cons, List.not_mem_nil, or_false] at hp
  rcases hp with rfl | rfl | rfl
  · exact second_piece x0 x1 x2 2560 1024 rfl (by decide) _ Facts₀.inb_S512x1536_S512x512_0_1024
  · exact second_piece x0 x1 x2 2048 512 rfl (by decide) _ Facts₀.inb_S512x1536_S512x512_0_512
  · exact second_piece x0 x1 x2 1536 0 rfl (by decide) _ Facts₀.inb_S512x1536_S512x512_0_0

/-- The running sum's tile there. -/
theorem out_B_9 (c : Dev nD) (i : grid0.Coords)
    (a1 : Memref sig .tc .vmem S512x1024 .f32) (h1 : a1.IsWhole)
    (a2 : Memref sig .tc .vmem S1x1024 .f32) (h2 : a2.IsWhole)
    (a3 : Memref sig .tc .vmem S3200x1024 .bf16) (h3 : a3.IsWhole)
    (a4 : Memref sig .tc .vmem S512x128 .f32) (h4 : a4.IsWhole)
    (a5 : Memref sig .tc .vmem S512x128 .f32) (h5 : a5.IsWhole)
    (a6 : Memref sig .tc .vmem S512x128 .f32) (h6 : a6.IsWhole)
    (a7 : Memref sig .tc .vmem S1x128 .f32) (h7 : a7.IsWhole)
    (a8 : Memref sig .tc .vmem S512x1536 .bf16) (h8 : a8.IsWhole)
    (a9 : Memref sig .tc .vmem S512x1536 .bf16) (h9 : a9.IsWhole)
    (a10 : Memref sig .tc .vmem S512x128 .f32) (h10 : a10.IsWhole)
    (a11 : Memref sig .tc .vmem S512x1024 .bf16) (h11 : a11.IsWhole)
    (a12 : Memref sig .tc .vmem S8x128 .f32) (h12 : a12.IsWhole) (hc : ¬cond0_0 i)
    (x0 : Vec Ideal S512x1024 .f32) (x1 : Vec Ideal S1x1024 .f32) (x2 : Vec Ideal S3200x1024 .bf16) (x3 x4 x5 : Vec Ideal S512x128 .f32) (x6 : Vec Ideal S1x128 .f32) (xs1 : Vec Ideal S8x128 .f32) :
    out0_B_9 c i a1 h1 a2 h2 a3 h3 a4 h4 a5 h5 a6 h6 a7 h7 a8 h8 a9 h9 a10 h10 a11 h11 a12 h12 hc x0 x1 x2 x3 x4 x5 x6 xs1 = k0_pay2 (part x0 x1 x2 x6) (carried xs1) := by
  unfold out0_B_9
  rw [View.read_writes_eq_canon _ _ _ (cover0_B_9 c i a1 h1 a2 h2 a3 h3 a4 h4 a5 h5 a6 h6 a7 h7 a8 h8 a9 h9 a10 h10 a11 h11 a12 h12 hc x0 x1 x2 x3 x4 x5 x6 xs1)]
  unfold kernelRun0_B
  dsimp only
  sl_unfold_words
  rw [View.canon_unit_zero (S := S512x128) zero_off]
  simp only [View.readCov_unit_zero (S := S512x1024) _ zero_off,  View.readAt_eq_ld, h1.read_unread, h2.read_unread, h3.read_unread, h4.read_unread,
      h5.read_unread, h6.read_unread, h7.read_unread, h12.read_unread, View.ld_unit_zero (S := S512x1024) zero_off, View.ld_unit_zero (S := S1x1024) zero_off,
      View.ld_unit_zero (S := S512x128) zero_off, View.ld_unit_zero (S := S1x128) zero_off, pay5_eq, pay6_eq, pay7_eq]
  rfl

/-- The carried row left there. -/
theorem sout_B_1 (c : Dev nD) (i : grid0.Coords)
    (a1 : Memref sig .tc .vmem S512x1024 .f32) (h1 : a1.IsWhole)
    (a2 : Memref sig .tc .vmem S1x1024 .f32) (h2 : a2.IsWhole)
    (a3 : Memref sig .tc .vmem S3200x1024 .bf16) (h3 : a3.IsWhole)
    (a4 : Memref sig .tc .vmem S512x128 .f32) (h4 : a4.IsWhole)
    (a5 : Memref sig .tc .vmem S512x128 .f32) (h5 : a5.IsWhole)
    (a6 : Memref sig .tc .vmem S512x128 .f32) (h6 : a6.IsWhole)
    (a7 : Memref sig .tc .vmem S1x128 .f32) (h7 : a7.IsWhole)
    (a8 : Memref sig .tc .vmem S512x1536 .bf16) (h8 : a8.IsWhole)
    (a9 : Memref sig .tc .vmem S512x1536 .bf16) (h9 : a9.IsWhole)
    (a10 : Memref sig .tc .vmem S512x128 .f32) (h10 : a10.IsWhole)
    (a11 : Memref sig .tc .vmem S512x1024 .bf16) (h11 : a11.IsWhole)
    (a12 : Memref sig .tc .vmem S8x128 .f32) (h12 : a12.IsWhole) (hc : ¬cond0_0 i)
    (x0 : Vec Ideal S512x1024 .f32) (x1 : Vec Ideal S1x1024 .f32) (x2 : Vec Ideal S3200x1024 .bf16) (x3 x4 x5 : Vec Ideal S512x128 .f32) (x6 : Vec Ideal S1x128 .f32) (xs1 : Vec Ideal S8x128 .f32) :
    sout0_B_1 c i a1 h1 a2 h2 a3 h3 a4 h4 a5 h5 a6 h6 a7 h7 a8 h8 a9 h9 a10 h10 a11 h11 a12 h12 hc x0 x1 x2 x3 x4 x5 x6 xs1 = k0_pay3 (part x0 x1 x2 x6) (carried xs1) := by
  unfold sout0_B_1
  rw [View.read_writes_eq_canon _ _ _ (scover0_B_1 c i a1 h1 a2 h2 a3 h3 a4 h4 a5 h5 a6 h6 a7 h7 a8 h8 a9 h9 a10 h10 a11 h11 a12 h12 hc x0 x1 x2 x3 x4 x5 x6 xs1)]
  unfold kernelRun0_B
  dsimp only
  sl_unfold_words
  rw [View.canon_unit_zero (S := S8x128) zero_off]
  simp only [View.readCov_unit_zero (S := S512x1024) _ zero_off,  View.readAt_eq_ld, h1.read_unread, h2.read_unread, h3.read_unread, h4.read_unread,
      h5.read_unread, h6.read_unread, h7.read_unread, h12.read_unread, View.ld_unit_zero (S := S512x1024) zero_off, View.ld_unit_zero (S := S1x1024) zero_off,
      View.ld_unit_zero (S := S512x128) zero_off, View.ld_unit_zero (S := S1x128) zero_off, pay5_eq, pay6_eq, pay7_eq]
  rfl

end Cert.Kernel2Ideal.Front

end
-- ==== Proof.Front.Ideal.Gate.lean ====
/-
  The running sum inside one tile of 512 rows, element by element over the extended reals: the forget logarithms of the first eight
  lanes, summed down the rows by a product with a triangle of ones, in three parts that together are the whole.
-/
module

public import proofs.«01_k».proof.Proof.Front.Ideal.Tile

@[expose] public section

noncomputable section

namespace Cert.Kernel2Ideal.Front

open Idealize.ShloMosaic Idealize.ShloMosaic.TcCoe Idealize.ShloMosaic.ValueIdx
open Cert.Kernel2Ideal.Gen Cert.Front

/-- The forget logarithms of a tile, zero past the eighth lane. -/
def gateTile (v : FVec Ideal S512x128 .f32) (bf : Vec Ideal S1x128 .f32) : FVec Ideal S512x128 .f32 :=
  have z : FVec Ideal S512x128 .f32 := addf v (broadcastTo S512x128 bf Facts₀.broadcasts_S1x128_S512x128 : FVec Ideal S512x128 .f32)
  have o : FVec Ideal S512x128 .f32 := broadcast S512x128 (Scalar.ofBits (F := Ideal) .f32 0x00000000#32)
  select (cmpi .slt (iota .tc S512x128 32 [1] Facts₀.iota_S512x128_d1_w32) (broadcast S512x128 8#32))
    (mulf (subf (minimumf z o) (log1p (exp (subf o (absf z))))) (broadcast S512x128 (Scalar.ofBits (F := Ideal) .f32 0x3FB8AA3B#32))) o

/-- The triangle of ones. -/
def triangle : FVec Ideal S512x512 .bf16 :=
  truncf .bf16 (sitofp .f32 (extui 32 (cmpi .sge (iota .tc S512x512 32 [0] Facts₀.iota_S512x512_d0_w32)
    (iota .tc S512x512 32 [1] Facts₀.iota_S512x512_d1_w32)) Facts₀.natLt_1_32) : FVec Ideal S512x512 .f32) Facts₀.bitsLt_bf16_f32

theorem triangle_apply (r s : Fin 512) : triangle (ix2 r s) = if s.val ≤ r.val then (1 : EReal) else 0 := by
  unfold triangle
  show ((((((cmpi .sge (iota .tc S512x512 32 [0] Facts₀.iota_S512x512_d0_w32)
    (iota .tc S512x512 32 [1] Facts₀.iota_S512x512_d1_w32)) (ix2 r s)).setWidth 32).toInt : ℤ) : ℝ) : EReal) = _
  have h0 : iota .tc S512x512 32 [0] Facts₀.iota_S512x512_d0_w32 (ix2 r s) = BitVec.ofNat 32 r.val := iota_single_apply _ _ _ _ _ _
  have h1 : iota .tc S512x512 32 [1] Facts₀.iota_S512x512_d1_w32 (ix2 r s) = BitVec.ofNat 32 s.val := iota_single_apply _ _ _ _ _ _
  have hc : (cmpi .sge (iota .tc S512x512 32 [0] Facts₀.iota_S512x512_d0_w32)
      (iota .tc S512x512 32 [1] Facts₀.iota_S512x512_d1_w32)) (ix2 r s) = BitVec.ofBool (decide (s.val ≤ r.val)) := by
    show IntOp.cmpi .sge (iota .tc S512x512 32 [0] Facts₀.iota_S512x512_d0_w32 (ix2 r s)) (iota .tc S512x512 32 [1] Facts₀.iota_S512x512_d1_w32 (ix2 r s)) = _
    rw [h0, h1]
    have hr := r.isLt
    have hs := s.isLt
    simp only [IntOp.cmpi]
    congr 1
    rw [BitVec.sle_eq_decide]
    refine decide_eq_decide.mpr ?_
    simp only [BitVec.toInt_eq_toNat_cond, BitVec.toNat_ofNat]
    have e1 : r.val % 2 ^ 32 = r.val := Nat.mod_eq_of_lt (by omega)
    have e2 : s.val % 2 ^ 32 = s.val := Nat.mod_eq_of_lt (by omega)
    rw [e1, e2, if_pos (by omega), if_pos (by omega)]
    omega
  rw [hc]
  by_cases h : s.val ≤ r.val
  · rw [if_pos h, decide_eq_true h]
    show ((((1#32 : BitVec 32).toInt : ℤ) : ℝ) : EReal) = 1
    simp
  · rw [if_neg h, decide_eq_false h]
    show ((((0#32 : BitVec 32).toInt : ℤ) : ℝ) : EReal) = 0
    simp

/-- A row spread over the tile. -/
theorem spread (bf : Vec Ideal S1x128 .f32) (r : Fin 512) (l : Fin 128) :
    (broadcastTo S512x128 bf Facts₀.broadcasts_S1x128_S512x128 : FVec Ideal S512x128 .f32) (ix2 r l) = bf (ix2 0 l) :=
  broadcastTo_apply (t := S512x128) bf _ (ix2 r l) (ix2 0 l) (fun a => by
    match a with
    | ⟨0, _⟩ => rfl
    | ⟨1, _⟩ => rfl)

theorem gateTile_apply (v : FVec Ideal S512x128 .f32) (bf : Vec Ideal S1x128 .f32) (r : Fin 512) (l : Fin 128) :
    gateTile v bf (ix2 r l) = if l.val < 8 then logForget (v (ix2 r l) + bf (ix2 0 l)) else 0 := by
  have h1 : iota .tc S512x128 32 [1] Facts₀.iota_S512x128_d1_w32 (ix2 r l) = BitVec.ofNat 32 l.val := iota_single_apply _ _ _ _ _ _
  have hc : (cmpi .slt (iota .tc S512x128 32 [1] Facts₀.iota_S512x128_d1_w32) (broadcast S512x128 8#32)) (ix2 r l)
      = BitVec.ofBool (decide (l.val < 8)) := by
    show IntOp.cmpi .slt (iota .tc S512x128 32 [1] Facts₀.iota_S512x128_d1_w32 (ix2 r l)) 8#32 = _
    rw [h1]
    have hl := l.isLt
    simp only [IntOp.cmpi]
    congr 1
    rw [BitVec.slt_eq_decide]
    refine decide_eq_decide.mpr ?_
    simp only [BitVec.toInt_eq_toNat_cond, BitVec.toNat_ofNat]
    have e1 : l.val % 2 ^ 32 = l.val := Nat.mod_eq_of_lt (by omega)
    rw [e1, if_pos (by omega)]
    norm_num
  unfold gateTile
  dsimp only
  show Scalar.select ((cmpi .slt (iota .tc S512x128 32 [1] Facts₀.iota_S512x128_d1_w32) (broadcast S512x128 8#32)) (ix2 r l))
    ((min (v (ix2 r l) + (broadcastTo S512x128 bf Facts₀.broadcasts_S1x128_S512x128 : FVec Ideal S512x128 .f32) (ix2 r l)) (Ideal.ofBits .f32 0x00000000#32)
      - Ideal.log1p (Ideal.exp (Ideal.ofBits .f32 0x00000000#32
        - max (v (ix2 r l) + (broadcastTo S512x128 bf Facts₀.broadcasts_S1x128_S512x128 : FVec Ideal S512x128 .f32) (ix2 r l))
          (-(v (ix2 r l) + (broadcastTo S512x128 bf Facts₀.broadcasts_S1x128_S512x128 : FVec Ideal S512x128 .f32) (ix2 r l))))))
      * Ideal.ofBits .f32 0x3FB8AA3B#32) (Ideal.ofBits .f32 0x00000000#32) = _
  rw [hc, spread, Ideal.ofBits_zero_f32]
  by_cases h : l.val < 8
  · rw [if_pos h, decide_eq_true h]; rfl
  · rw [if_neg h, decide_eq_false h]; rfl

/-- A half of the two tables' product. -/
theorem half_apply (v : FVec Ideal S512x256 .f32) (off : ℕ) (h : S512x256.Slices ![0, off] S512x128) (r : Fin 512) (l : Fin 128)
    (e : Fin 256) (he : e.val = off + l.val) : extractStridedSlice S512x128 ![0, off] v h (ix2 r l) = v (ix2 r e) :=
  extractStridedSlice_apply _ _ _ _ (ix2 r e) (fun a => by
    match a with
    | ⟨0, _⟩ => exact (Nat.zero_add _).symm
    | ⟨1, _⟩ => exact he)

/-- The tile's part of the running sum, element by element. -/
theorem pay25_apply (v : FVec Ideal S512x128 .f32) (bf : Vec Ideal S1x128 .f32) (r : Fin 512) (l : Fin 128) :
    k0_pay25 v bf (ix2 r l) = ∑ s : Fin 512, (if s.val ≤ r.val then (1 : EReal) else 0)
      * (if l.val < 8 then logForget (v (ix2 s l) + bf (ix2 0 l)) else 0) := by
  have hdef : k0_pay25 v bf =
      (have a : FVec Ideal S512x128 .f32 := gateTile v bf
       have hi : FVec Ideal S512x128 .bf16 := truncf .bf16 a Facts₀.bitsLt_bf16_f32
       have m : FVec Ideal S512x128 .f32 := subf a (extf .f32 hi Facts₀.bitsLt_bf16_f32)
       have mid : FVec Ideal S512x128 .bf16 := truncf .bf16 m Facts₀.bitsLt_bf16_f32
       have lo : FVec Ideal S512x128 .bf16 := truncf .bf16 (subf m (extf .f32 mid Facts₀.bitsLt_bf16_f32) : FVec Ideal S512x128 .f32) Facts₀.bitsLt_bf16_f32
       have p : FVec Ideal S512x256 .f32 := matmul dot_S512x512_S512x256_S512x256_1_0_0_1_n_n none triangle
        (concatenate S512x256 1 [⟨S512x128, hi⟩, ⟨S512x128, mid⟩] Facts₀.concatenates_S512x128_S512x128_S512x256_d1) (constant S512x256 .f32 0x00000000#32)
       addf (addf (extractStridedSlice S512x128 ![0, 0] p Facts₀.slices_S512x256_o0_0_S512x128 : FVec Ideal S512x128 .f32)
          (extractStridedSlice S512x128 ![0, 128] p Facts₀.slices_S512x256_o0_128_S512x128))
        (matmul dot_S512x512_S512x128_S512x128_1_0_0_1_n_n none triangle lo (constant S512x128 .f32 0x00000000#32))) := rfl
  rw [hdef]
  dsimp only
  refine Eq.trans (congrArg₂ (· + ·) (congrArg₂ (· + ·) (half_apply _ 0 _ r l ⟨l.val, by omega⟩ (by show l.val = 0 + l.val; omega))
    (half_apply _ 128 _ r l ⟨128 + l.val, by omega⟩ rfl)) (product_one _ _ r l)) ?_
  rw [product_two, product_two]
  have e1 : ∀ (a b : FVec Ideal S512x128 .bf16) (k : Fin 512),
      concatenate S512x256 1 [⟨S512x128, a⟩, ⟨S512x128, b⟩] Facts₀.concatenates_S512x128_S512x128_S512x256_d1 (ix2 k (⟨l.val, by omega⟩ : Fin 256)) = a (ix2 k l) :=
    fun a b k => concatenate_pair_apply_left (t := S512x256) 1 a b _ _ rfl (ix2 k l) (fun c => by
      match c with
      | ⟨0, _⟩ => rfl
      | ⟨1, _⟩ => rfl)
  have e2 : ∀ (a b : FVec Ideal S512x128 .bf16) (k : Fin 512),
      concatenate S512x256 1 [⟨S512x128, a⟩, ⟨S512x128, b⟩] Facts₀.concatenates_S512x128_S512x128_S512x256_d1 (ix2 k (⟨128 + l.val, by omega⟩ : Fin 256)) = b (ix2 k l) :=
    fun a b k => concatenate_pair_apply_right (t := S512x256) 1 a b _ _ rfl rfl (ix2 k l) (fun c => by
      match c with
      | ⟨0, _⟩ => exact fun _ => rfl
      | ⟨1, _⟩ => exact fun hn => absurd rfl hn) (by show l.val + 128 = 128 + l.val; omega)
  simp only [e1, e2, triangle_apply]
  refine Eq.trans ?_ (Finset.sum_congr rfl fun s _ => congrArg _ (gateTile_apply v bf s l))
  exact split_sum Finset.univ (fun s : Fin 512 => if s.val ≤ r.val then (1 : EReal) else 0) (fun s => gateTile v bf (ix2 s l))
    (fun s => by
      by_cases h : s.val ≤ r.val
      · exact Or.inr (if_pos h)
      · exact Or.inl (if_neg h))
    (fun s => by
      show gateTile v bf (ix2 s l) ≠ ⊤
      rw [gateTile_apply]
      by_cases h : l.val < 8
      · rw [if_pos h]; exact logForget_ne_top _
      · rw [if_neg h]; exact EReal.zero_ne_top)

/-- The forget projection of a tile. -/
theorem pay24_apply (x : Vec Ideal S512x1024 .f32) (g : Vec Ideal S1x1024 .f32) (w : Vec Ideal S3200x1024 .bf16)
    (h : ∀ a, (![3072, 0] : Fin 2 → ℕ) a + (![128, 1024] : Fin 2 → ℕ) a ≤ S3200x1024.size a) (r : Fin 512) (l : Fin 128) :
    k0_pay24 (k0_pay4 x g) (View.ld w (Rect.unit ![3072, 0] ![128, 1024] h)) (ix2 r l)
      = proj (rowX x r) (gain g) (fun k => w (ix2 (⟨3072 + l.val, by omega⟩ : Fin 3200) k)) := by
  unfold k0_pay24
  rw [product_gate]
  unfold proj
  refine Finset.sum_congr rfl fun k _ => ?_
  rw [pay4_apply]
  exact congrArg _ (load_apply w 128 3072 h l k ⟨3072 + l.val, by omega⟩ rfl)

theorem pay2_apply (p : FVec Ideal S512x128 .f32) (c : Vec Ideal S1x128 .f32) (r : Fin 512) (l : Fin 128) :
    k0_pay2 p c (ix2 r l) = p (ix2 r l) + c (ix2 0 l) := by
  show p (ix2 r l) + (broadcastTo S512x128 c Facts₀.broadcasts_S1x128_S512x128 : FVec Ideal S512x128 .f32) (ix2 r l) = _
  rw [spread]

/-- The carried row is the tile's last row of the running sum. -/
theorem pay3_apply (p : FVec Ideal S512x128 .f32) (c : Vec Ideal S1x128 .f32) (q : Fin 8) (l : Fin 128) :
    k0_pay3 p c (ix2 q l) = k0_pay2 p c (ix2 511 l) := by
  unfold k0_pay3
  rw [shapeCast_self, shapeCast_self]
  refine (broadcastTo_apply (t := S8x128) _ _ (ix2 q l) (ix2 0 l) (fun a => by
    match a with
    | ⟨0, _⟩ => rfl
    | ⟨1, _⟩ => rfl)).trans ?_
  exact extractStridedSlice_apply _ _ _ _ (ix2 511 l) (fun a => by
    match a with
    | ⟨0, _⟩ => rfl
    | ⟨1, _⟩ => exact (Nat.zero_add _).symm)

theorem pay1_apply (y : S8x128.Idx) : k0_pay1 (F := Ideal) y = 0 := by
  unfold k0_pay1
  rw [shapeCast_self]
  exact Ideal.ofBits_zero_f32

end Cert.Kernel2Ideal.Front

end
-- ==== Proof.Front.Ideal.Tables.lean ====
/-
  The tables of factors the host lays out before the launch, element by element over the extended reals: from the cosines and sines
  of eight frequencies, a table over the 128 lanes of a pair of heads for the lane itself, the lane eight to the right, and the lane
  eight to the left.
-/
module

public import proofs.«01_k».proof.Proof.Front.Ideal.Tile
public import Idealize.ShloMosaic.Lib.StableHlo.Run

@[expose] public section

noncomputable section

namespace Cert.Kernel2Ideal.Front

open Idealize.ShloMosaic Idealize.ShloMosaic.TcCoe Idealize.ShloMosaic.ValueIdx
open Cert.Kernel2Ideal.Gen Cert.Front

/-- Three tables side by side, of 8, 8 and 48 lanes. -/
def three (a b : Vec Ideal S4096x8 .f32) (d : Vec Ideal S4096x48 .f32) : Vec Ideal S4096x64 .f32 :=
  concatenate S4096x64 1 [⟨S4096x8, a⟩, ⟨S4096x8, b⟩, ⟨S4096x48, d⟩] Facts₀.concatenates_S4096x8_S4096x8_S4096x48_S4096x64_d1
/-- A table of 64 lanes beside itself. -/
def twice (v : Vec Ideal S4096x64 .f32) : Vec Ideal S4096x128 .f32 :=
  concatenate S4096x128 1 [⟨S4096x64, v⟩, ⟨S4096x64, v⟩] Facts₀.concatenates_S4096x64_S4096x64_S4096x128_d1

theorem three_first (a b : Vec Ideal S4096x8 .f32) (d : Vec Ideal S4096x48 .f32) (r : Fin 4096) (l : Fin 64) (h : l.val < 8) :
    three a b d (ix2 r l) = a (ix2 r ⟨l.val, h⟩) :=
  concatenate_apply_piece (t := S4096x64) 1 _ _ (ix2 r l) 0 (by show 0 < 3; decide) S4096x8 a rfl rfl 0 rfl (ix2 r ⟨l.val, h⟩) (fun c => by
    match c with
    | ⟨0, _⟩ => exact fun _ => rfl
    | ⟨1, _⟩ => exact fun hn => absurd rfl hn) (by show 0 + l.val = l.val; omega)
theorem three_second (a b : Vec Ideal S4096x8 .f32) (d : Vec Ideal S4096x48 .f32) (r : Fin 4096) (l : Fin 64) (h8 : ¬l.val < 8)
    (h : l.val < 16) : three a b d (ix2 r l) = b (ix2 r ⟨l.val - 8, by omega⟩) :=
  concatenate_apply_piece (t := S4096x64) 1 _ _ (ix2 r l) 1 (by show 1 < 3; decide) S4096x8 b rfl rfl 8 rfl (ix2 r ⟨l.val - 8, by omega⟩) (fun c => by
    match c with
    | ⟨0, _⟩ => exact fun _ => rfl
    | ⟨1, _⟩ => exact fun hn => absurd rfl hn) (by show 8 + (l.val - 8) = l.val; omega)
theorem three_third (a b : Vec Ideal S4096x8 .f32) (d : Vec Ideal S4096x48 .f32) (r : Fin 4096) (l : Fin 64) (h : ¬l.val < 16) :
    three a b d (ix2 r l) = d (ix2 r ⟨l.val - 16, by omega⟩) :=
  concatenate_apply_piece (t := S4096x64) 1 _ _ (ix2 r l) 2 (by show 2 < 3; decide) S4096x48 d rfl rfl 16 rfl (ix2 r ⟨l.val - 16, by omega⟩) (fun c => by
    match c with
    | ⟨0, _⟩ => exact fun _ => rfl
    | ⟨1, _⟩ => exact fun hn => absurd rfl hn) (by show 16 + (l.val - 16) = l.val; omega)

theorem twice_apply (v : Vec Ideal S4096x64 .f32) (r : Fin 4096) (l : Fin 128) :
    twice v (ix2 r l) = v (ix2 r ⟨l.val % 64, Nat.mod_lt _ (by decide)⟩) := by
  by_cases h : l.val < 64
  · exact concatenate_pair_apply_left (t := S4096x128) 1 v v _ _ rfl _ (fun c => by
      match c with
      | ⟨0, _⟩ => rfl
      | ⟨1, _⟩ => show l.val % 64 = l.val; omega)
  · exact concatenate_pair_apply_right (t := S4096x128) 1 v v _ _ rfl rfl _ (fun c => by
      match c with
      | ⟨0, _⟩ => exact fun _ => rfl
      | ⟨1, _⟩ => exact fun hn => absurd rfl hn) (by show l.val % 64 + 64 = l.val; omega)

section
variable (m : (ℓ : Loc nD τ sig) → Buf (Elt Ideal) ℓ) (c : Dev nD)

/-- The cosines and sines of a place in the sequence. -/
abbrev cosA : Vec Ideal S4096x8 .f32 := m ((c : Thread nD τ).loc main_arg3)
abbrev sinA : Vec Ideal S4096x8 .f32 := m ((c : Thread nD τ).loc main_arg4)

/-- A table negated. -/
def negated (v : FVec Ideal S4096x8 .f32) : FVec Ideal S4096x8 .f32 := Host.negf v
def zeros48 : Vec Ideal S4096x48 .f32 := broadcastInDim S4096x48 ![] Facts₀.bcast_S_S4096x48 (constant S_ .f32 0x00000000#32 : FVec Ideal S_ .f32)
def ones48 : Vec Ideal S4096x48 .f32 := broadcastInDim S4096x48 ![] Facts₀.bcast_S_S4096x48 (constant S_ .f32 0x3F800000#32 : FVec Ideal S_ .f32)
def zeros8 : Vec Ideal S4096x8 .f32 := broadcastInDim S4096x8 ![] Facts₀.bcast_S_S4096x8 (constant S_ .f32 0x00000000#32 : FVec Ideal S_ .f32)

theorem V_cos : V m c main_v7 = twice (three (cosA m c) (cosA m c) ones48) := by
  show StableHlo.after hostOps0 (fun b => m (c, b)) (Proc.devRef .tc main_v7) = _
  after_results
  rfl
theorem V_right : V m c main_v8 = twice (three (negated (sinA m c)) zeros8 zeros48) := by
  show StableHlo.after hostOps0 (fun b => m (c, b)) (Proc.devRef .tc main_v8) = _
  after_results
  rfl
theorem V_left : V m c main_v9 = twice (three zeros8 (sinA m c) zeros48) := by
  show StableHlo.after hostOps0 (fun b => m (c, b)) (Proc.devRef .tc main_v9) = _
  after_results
  rfl

theorem ones48_apply (y : S4096x48.Idx) : ones48 y = 1 := by
  show Ideal.ofBits .f32 0x3F800000#32 = 1
  simp [Ideal.ofBits, Ideal.ieee]
  rw [← EReal.coe_mul]
  norm_num
theorem zeros48_apply (y : S4096x48.Idx) : zeros48 y = 0 := Ideal.ofBits_zero_f32
theorem zeros8_apply (y : S4096x8.Idx) : zeros8 y = 0 := Ideal.ofBits_zero_f32

/-- The first table holds the cosine in the sixteen rotated lanes and one elsewhere. -/
theorem cos_apply (r : Fin 4096) (l : Fin 128) : V m c main_v7 (ix2 r l) = tabC (fun k => cosA m c (ix2 r k)) l := by
  rw [V_cos, twice_apply]
  unfold tabC
  by_cases h8 : l.val % 64 < 8
  · rw [dif_pos h8]; exact three_first _ _ _ r _ h8
  · rw [dif_neg h8]
    by_cases h16 : l.val % 64 < 16
    · rw [dif_pos h16]; exact three_second _ _ _ r _ h8 h16
    · rw [dif_neg h16]; exact (three_third _ _ _ r _ h16).trans (ones48_apply _)
/-- The second holds the sine negated in the first eight lanes. -/
theorem right_apply (r : Fin 4096) (l : Fin 128) : V m c main_v8 (ix2 r l) = tabR (fun k => sinA m c (ix2 r k)) l := by
  rw [V_right, twice_apply]
  unfold tabR
  by_cases h8 : l.val % 64 < 8
  · rw [dif_pos h8]; exact three_first _ _ _ r _ h8
  · rw [dif_neg h8]
    by_cases h16 : l.val % 64 < 16
    · exact (three_second _ _ _ r _ h8 h16).trans (zeros8_apply _)
    · exact (three_third _ _ _ r _ h16).trans (zeros48_apply _)
/-- The third holds the sine in the next eight. -/
theorem left_apply (r : Fin 4096) (l : Fin 128) : V m c main_v9 (ix2 r l) = tabL (fun k => sinA m c (ix2 r k)) l := by
  rw [V_left, twice_apply]
  unfold tabL
  by_cases h8 : l.val % 64 < 8
  · rw [dif_pos h8]; exact (three_first _ _ _ r _ h8).trans (zeros8_apply _)
  · rw [dif_neg h8]
    by_cases h16 : l.val % 64 < 16
    · rw [dif_pos h16]; exact three_second _ _ _ r _ h8 h16
    · rw [dif_neg h16]; exact (three_third _ _ _ r _ h16).trans (zeros48_apply _)

end

end Cert.Kernel2Ideal.Front

end
-- ==== Proof.Front.Ideal.Result.lean ====
/-
  The launch's three result arrays, element by element over the extended reals: the rotated queries and keys with the first values,
  the second projections, and the running sum of the forget logarithms along each sequence.
-/
module

public import proofs.«01_k».proof.Proof.Front.Ideal.Pieces
public import proofs.«01_k».proof.Proof.Front.Ideal.Gate
public import proofs.«01_k».proof.Proof.Front.Ideal.Tables

@[expose] public section

noncomputable section

namespace Cert.Kernel2Ideal.Front

open Idealize.ShloMosaic Idealize.ShloMosaic.TcCoe Idealize.ShloMosaic.ValueIdx
open Idealize.ShloMosaic.Pipeline (Dat Cfg Window)
open Cert.Kernel2Ideal.Gen Cert.Front

variable (m : (ℓ : Loc nD τ sig) → Buf (Elt Ideal) ℓ) (c : Dev nD)

/-- The argument arrays by name. -/
abbrev inputA : Vec Ideal S16384x1024 .f32 := m ((c : Thread nD τ).loc main_arg0)
abbrev gainA : Vec Ideal S1x1024 .f32 := m ((c : Thread nD τ).loc main_arg1)
abbrev weightA : Vec Ideal S3200x1024 .bf16 := m ((c : Thread nD τ).loc main_arg2)
abbrev biasA : Vec Ideal S1x128 .f32 := m ((c : Thread nD τ).loc main_arg5)

theorem points (t : Fin cfg0.N) : t.val < 32 := lt_of_lt_of_eq t.isLt N_0

theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![0, 0] := (by decide +kernel : ∀ t : Fin grid0.N, win0_2.index t = ![0, 0])
theorem index_3 : ∀ t : Fin cfg0.N, win0_3.index t = ![t.val % 8, 0] := (by decide +kernel : ∀ t : Fin grid0.N, win0_3.index t = ![t.val % 8, 0])
theorem index_4 : ∀ t : Fin cfg0.N, win0_4.index t = ![t.val % 8, 0] := (by decide +kernel : ∀ t : Fin grid0.N, win0_4.index t = ![t.val % 8, 0])
theorem index_5 : ∀ t : Fin cfg0.N, win0_5.index t = ![t.val % 8, 0] := (by decide +kernel : ∀ t : Fin grid0.N, win0_5.index t = ![t.val % 8, 0])
theorem index_6 : ∀ t : Fin cfg0.N, win0_6.index t = ![0, 0] := (by decide +kernel : ∀ t : Fin grid0.N, win0_6.index t = ![0, 0])

/-- The row of the input a tile's row is. -/
def rowOf (t : Fin cfg0.N) (r : Fin 512) : Fin 16384 := ⟨t.val * 512 + r.val, by have := points t; omega⟩
/-- The place in its sequence of a tile's row. -/
def placeOf (t : Fin cfg0.N) (r : Fin 512) : Fin 4096 := ⟨t.val % 8 * 512 + r.val, by omega⟩

theorem block_0 (t : Fin cfg0.N) (r : Fin 512) (k : Fin 1024) : (iblk m c 0 t : Vec Ideal S512x1024 .f32) (ix2 r k) = inputA m c (ix2 (rowOf t r) k) := by
  refine Eq.trans (congrArg (V m c main_arg0) (funext fun a => Fin.ext ?_)) (congrFun (V_main_arg0 m c) _)
  refine (Window.rect_emb_val (cfg0.win 0) t (ix2 r k) a).trans ?_
  rw [show (cfg0.win 0).index t = ![t.val, 0] from index_0 t]
  match a with
  | ⟨0, _⟩ => rfl
  | ⟨1, _⟩ => exact Nat.zero_add _
theorem block_1 (t : Fin cfg0.N) (r : Fin 1) (k : Fin 1024) : (iblk m c 1 t : Vec Ideal S1x1024 .f32) (ix2 r k) = gainA m c (ix2 r k) := by
  refine Eq.trans (congrArg (V m c main_arg1) (funext fun a => Fin.ext ?_)) (congrFun (V_main_arg1 m c) _)
  refine (Window.rect_emb_val (cfg0.win 1) t (ix2 r k) a).trans ?_
  rw [show (cfg0.win 1).index t = ![0, 0] from index_1 t]
  match a with
  | ⟨0, _⟩ => exact Nat.zero_add _
  | ⟨1, _⟩ => exact Nat.zero_add _
theorem block_2 (t : Fin cfg0.N) (r : Fin 3200) (k : Fin 1024) : (iblk m c 2 t : Vec Ideal S3200x1024 .bf16) (ix2 r k) = weightA m c (ix2 r k) := by
  refine Eq.trans (congrArg (V m c main_arg2) (funext fun a => Fin.ext ?_)) (congrFun (V_main_arg2 m c) _)
  refine (Window.rect_emb_val (cfg0.win 2) t (ix2 r k) a).trans ?_
  rw [show (cfg0.win 2).index t = ![0, 0] from index_2 t]
  match a with
  | ⟨0, _⟩ => show 0 * 3200 + r.val = r.val; omega
  | ⟨1, _⟩ => exact Nat.zero_add _
theorem block_3 (t : Fin cfg0.N) (r : Fin 512) (l : Fin 128) :
    (iblk m c 3 t : Vec Ideal S512x128 .f32) (ix2 r l) = tabC (fun k => cosA m c (ix2 (placeOf t r) k)) l := by
  refine Eq.trans (congrArg (V m c main_v7) (funext fun a => Fin.ext ?_)) (cos_apply m c (placeOf t r) l)
  refine (Window.rect_emb_val (cfg0.win 3) t (ix2 r l) a).trans ?_
  rw [show (cfg0.win 3).index t = ![t.val % 8, 0] from index_3 t]
  match a with
  | ⟨0, _⟩ => rfl
  | ⟨1, _⟩ => exact Nat.zero_add _
theorem block_4 (t : Fin cfg0.N) (r : Fin 512) (l : Fin 128) :
    (iblk m c 4 t : Vec Ideal S512x128 .f32) (ix2 r l) = tabR (fun k => sinA m c (ix2 (placeOf t r) k)) l := by
  refine Eq.trans (congrArg (V m c main_v8) (funext fun a => Fin.ext ?_)) (right_apply m c (placeOf t r) l)
  refine (Window.rect_emb_val (cfg0.win 4) t (ix2 r l) a).trans ?_
  rw [show (cfg0.win 4).index t = ![t.val % 8, 0] from index_4 t]
  match a with
  | ⟨0, _⟩ => rfl
  | ⟨1, _⟩ => exact Nat.zero_add _
theorem block_5 (t : Fin cfg0.N) (r : Fin 512) (l : Fin 128) :
    (iblk m c 5 t : Vec Ideal S512x128 .f32) (ix2 r l) = tabL (fun k => sinA m c (ix2 (placeOf t r) k)) l := by
  refine Eq.trans (congrArg (V m c main_v9) (funext fun a => Fin.ext ?_)) (left_apply m c (placeOf t r) l)
  refine (Window.rect_emb_val (cfg0.win 5) t (ix2 r l) a).trans ?_
  rw [show (cfg0.win 5).index t = ![t.val % 8, 0] from index_5 t]
  match a with
  | ⟨0, _⟩ => rfl
  | ⟨1, _⟩ => exact Nat.zero_add _
theorem block_6 (t : Fin cfg0.N) (r : Fin 1) (l : Fin 128) : (iblk m c 6 t : Vec Ideal S1x128 .f32) (ix2 r l) = biasA m c (ix2 r l) := by
  refine Eq.trans (congrArg (V m c main_arg5) (funext fun a => Fin.ext ?_)) (congrFun (V_main_arg5 m c) _)
  refine (Window.rect_emb_val (cfg0.win 6) t (ix2 r l) a).trans ?_
  rw [show (cfg0.win 6).index t = ![0, 0] from index_6 t]
  match a with
  | ⟨0, _⟩ => exact Nat.zero_add _
  | ⟨1, _⟩ => exact Nat.zero_add _

/-! ## What the arrays are to hold -/

/-- One output of the projection of one row of the input. -/
def projOf (i : Fin 16384) (e : Fin 3200) : EReal :=
  proj (fun k => inputA m c (ix2 i k)) (fun k => gainA m c (ix2 0 k)) (fun k => weightA m c (ix2 e k))

/-- The place of a row in its sequence. -/
def place (i : Fin 16384) : Fin 4096 := ⟨i.val % 4096, Nat.mod_lt _ (by decide)⟩

/-- The first array. -/
def firstAt (i : Fin 16384) (e : Fin 1536) : EReal :=
  rotated (fun k => cosA m c (ix2 (place i) k)) (fun k => sinA m c (ix2 (place i) k)) (fun e => projOf m c i ⟨e.val, by omega⟩) e
/-- The second array. -/
def secondAt (i : Fin 16384) (e : Fin 1536) : EReal := projOf m c i ⟨1536 + e.val, by omega⟩

/-- The forget logarithm of place `s` of a sequence, in one lane. -/
def logAt (b : Fin 4) (l : Fin 128) (s : ℕ) : EReal :=
  if l.val < 8 then
    logForget (projOf m c ⟨b.val * 4096 + s % 4096, by have := Nat.mod_lt s (show 4096 > 0 by decide); omega⟩ ⟨3072 + l.val, by omega⟩
      + biasA m c (ix2 0 l))
  else 0
/-- The sequence of a row. -/
def seqOf (i : Fin 16384) : Fin 4 := ⟨i.val / 4096, by omega⟩
/-- The third array. -/
def thirdAt (i : Fin 16384) (l : Fin 128) : EReal := running (logAt m c (seqOf i) l) (i.val % 4096)

/-! ## The tiles -/

theorem row_block (t : Fin cfg0.N) (r : Fin 512) : rowX (iblk m c 0 t) r = fun k => inputA m c (ix2 (rowOf t r) k) :=
  funext fun k => block_0 m c t r k
theorem gain_block (t : Fin cfg0.N) : gain (iblk m c 1 t) = fun k => gainA m c (ix2 0 k) := funext fun k => block_1 m c t 0 k

theorem tile_first (t : Fin cfg0.N) (r : Fin 512) (e : Fin 1536) :
    tileA (iblk m c 0 t) (iblk m c 1 t) (iblk m c 2 t) (iblk m c 3 t) (iblk m c 4 t) (iblk m c 5 t) (ix2 r e) = firstAt m c (rowOf t r) e := by
  have hp : place (rowOf t r) = placeOf t r := Fin.ext (by
    have := points t
    show (t.val * 512 + r.val) % 4096 = t.val % 8 * 512 + r.val
    omega)
  unfold firstAt
  rw [hp, ← spun_eq]
  show spun (lanes (iblk m c 3 t) r) (lanes (iblk m c 4 t) r) (lanes (iblk m c 5 t) r) (projA (iblk m c 0 t) (iblk m c 1 t) (iblk m c 2 t) r) e = _
  rw [show lanes (iblk m c 3 t) r = tabC (fun k => cosA m c (ix2 (placeOf t r) k)) from funext fun l => block_3 m c t r l,
    show lanes (iblk m c 4 t) r = tabR (fun k => sinA m c (ix2 (placeOf t r) k)) from funext fun l => block_4 m c t r l,
    show lanes (iblk m c 5 t) r = tabL (fun k => sinA m c (ix2 (placeOf t r) k)) from funext fun l => block_5 m c t r l]
  refine congrArg (fun f => spun _ _ _ f e) (funext fun e' => ?_)
  unfold projA projOf
  rw [row_block, gain_block]
  exact congrArg _ (funext fun k => block_2 m c t _ k)

theorem tile_second (t : Fin cfg0.N) (r : Fin 512) (e : Fin 1536) :
    tileB (iblk m c 0 t) (iblk m c 1 t) (iblk m c 2 t) (ix2 r e) = secondAt m c (rowOf t r) e := by
  show proj (rowX (iblk m c 0 t) r) (gain (iblk m c 1 t)) _ = _
  unfold secondAt projOf
  rw [row_block, gain_block]
  exact congrArg _ (funext fun k => block_2 m c t _ k)

/-- The sequence of a tile. -/
def seqAt (t : Fin cfg0.N) : Fin 4 := ⟨t.val / 8, by have := points t; omega⟩

/-- The tile's part of the running sum. -/
theorem tile_part (t : Fin cfg0.N) (r : Fin 512) (l : Fin 128) :
    part (iblk m c 0 t) (iblk m c 1 t) (iblk m c 2 t) (iblk m c 6 t) (ix2 r l)
      = ∑ s ∈ Finset.range (r.val + 1), logAt m c (seqAt t) l (t.val % 8 * 512 + s) := by
  unfold part
  rw [pay25_apply, ← tile_sum (fun s => logAt m c (seqAt t) l (t.val % 8 * 512 + s)) r]
  refine Finset.sum_congr rfl fun s _ => congrArg _ ?_
  unfold logAt
  by_cases h : l.val < 8
  · rw [if_pos h, if_pos h, pay24_apply, block_6]
    unfold projOf
    rw [row_block, gain_block]
    have hi : (⟨(seqAt t).val * 4096 + (t.val % 8 * 512 + s.val) % 4096, by have := (seqAt t).isLt; omega⟩ : Fin 16384) = rowOf t s := Fin.ext (by
      show t.val / 8 * 4096 + (t.val % 8 * 512 + s.val) % 4096 = t.val * 512 + s.val
      omega)
    rw [hi]
    refine congrArg (fun f => logForget (proj _ _ f + _)) (funext fun k => block_2 m c t _ k)
  · rw [if_neg h, if_neg h]

/-! ## The running sum, tile by tile -/

theorem ld_carried (xs : Vec Ideal S8x128 .f32) (l : Fin 128) : carried xs (ix2 0 l) = xs (ix2 0 l) :=
  congrArg xs (funext fun a => Fin.ext (by
    match a with
    | ⟨0, _⟩ => rfl
    | ⟨1, _⟩ => show 0 + 1 * l.val = l.val; omega))

/-- What a point leaves in its third buffer and in the carried rows. -/
def summed (t : Fin cfg0.N) (r : Fin 512) (l : Fin 128) : EReal := running (logAt m c (seqAt t) l) (t.val % 8 * 512 + r.val)

theorem after_point (n : ℕ) (hn : n < cfg0.N) :
    (∀ (r : Fin 512) (l : Fin 128), (outsAt0 m c n hn).2.2.1 (ix2 r l) = summed m c ⟨n, hn⟩ r l)
      ∧ ∀ (l : Fin 128), (outsAt0 m c n hn).2.2.2 (ix2 0 l) = summed m c ⟨n, hn⟩ 511 l := by
  induction n with
  | zero => exact start ⟨0, hn⟩ rfl
  | succ n ih =>
    by_cases h0 : (n + 1) % 8 = 0
    · exact start ⟨n + 1, hn⟩ h0
    · obtain ⟨_, ih⟩ := ih (Nat.lt_of_succ_lt hn)
      have key : ∀ (r : Fin 512) (l : Fin 128), k0_pay2 (part (iblk m c 0 ⟨n + 1, hn⟩) (iblk m c 1 ⟨n + 1, hn⟩) (iblk m c 2 ⟨n + 1, hn⟩) (iblk m c 6 ⟨n + 1, hn⟩))
          (carried (outsAt0 m c n (Nat.lt_of_succ_lt hn)).2.2.2) (ix2 r l) = summed m c ⟨n + 1, hn⟩ r l := fun r l => by
        rw [pay2_apply, tile_part, ld_carried, ih l]
        have hs : seqAt ⟨n, Nat.lt_of_succ_lt hn⟩ = seqAt ⟨n + 1, hn⟩ := Fin.ext (by show n / 8 = (n + 1) / 8; omega)
        unfold summed
        rw [hs]
        refine Eq.trans ?_ (running_tile (logAt m c (seqAt ⟨n + 1, hn⟩) l) ((n + 1) % 8 * 512) r.val).symm
        refine congrArg _ ?_
        unfold running
        refine congrArg (fun q => ∑ s ∈ Finset.range q, logAt m c (seqAt ⟨n + 1, hn⟩) l s) ?_
        show n % 8 * 512 + 511 + 1 = (n + 1) % 8 * 512
        omega
      constructor
      · intro r l
        rw [outsAt0_B m c ⟨n + 1, hn⟩ h0]
        dsimp only
        rw [out_B_9]
        exact key r l
      · intro l
        rw [outsAt0_B m c ⟨n + 1, hn⟩ h0]
        dsimp only
        rw [sout_B_1, pay3_apply]
        exact key 511 l
where
  start (t : Fin cfg0.N) (h0 : t.val % 8 = 0) :
    (∀ (r : Fin 512) (l : Fin 128), (outsAt0 m c t.val t.isLt).2.2.1 (ix2 r l) = summed m c t r l)
      ∧ ∀ (l : Fin 128), (outsAt0 m c t.val t.isLt).2.2.2 (ix2 0 l) = summed m c t 511 l := by
    have key : ∀ (r : Fin 512) (l : Fin 128), k0_pay2 (part (iblk m c 0 t) (iblk m c 1 t) (iblk m c 2 t) (iblk m c 6 t))
        (carried (k0_pay1 (F := Ideal))) (ix2 r l) = summed m c t r l := fun r l => by
      rw [pay2_apply, tile_part, ld_carried, pay1_apply]
      unfold summed
      rw [running_tile, h0]
      simp
    constructor
    · intro r l
      rw [outsAt0_A m c t h0]
      dsimp only
      rw [out_A_9]
      exact key r l
    · intro l
      rw [outsAt0_A m c t h0]
      dsimp only
      rw [sout_A_1, pay3_apply]
      exact key 511 l

theorem first_point (t : Fin cfg0.N) (r : Fin 512) (e : Fin 1536) : (outsAt0 m c t.val t.isLt).1 (ix2 r e) = firstAt m c (rowOf t r) e := by
  by_cases h0 : t.val % 8 = 0
  · rw [outsAt0_A m c t h0]
    dsimp only
    rw [out_A_7]
    exact tile_first m c t r e
  · rw [outsAt0_B m c t h0]
    dsimp only
    rw [out_B_7]
    exact tile_first m c t r e

theorem second_point (t : Fin cfg0.N) (r : Fin 512) (e : Fin 1536) : (outsAt0 m c t.val t.isLt).2.1 (ix2 r e) = secondAt m c (rowOf t r) e := by
  by_cases h0 : t.val % 8 = 0
  · rw [outsAt0_A m c t h0]
    dsimp only
    rw [out_A_8]
    exact tile_second m c t r e
  · rw [outsAt0_B m c t h0]
    dsimp only
    rw [out_B_8]
    exact tile_second m c t r e

/-! ## The arrays -/

/-- The point that writes a row. -/
def tileOf (i : Fin 16384) : Fin cfg0.N := ⟨i.val / 512, lt_of_lt_of_eq (by omega) N_0.symm⟩
/-- Where a row lies in its tile. -/
def inTile (i : Fin 16384) : Fin 512 := ⟨i.val % 512, Nat.mod_lt _ (by decide)⟩

theorem rowOf_tileOf (i : Fin 16384) : rowOf (tileOf i) (inTile i) = i := Fin.ext (by
  show i.val / 512 * 512 + i.val % 512 = i.val; omega)

theorem fold_at (n : ℕ) (hn : 0 + n < cfg0.N) :
    Pipeline.accAt (fun n h => Value.stAt0 m c n h Value.junk0) (Value.stAt0 m c) 0 n hn = outsAt0 m c n (by omega) :=
  (Value.outsAt0_sweep m c n (by omega)).symm

theorem outs_congr {n n' : ℕ} (h : n < cfg0.N) (h' : n' < cfg0.N) (e : n = n') : outsAt0 m c n h = outsAt0 m c n' h' := by
  subst e; rfl

theorem first_array (i : Fin 16384) (e : Fin 1536) : Value.G7 m c (ix2 i e : S16384x1536.Idx) = firstAt m c i e := by
  have hp : Value.pt7Of (ix2 i e) = (tileOf i).val := by
    show 1 * (i.val / 512 - 0) + 1 * (e.val / 1536 - 0) = i.val / 512
    omega
  have hl : Value.loc7Of (ix2 i e) = (ix2 (inTile i) e : S512x1536.Idx) := funext fun a => Fin.ext (by
    match a with
    | ⟨0, _⟩ => rfl
    | ⟨1, _⟩ => show e.val % 1536 = e.val; omega)
  unfold Value.G7
  rw [dif_pos (hp ▸ (tileOf i).isLt), fold_at, outs_congr m c _ (tileOf i).isLt hp, hl, first_point, rowOf_tileOf]

theorem second_array (i : Fin 16384) (e : Fin 1536) : Value.G8 m c (ix2 i e : S16384x1536.Idx) = secondAt m c i e := by
  have hp : Value.pt8Of (ix2 i e) = (tileOf i).val := by
    show 1 * (i.val / 512 - 0) + 1 * (e.val / 1536 - 0) = i.val / 512
    omega
  have hl : Value.loc8Of (ix2 i e) = (ix2 (inTile i) e : S512x1536.Idx) := funext fun a => Fin.ext (by
    match a with
    | ⟨0, _⟩ => rfl
    | ⟨1, _⟩ => show e.val % 1536 = e.val; omega)
  unfold Value.G8
  rw [dif_pos (hp ▸ (tileOf i).isLt), fold_at, outs_congr m c _ (tileOf i).isLt hp, hl, second_point, rowOf_tileOf]

theorem third_array (i : Fin 16384) (l : Fin 128) : Value.G9 m c (ix2 i l : S16384x128.Idx) = thirdAt m c i l := by
  have hp : Value.pt9Of (ix2 i l) = (tileOf i).val := by
    show 1 * (i.val / 512 - 0) + 1 * (l.val / 128 - 0) = i.val / 512
    omega
  have hl : Value.loc9Of (ix2 i l) = (ix2 (inTile i) l : S512x128.Idx) := funext fun a => Fin.ext (by
    match a with
    | ⟨0, _⟩ => rfl
    | ⟨1, _⟩ => show l.val % 128 = l.val; omega)
  unfold Value.G9
  rw [dif_pos (hp ▸ (tileOf i).isLt), fold_at, outs_congr m c _ (tileOf i).isLt hp, hl, (after_point m c (tileOf i).val (tileOf i).isLt).1]
  unfold summed thirdAt
  have hs : seqAt (tileOf i) = seqOf i := Fin.ext (by show i.val / 512 / 8 = i.val / 4096; omega)
  have hr : (tileOf i).val % 8 * 512 + (inTile i).val = i.val % 4096 := by
    show i.val / 512 % 8 * 512 + i.val % 512 = i.val % 4096; omega
  rw [hs]
  exact congrArg _ hr

end Cert.Kernel2Ideal.Front

end
-- ==== Proof.Front.Reference.lean ====
/-
  The reference's three results, element by element over the extended reals: the rotated and the plain projections, and the running
  sum of the forget logarithms.
-/
module

public import proofs.«01_k».proof.Proof.Gen.Reference2Ideal.Read
public import proofs.«01_k».proof.Proof.Front.Math
public import Idealize.ShloMosaic.Lib.KernelVsHost

@[expose] public section

set_option maxRecDepth 16384

noncomputable section

namespace Cert.Reference2Ideal.Front

open Idealize.ShloMosaic Idealize.ShloMosaic.TcCoe Idealize.ShloMosaic.ValueIdx
open Cert.Reference2Ideal Cert.Reference2Ideal.Gen Cert.Reference2Ideal.Read Cert.Front

variable (x : S16384x1024.Idx → EReal) (g : S1x1024.Idx → EReal) (w : S3200x1024.Idx → EReal)
  (co si : S4096x8.Idx → EReal) (b : S1x128.Idx → EReal)

/-! ## The projections -/

/-- The projection of row `i` on output `e`. -/
abbrev at_ (i : Fin 16384) (e : Fin 3200) : EReal :=
  proj (fun k => x (ix2 i k)) (fun k => g (ix2 0 k)) (fun k => w (ix2 e k))

theorem squares_apply (i : Fin 16384) : val_main_v1 (F := Ideal) x (ix1 i) = ∑ k : Fin 1024, x (ix2 i k) * x (ix2 i k) := by
  rw [val_main_v1_apply, val_main_cst_apply]
  rw [show (FloatOps.ofBits (F := Ideal) .f32 0x00000000#32) = (0 : EReal) from Ideal.ofBits_zero_f32, zero_add]
  refine Finset.sum_congr rfl fun k _ => ?_
  have e : idx_main_v1 (ix1 i) k = (ix2 i k : S16384x1024.Idx) := funext fun (a : Fin 2) => by match a with | ⟨0, _⟩ => rfl | ⟨1, _⟩ => rfl
  rw [e, val_main_v0_apply]
  rfl

theorem scale_apply (i : Fin 16384) : val_main_v7 (F := Ideal) x (ix2 i 0)
    = Ideal.rsqrt (Ideal.div (∑ k : Fin 1024, x (ix2 i k) * x (ix2 i k)) (Ideal.ofBits .f32 0x44800000#32) + Ideal.ofBits .f32 0x358637BD#32) := by
  rw [val_main_v7_apply, val_main_v6_apply, val_main_v4_apply, val_main_v2_apply, val_main_v3_apply, val_main_v5_apply,
    val_main_cst_0_apply, val_main_cst_1_apply]
  have e : idx_main_v2 (ix2 i 0) = (ix1 i : S16384.Idx) := funext fun (a : Fin 1) => by match a with | ⟨0, _⟩ => rfl
  rw [e, squares_apply]
  rfl

theorem normed_apply (i : Fin 16384) (k : Fin 1024) :
    val_main_v11 (F := Ideal) x g (ix2 i k) = normed (fun k => x (ix2 i k)) (fun k => g (ix2 0 k)) k := by
  rw [val_main_v11_apply, val_main_v9_apply, val_main_v8_apply, val_main_v10_apply]
  have e8 : idx_main_v8 (ix2 i k) = (ix2 i 0 : S16384x1.Idx) := funext fun (a : Fin 2) => by match a with | ⟨0, _⟩ => rfl | ⟨1, _⟩ => rfl
  have e10 : idx_main_v10 (ix2 i k) = (ix2 0 k : S1x1024.Idx) := funext fun (a : Fin 2) => by match a with | ⟨0, _⟩ => rfl | ⟨1, _⟩ => rfl
  rw [e8, e10, scale_apply]
  rfl

theorem proj_apply (i : Fin 16384) (e : Fin 3200) : val_main_v13 (F := Ideal) x g w (ix2 i e) = at_ x g w i e := by
  rw [val_main_v13_apply]
  refine Finset.sum_congr rfl fun k _ => congrArg₂ (· * ·) ?_ ?_
  · rw [← normed_apply]
    exact congrArg _ (funext fun (a : Fin 2) => by match a with | ⟨0, _⟩ => rfl | ⟨1, _⟩ => rfl)
  · rw [val_main_v12_apply]
    exact congrArg w (funext fun (a : Fin 2) => by match a with | ⟨0, _⟩ => rfl | ⟨1, _⟩ => rfl)

theorem second_result (i : Fin 16384) (e : Fin 1536) :
    val_main_v66 (F := Ideal) x g w (ix2 i e) = at_ x g w i ⟨1536 + e.val, by omega⟩ := by
  rw [val_main_v66_apply, val_main_v54_apply]
  have h : idx_main_v54 (ix2 i e) = (ix2 i ⟨1536 + e.val, by omega⟩ : S16384x3200.Idx) :=
    funext fun (a : Fin 2) => by match a with | ⟨0, _⟩ => rfl | ⟨1, _⟩ => rfl
  rw [h, proj_apply]
  rfl

/-! ## The rotation -/

/-- One head rotated in its first sixteen lanes. -/
def turned (c s : Fin 8 → EReal) (t : Fin 64 → EReal) (l : Fin 64) : EReal :=
  if h8 : l.val < 8 then t l * c ⟨l.val, h8⟩ + -(t ⟨l.val + 8, by omega⟩) * s ⟨l.val, h8⟩
  else if h16 : l.val < 16 then t l * c ⟨l.val - 8, by omega⟩ + t ⟨l.val - 8, by omega⟩ * s ⟨l.val - 8, by omega⟩
  else t l

/-- The sixteen factors a table of eight gives. -/
def twice (c : Fin 8 → EReal) (l : Fin 16) : EReal :=
  if h8 : l.val < 8 then c ⟨l.val, h8⟩ else c ⟨l.val - 8, by omega⟩

theorem cos_apply (s : Fin 4096) (l : Fin 16) :
    val_main_v14 (F := Ideal) co (ix2 s l) = twice (fun k => co (ix2 s k)) l := by
  unfold val_main_v14 twice
  by_cases h8 : l.val < 8
  · rw [dif_pos h8]
    exact concatenate_pair_apply_left (t := S4096x16) 1 co co _ _ rfl (ix2 s ⟨l.val, h8⟩) (fun a => by match a with | ⟨0, _⟩ => rfl | ⟨1, _⟩ => rfl)
  · rw [dif_neg h8]
    exact concatenate_pair_apply_right (t := S4096x16) 1 co co _ _ rfl rfl (ix2 s ⟨l.val - 8, by omega⟩)
      (fun a ha => by match a with | ⟨0, _⟩ => rfl | ⟨1, _⟩ => exact absurd rfl ha) (show l.val - 8 + 8 = l.val by omega)

theorem sin_apply (s : Fin 4096) (l : Fin 16) :
    val_main_v16 (F := Ideal) si (ix2 s l) = twice (fun k => si (ix2 s k)) l := cos_apply si s l

theorem cos_heads (q : Fin 4) (s : Fin 4096) (h : Fin 8) (l : Fin 16) :
    val_main_v27 (F := Ideal) co (ix4 q s h l) = twice (fun k => co (ix2 s k)) l := by
  rw [val_main_v27_apply, val_main_v26_apply, val_main_v15_apply, ← cos_apply]
  exact congrArg _ (funext fun (a : Fin 2) => by match a with | ⟨0, _⟩ => rfl | ⟨1, _⟩ => rfl)

theorem sin_heads (q : Fin 4) (s : Fin 4096) (h : Fin 8) (l : Fin 16) :
    val_main_v30 (F := Ideal) si (ix4 q s h l) = twice (fun k => si (ix2 s k)) l := by
  rw [val_main_v30_apply, val_main_v29_apply, val_main_v17_apply, ← sin_apply]
  exact congrArg _ (funext fun (a : Fin 2) => by match a with | ⟨0, _⟩ => rfl | ⟨1, _⟩ => rfl)

/-- Row `s` of sequence `q`. -/
def rowAt (q : Fin 4) (s : Fin 4096) : Fin 16384 := ⟨q.val * 4096 + s.val, by omega⟩

/-- The turn of half the lanes: the later eight negated, then the earlier eight. -/
def swapped (t : Fin 64 → EReal) (l : Fin 16) : EReal :=
  if h8 : l.val < 8 then -(t ⟨l.val + 8, by omega⟩) else t ⟨l.val - 8, by omega⟩

theorem turned_eq (c s : Fin 8 → EReal) (t : Fin 64 → EReal) (l : Fin 16) :
    t ⟨l.val, by omega⟩ * twice c l + swapped t l * twice s l = turned c s t ⟨l.val, by omega⟩ := by
  unfold twice swapped turned
  dsimp only
  by_cases h8 : l.val < 8
  · rw [dif_pos h8, dif_pos h8, dif_pos h8, dif_pos h8]
  · rw [dif_neg h8, dif_neg h8, dif_neg h8, dif_neg h8, dif_pos l.isLt]

section Queries

theorem q_head (q : Fin 4) (s : Fin 4096) (h : Fin 8) (l : Fin 64) :
    val_main_v19 (F := Ideal) x g w (ix4 q s h l) = at_ x g w (rowAt q s) ⟨h.val * 64 + l.val, by omega⟩ := by
  rw [val_main_v19_apply, val_main_v18_apply, ← proj_apply]
  exact congrArg _ (funext fun (a : Fin 2) => Fin.ext (by
    match a with
    | ⟨0, _⟩ => show (((q.val * 4096 + s.val) * 8 + h.val) * 64 + l.val) / 512 = q.val * 4096 + s.val; omega
    | ⟨1, _⟩ => show (((q.val * 4096 + s.val) * 8 + h.val) * 64 + l.val) % 512 = h.val * 64 + l.val; omega))

/-- The lanes of one head of queries. -/
abbrev qLanes (q : Fin 4) (s : Fin 4096) (h : Fin 8) : Fin 64 → EReal := fun l => at_ x g w (rowAt q s) ⟨h.val * 64 + l.val, by omega⟩

theorem q_first (q : Fin 4) (s : Fin 4096) (h : Fin 8) (l : Fin 16) :
    val_main_v20 (F := Ideal) x g w (ix4 q s h l) = qLanes x g w q s h ⟨l.val, by omega⟩ := by
  rw [val_main_v20_apply]
  refine Eq.trans ?_ (q_head x g w q s h ⟨l.val, by omega⟩)
  exact congrArg _ (funext fun (a : Fin 4) => by match a with | ⟨0, _⟩ => rfl | ⟨1, _⟩ => rfl | ⟨2, _⟩ => rfl | ⟨3, _⟩ => rfl)

theorem q_swapped (q : Fin 4) (s : Fin 4096) (h : Fin 8) (l : Fin 16) :
    val_main_v25 (F := Ideal) x g w (ix4 q s h l) = swapped (qLanes x g w q s h) l := by
  unfold val_main_v25 swapped
  by_cases h8 : l.val < 8
  · rw [dif_pos h8]
    refine Eq.trans (concatenate_pair_apply_left (t := S4x4096x8x16) 3 (val_main_v23 (F := Ideal) x g w) (val_main_v24 (F := Ideal) x g w) _ _ rfl (ix4 q s h ⟨l.val, h8⟩) (fun a => by
      match a with | ⟨0, _⟩ => rfl | ⟨1, _⟩ => rfl | ⟨2, _⟩ => rfl | ⟨3, _⟩ => rfl)) ?_
    rw [val_main_v23_apply, val_main_v22_apply]
    have e : idx_main_v22 (ix4 q s h ⟨l.val, h8⟩) = (ix4 q s h ⟨l.val + 8, by omega⟩ : S4x4096x8x16.Idx) := funext fun (a : Fin 4) => Fin.ext (by
      match a with | ⟨0, _⟩ => rfl | ⟨1, _⟩ => rfl | ⟨2, _⟩ => rfl | ⟨3, _⟩ => exact Nat.add_comm _ _)
    rw [e, q_first]
    rfl
  · rw [dif_neg h8]
    refine Eq.trans (concatenate_pair_apply_right (t := S4x4096x8x16) 3 (val_main_v23 (F := Ideal) x g w) (val_main_v24 (F := Ideal) x g w) _ _ rfl rfl (ix4 q s h ⟨l.val - 8, by omega⟩)
      (fun a ha => by match a with | ⟨0, _⟩ => rfl | ⟨1, _⟩ => rfl | ⟨2, _⟩ => rfl | ⟨3, _⟩ => exact absurd rfl ha)
      (show l.val - 8 + 8 = l.val by omega)) ?_
    rw [val_main_v24_apply]
    have e : idx_main_v24 (ix4 q s h ⟨l.val - 8, by omega⟩) = (ix4 q s h ⟨l.val - 8, by omega⟩ : S4x4096x8x16.Idx) := funext fun (a : Fin 4) => by
      match a with | ⟨0, _⟩ => rfl | ⟨1, _⟩ => rfl | ⟨2, _⟩ => rfl | ⟨3, _⟩ => rfl
    rw [e, q_first]

theorem q_turned (q : Fin 4) (s : Fin 4096) (h : Fin 8) (l : Fin 64) :
    val_main_v33 (F := Ideal) x g w co si (ix4 q s h l)
      = turned (fun k => co (ix2 s k)) (fun k => si (ix2 s k)) (qLanes x g w q s h) l := by
  unfold val_main_v33
  by_cases h16 : l.val < 16
  · refine Eq.trans (concatenate_pair_apply_left (t := S4x4096x8x64) 3 (val_main_v32 (F := Ideal) x g w co si) (val_main_v21 (F := Ideal) x g w) _ _ rfl (ix4 q s h ⟨l.val, h16⟩) (fun a => by
      match a with | ⟨0, _⟩ => rfl | ⟨1, _⟩ => rfl | ⟨2, _⟩ => rfl | ⟨3, _⟩ => rfl)) ?_
    rw [val_main_v32_apply, val_main_v28_apply, val_main_v31_apply, q_first, q_swapped, cos_heads, sin_heads]
    exact turned_eq _ _ _ ⟨l.val, h16⟩
  · refine Eq.trans (concatenate_pair_apply_right (t := S4x4096x8x64) 3 (val_main_v32 (F := Ideal) x g w co si) (val_main_v21 (F := Ideal) x g w) _ _ rfl rfl (ix4 q s h ⟨l.val - 16, by omega⟩)
      (fun a ha => by match a with | ⟨0, _⟩ => rfl | ⟨1, _⟩ => rfl | ⟨2, _⟩ => rfl | ⟨3, _⟩ => exact absurd rfl ha)
      (show l.val - 16 + 16 = l.val by omega)) ?_
    rw [val_main_v21_apply]
    have e : idx_main_v21 (ix4 q s h ⟨l.val - 16, by omega⟩) = (ix4 q s h l : S4x4096x8x64.Idx) := funext fun (a : Fin 4) => Fin.ext (by
      match a with
      | ⟨0, _⟩ => rfl | ⟨1, _⟩ => rfl | ⟨2, _⟩ => rfl
      | ⟨3, _⟩ => show 16 + (l.val - 16) = l.val; omega)
    rw [e, q_head]
    unfold turned
    rw [dif_neg (by omega), dif_neg h16]

end Queries

theorem cos_heads' (q : Fin 4) (s : Fin 4096) (h : Fin 8) (l : Fin 16) :
    val_main_v44 (F := Ideal) co (ix4 q s h l) = twice (fun k => co (ix2 s k)) l := cos_heads co q s h l

theorem sin_heads' (q : Fin 4) (s : Fin 4096) (h : Fin 8) (l : Fin 16) :
    val_main_v47 (F := Ideal) si (ix4 q s h l) = twice (fun k => si (ix2 s k)) l := sin_heads si q s h l

section Keys

theorem k_head (q : Fin 4) (s : Fin 4096) (h : Fin 8) (l : Fin 64) :
    val_main_v36 (F := Ideal) x g w (ix4 q s h l) = at_ x g w (rowAt q s) ⟨512 + (h.val * 64 + l.val), by omega⟩ := by
  rw [val_main_v36_apply, val_main_v35_apply, ← proj_apply]
  exact congrArg _ (funext fun (a : Fin 2) => Fin.ext (by
    match a with
    | ⟨0, _⟩ => show (((q.val * 4096 + s.val) * 8 + h.val) * 64 + l.val) / 512 = q.val * 4096 + s.val; omega
    | ⟨1, _⟩ => show 512 + (((q.val * 4096 + s.val) * 8 + h.val) * 64 + l.val) % 512 = 512 + (h.val * 64 + l.val); omega))

/-- The lanes of one head of keys. -/
abbrev kLanes (q : Fin 4) (s : Fin 4096) (h : Fin 8) : Fin 64 → EReal := fun l => at_ x g w (rowAt q s) ⟨512 + (h.val * 64 + l.val), by omega⟩

theorem k_first (q : Fin 4) (s : Fin 4096) (h : Fin 8) (l : Fin 16) :
    val_main_v37 (F := Ideal) x g w (ix4 q s h l) = kLanes x g w q s h ⟨l.val, by omega⟩ := by
  rw [val_main_v37_apply]
  refine Eq.trans ?_ (k_head x g w q s h ⟨l.val, by omega⟩)
  exact congrArg _ (funext fun (a : Fin 4) => by match a with | ⟨0, _⟩ => rfl | ⟨1, _⟩ => rfl | ⟨2, _⟩ => rfl | ⟨3, _⟩ => rfl)

theorem k_swapped (q : Fin 4) (s : Fin 4096) (h : Fin 8) (l : Fin 16) :
    val_main_v42 (F := Ideal) x g w (ix4 q s h l) = swapped (kLanes x g w q s h) l := by
  unfold val_main_v42 swapped
  by_cases h8 : l.val < 8
  · rw [dif_pos h8]
    refine Eq.trans (concatenate_pair_apply_left (t := S4x4096x8x16) 3 (val_main_v40 (F := Ideal) x g w) (val_main_v41 (F := Ideal) x g w) _ _ rfl (ix4 q s h ⟨l.val, h8⟩) (fun a => by
      match a with | ⟨0, _⟩ => rfl | ⟨1, _⟩ => rfl | ⟨2, _⟩ => rfl | ⟨3, _⟩ => rfl)) ?_
    rw [val_main_v40_apply, val_main_v39_apply]
    have e : idx_main_v39 (ix4 q s h ⟨l.val, h8⟩) = (ix4 q s h ⟨l.val + 8, by omega⟩ : S4x4096x8x16.Idx) := funext fun (a : Fin 4) => Fin.ext (by
      match a with | ⟨0, _⟩ => rfl | ⟨1, _⟩ => rfl | ⟨2, _⟩ => rfl | ⟨3, _⟩ => exact Nat.add_comm _ _)
    rw [e, k_first]
    rfl
  · rw [dif_neg h8]
    refine Eq.trans (concatenate_pair_apply_right (t := S4x4096x8x16) 3 (val_main_v40 (F := Ideal) x g w) (val_main_v41 (F := Ideal) x g w) _ _ rfl rfl (ix4 q s h ⟨l.val - 8, by omega⟩)
      (fun a ha => by match a with | ⟨0, _⟩ => rfl | ⟨1, _⟩ => rfl | ⟨2, _⟩ => rfl | ⟨3, _⟩ => exact absurd rfl ha)
      (show l.val - 8 + 8 = l.val by omega)) ?_
    rw [val_main_v41_apply]
    have e : idx_main_v41 (ix4 q s h ⟨l.val - 8, by omega⟩) = (ix4 q s h ⟨l.val - 8, by omega⟩ : S4x4096x8x16.Idx) := funext fun (a : Fin 4) => by
      match a with | ⟨0, _⟩ => rfl | ⟨1, _⟩ => rfl | ⟨2, _⟩ => rfl | ⟨3, _⟩ => rfl
    rw [e, k_first]

theorem k_turned (q : Fin 4) (s : Fin 4096) (h : Fin 8) (l : Fin 64) :
    val_main_v50 (F := Ideal) x g w co si (ix4 q s h l)
      = turned (fun k => co (ix2 s k)) (fun k => si (ix2 s k)) (kLanes x g w q s h) l := by
  unfold val_main_v50
  by_cases h16 : l.val < 16
  · refine Eq.trans (concatenate_pair_apply_left (t := S4x4096x8x64) 3 (val_main_v49 (F := Ideal) x g w co si) (val_main_v38 (F := Ideal) x g w) _ _ rfl (ix4 q s h ⟨l.val, h16⟩) (fun a => by
      match a with | ⟨0, _⟩ => rfl | ⟨1, _⟩ => rfl | ⟨2, _⟩ => rfl | ⟨3, _⟩ => rfl)) ?_
    rw [val_main_v49_apply, val_main_v45_apply, val_main_v48_apply, k_first, k_swapped, cos_heads', sin_heads']
    exact turned_eq _ _ _ ⟨l.val, h16⟩
  · refine Eq.trans (concatenate_pair_apply_right (t := S4x4096x8x64) 3 (val_main_v49 (F := Ideal) x g w co si) (val_main_v38 (F := Ideal) x g w) _ _ rfl rfl (ix4 q s h ⟨l.val - 16, by omega⟩)
      (fun a ha => by match a with | ⟨0, _⟩ => rfl | ⟨1, _⟩ => rfl | ⟨2, _⟩ => rfl | ⟨3, _⟩ => exact absurd rfl ha)
      (show l.val - 16 + 16 = l.val by omega)) ?_
    rw [val_main_v38_apply]
    have e : idx_main_v38 (ix4 q s h ⟨l.val - 16, by omega⟩) = (ix4 q s h l : S4x4096x8x64.Idx) := funext fun (a : Fin 4) => Fin.ext (by
      match a with
      | ⟨0, _⟩ => rfl | ⟨1, _⟩ => rfl | ⟨2, _⟩ => rfl
      | ⟨3, _⟩ => show 16 + (l.val - 16) = l.val; omega)
    rw [e, k_head]
    unfold turned
    rw [dif_neg (by omega), dif_neg h16]

end Keys

/-! ## The first result -/

theorem turned_at (c s : Fin 8 → EReal) (t : Fin 1536 → EReal) (e : Fin 1536) (he : e.val < 1024) (u : Fin 64 → EReal)
    (hu : ∀ l : Fin 64, u l = t ⟨e.val / 64 * 64 + l.val, by omega⟩) :
    turned c s u ⟨e.val % 64, by omega⟩ = rotated c s t e := by
  have hE : (⟨e.val / 64 * 64 + e.val % 64, by omega⟩ : Fin 1536) = e := Fin.ext (by show e.val / 64 * 64 + e.val % 64 = e.val; omega)
  unfold turned rotated
  dsimp only
  rw [dif_pos he]
  simp only [hu, hE]
  by_cases h8 : e.val % 64 < 8
  · rw [dif_pos h8, dif_pos h8]
    have h1 : (⟨e.val / 64 * 64 + (e.val % 64 + 8), by omega⟩ : Fin 1536) = ⟨e.val + 8, by omega⟩ := Fin.ext (by
      show e.val / 64 * 64 + (e.val % 64 + 8) = e.val + 8; omega)
    simp only [h1]
  · rw [dif_neg h8, dif_neg h8]
    by_cases h16 : e.val % 64 < 16
    · rw [dif_pos h16, dif_pos h16]
      have h1 : (⟨e.val / 64 * 64 + (e.val % 64 - 8), by omega⟩ : Fin 1536) = ⟨e.val - 8, by omega⟩ := Fin.ext (by
        show e.val / 64 * 64 + (e.val % 64 - 8) = e.val - 8; omega)
      simp only [h1]
    · rw [dif_neg h16, dif_neg h16]

/-- The sequence of a row. -/
def seq (i : Fin 16384) : Fin 4 := ⟨i.val / 4096, by omega⟩
/-- The place of a row in its sequence. -/
def place (i : Fin 16384) : Fin 4096 := ⟨i.val % 4096, Nat.mod_lt _ (by decide)⟩

theorem rowAt_seq (i : Fin 16384) : rowAt (seq i) (place i) = i := Fin.ext (by
  show i.val / 4096 * 4096 + i.val % 4096 = i.val; omega)

theorem queries_apply (i : Fin 16384) (e : Fin 512) :
    val_main_v34 (F := Ideal) x g w co si (ix2 i e)
      = rotated (fun k => co (ix2 (place i) k)) (fun k => si (ix2 (place i) k)) (fun e => at_ x g w i ⟨e.val, by omega⟩) ⟨e.val, by omega⟩ := by
  rw [val_main_v34_apply]
  have h : idx_main_v34 (ix2 i e) = (ix4 (seq i) (place i) ⟨e.val / 64, by omega⟩ ⟨e.val % 64, by omega⟩ : S4x4096x8x64.Idx) :=
    funext fun (a : Fin 4) => Fin.ext (by
      match a with
      | ⟨0, _⟩ => show (i.val * 512 + e.val) / 2097152 = i.val / 4096; omega
      | ⟨1, _⟩ => show (i.val * 512 + e.val) / 512 % 4096 = i.val % 4096; omega
      | ⟨2, _⟩ => show (i.val * 512 + e.val) / 64 % 8 = e.val / 64; omega
      | ⟨3, _⟩ => show (i.val * 512 + e.val) % 64 = e.val % 64; omega)
  rw [h, q_turned]
  refine turned_at _ _ _ ⟨e.val, by omega⟩ (show e.val < 1024 by omega) _ fun l => ?_
  show at_ x g w (rowAt (seq i) (place i)) _ = _
  rw [rowAt_seq]

theorem keys_apply (i : Fin 16384) (e : Fin 512) :
    val_main_v51 (F := Ideal) x g w co si (ix2 i e)
      = rotated (fun k => co (ix2 (place i) k)) (fun k => si (ix2 (place i) k)) (fun e => at_ x g w i ⟨e.val, by omega⟩) ⟨512 + e.val, by omega⟩ := by
  rw [val_main_v51_apply]
  have h : idx_main_v51 (ix2 i e) = (ix4 (seq i) (place i) ⟨e.val / 64, by omega⟩ ⟨(512 + e.val) % 64, by omega⟩ : S4x4096x8x64.Idx) :=
    funext fun (a : Fin 4) => Fin.ext (by
      match a with
      | ⟨0, _⟩ => show (i.val * 512 + e.val) / 2097152 = i.val / 4096; omega
      | ⟨1, _⟩ => show (i.val * 512 + e.val) / 512 % 4096 = i.val % 4096; omega
      | ⟨2, _⟩ => show (i.val * 512 + e.val) / 64 % 8 = e.val / 64; omega
      | ⟨3, _⟩ => show (i.val * 512 + e.val) % 64 = (512 + e.val) % 64; omega)
  rw [h, k_turned]
  refine turned_at _ _ _ ⟨512 + e.val, by omega⟩ (show 512 + e.val < 1024 by omega) _ fun l => ?_
  show at_ x g w (rowAt (seq i) (place i)) _ = _
  rw [rowAt_seq]
  exact congrArg (at_ x g w i) (Fin.ext (by show 512 + (e.val / 64 * 64 + l.val) = (512 + e.val) / 64 * 64 + l.val; omega))

theorem values_apply (i : Fin 16384) (e : Fin 512) :
    val_main_v52 (F := Ideal) x g w (ix2 i e) = at_ x g w i ⟨1024 + e.val, by omega⟩ := by
  rw [val_main_v52_apply, ← proj_apply]
  exact congrArg _ (funext fun (a : Fin 2) => by match a with | ⟨0, _⟩ => rfl | ⟨1, _⟩ => rfl)

theorem first_result (i : Fin 16384) (e : Fin 1536) :
    val_main_v65 (F := Ideal) x g w co si (ix2 i e)
      = rotated (fun k => co (ix2 (place i) k)) (fun k => si (ix2 (place i) k)) (fun e => at_ x g w i ⟨e.val, by omega⟩) e := by
  rw [val_main_v65_apply]
  show val_main_v53 (F := Ideal) x g w co si (ix2 i e) = _
  unfold val_main_v53
  by_cases h1 : e.val < 512
  · refine Eq.trans (concatenate_apply_piece (t := S16384x1536) 1 _ _ (ix2 i e) 0 (by show 0 < 3; decide) S16384x512
      (val_main_v34 (F := Ideal) x g w co si) rfl rfl 0 rfl (ix2 i ⟨e.val, h1⟩)
      (fun a ha => by match a with | ⟨0, _⟩ => rfl | ⟨1, _⟩ => exact absurd rfl ha) (show 0 + e.val = e.val by omega)) ?_
    exact queries_apply x g w co si i ⟨e.val, h1⟩
  · by_cases h2 : e.val < 1024
    · refine Eq.trans (concatenate_apply_piece (t := S16384x1536) 1 _ _ (ix2 i e) 1 (by show 1 < 3; decide) S16384x512
        (val_main_v51 (F := Ideal) x g w co si) rfl rfl 512 rfl (ix2 i ⟨e.val - 512, by omega⟩)
        (fun a ha => by match a with | ⟨0, _⟩ => rfl | ⟨1, _⟩ => exact absurd rfl ha) (show 512 + (e.val - 512) = e.val by omega)) ?_
      refine (keys_apply x g w co si i ⟨e.val - 512, by omega⟩).trans (congrArg _ (Fin.ext ?_))
      show 512 + (e.val - 512) = e.val
      omega
    · refine Eq.trans (concatenate_apply_piece (t := S16384x1536) 1 _ _ (ix2 i e) 2 (by show 2 < 3; decide) S16384x512
        (val_main_v52 (F := Ideal) x g w) rfl rfl 1024 rfl (ix2 i ⟨e.val - 1024, by omega⟩)
        (fun a ha => by match a with | ⟨0, _⟩ => rfl | ⟨1, _⟩ => exact absurd rfl ha) (show 1024 + (e.val - 1024) = e.val by omega)) ?_
      rw [values_apply]
      unfold rotated
      rw [dif_neg h2]
      exact congrArg (at_ x g w i) (Fin.ext (by show 1024 + (e.val - 1024) = e.val; omega))

/-! ## The running sum over a window -/

/-- A fold that adds each term to what it has is the sum. -/
theorem foldl_sum {n : ℕ} (f : Fin n → EReal) : ∀ (L : List (Fin n)) (v : EReal), L.foldl (fun r k => r + f k) v = v + (L.map f).sum
  | [], v => by simp
  | k :: L, v => by rw [List.foldl_cons, foldl_sum f L, List.map_cons, List.sum_cons, add_assoc]

theorem window_numel : (⟨3, ![1, 4096, 1]⟩ : Shape).numel = 4096 := by decide +kernel

theorem window_place (k : Fin (⟨3, ![1, 4096, 1]⟩ : Shape).numel) :
    (⟨3, ![1, 4096, 1]⟩ : Shape).rowMajor.symm k = (ix3 0 ⟨k.val, k.isLt.trans_eq window_numel⟩ 0 : (⟨3, ![1, 4096, 1]⟩ : Shape).Idx) := by
  rw [Equiv.symm_apply_eq]
  refine Fin.ext ?_
  rw [Shape.rowMajor_val_three]
  show k.val = (0 * 4096 + k.val) * 1 + 0
  omega

theorem window_apply (hw : S4x4096x8.ReduceWindows ![1, 4096, 1] ![1, 1, 1] ![0, 4095, 0] ![0, 0, 0] S4x4096x8)
    (y : S4x4096x8.Idx → EReal) (q : Fin 4) (j : Fin 4096) (l : Fin 8) :
    Ideal.hostReduceWindowAdd (s := S4x4096x8) (t := S4x4096x8) ![1, 4096, 1] ![1, 1, 1] ![0, 4095, 0] ![0, 0, 0]
      hw y 0 (ix3 q j l)
      = running (fun s => y (ix3 q ⟨s % 4096, Nat.mod_lt _ (by decide)⟩ l)) j.val := by
  rw [← window_sum _ _ j.isLt]
  unfold Ideal.hostReduceWindowAdd Host.reduceWindow
  refine (foldl_sum _ _ _).trans ?_
  rw [zero_add, ← List.ofFn_eq_map, List.sum_ofFn]
  refine Eq.trans ?_ (Equiv.sum_comp (finCongr window_numel) _)
  refine Finset.sum_congr rfl fun k _ => ?_
  have hk : k.val < 4096 := k.isLt.trans_eq window_numel
  have w0 : ((⟨3, ![1, 4096, 1]⟩ : Shape).rowMajor.symm k ⟨0, by decide⟩).val = 0 := by rw [window_place]; rfl
  have w1 : ((⟨3, ![1, 4096, 1]⟩ : Shape).rowMajor.symm k ⟨1, by decide⟩).val = k.val := by rw [window_place]
  have w2 : ((⟨3, ![1, 4096, 1]⟩ : Shape).rowMajor.symm k ⟨2, by decide⟩).val = 0 := by rw [window_place]; rfl
  by_cases hj : 4095 ≤ j.val + k.val
  · rw [if_pos (show 4095 ≤ j.val + (finCongr window_numel k).val from hj)]
    refine (dif_pos (fun a => ?_)).trans ?_
    · match a with
      | ⟨0, _⟩ => exact ⟨Nat.zero_le _, by
          show q.val * 1 + ((⟨3, ![1, 4096, 1]⟩ : Shape).rowMajor.symm k ⟨0, by decide⟩).val - 0 < 4; rw [w0]; omega⟩
      | ⟨1, _⟩ => exact ⟨by
          show 4095 ≤ j.val * 1 + ((⟨3, ![1, 4096, 1]⟩ : Shape).rowMajor.symm k ⟨1, by decide⟩).val; rw [w1]; omega, by
          show j.val * 1 + ((⟨3, ![1, 4096, 1]⟩ : Shape).rowMajor.symm k ⟨1, by decide⟩).val - 4095 < 4096; rw [w1]; omega⟩
      | ⟨2, _⟩ => exact ⟨Nat.zero_le _, by
          show l.val * 1 + ((⟨3, ![1, 4096, 1]⟩ : Shape).rowMajor.symm k ⟨2, by decide⟩).val - 0 < 8; rw [w2]; omega⟩
    · exact congrArg y (funext fun (a : Fin 3) => Fin.ext (by
        match a with
        | ⟨0, _⟩ =>
          show q.val * 1 + ((⟨3, ![1, 4096, 1]⟩ : Shape).rowMajor.symm k ⟨0, by decide⟩).val - 0 = q.val; rw [w0]; omega
        | ⟨1, _⟩ =>
          show j.val * 1 + ((⟨3, ![1, 4096, 1]⟩ : Shape).rowMajor.symm k ⟨1, by decide⟩).val - 4095 = (j.val + k.val - 4095) % 4096
          rw [w1]; omega
        | ⟨2, _⟩ =>
          show l.val * 1 + ((⟨3, ![1, 4096, 1]⟩ : Shape).rowMajor.symm k ⟨2, by decide⟩).val - 0 = l.val; rw [w2]; omega))
  · rw [if_neg (show ¬4095 ≤ j.val + (finCongr window_numel k).val from hj)]
    refine dif_neg (fun h => hj ?_)
    have h1 := (h ⟨1, by decide⟩).1
    change 4095 ≤ j.val * 1 + ((⟨3, ![1, 4096, 1]⟩ : Shape).rowMajor.symm k ⟨1, by decide⟩).val at h1
    rw [w1] at h1
    omega

/-! ## The forget gate -/

theorem cmp_self (z : EReal) : FloatOps.cmpf (F := Ideal) (φ := .f32) .une z z = 0#1 := by
  show BitVec.ofBool (decide (z ≠ z)) = 0#1
  simp

/-- The gate's argument. -/
theorem gate_apply (i : Fin 16384) (l : Fin 8) :
    val_main_v58 (F := Ideal) x g w b (ix2 i l) = at_ x g w i ⟨3072 + l.val, by omega⟩ + b (ix2 0 ⟨l.val, by omega⟩) := by
  rw [val_main_v58_apply, val_main_v55_apply, val_main_v57_apply, val_main_v56_apply, ← proj_apply]
  refine congrArg₂ (· + ·) ?_ ?_
  · exact congrArg _ (funext fun (a : Fin 2) => by match a with | ⟨0, _⟩ => rfl | ⟨1, _⟩ => rfl)
  · exact congrArg b (funext fun (a : Fin 2) => by match a with | ⟨0, _⟩ => rfl | ⟨1, _⟩ => rfl)

theorem log_apply (i : Fin 16384) (l : Fin 8) :
    val_main_v61 (F := Ideal) x g w b (ix2 i l) = logForget (at_ x g w i ⟨3072 + l.val, by omega⟩ + b (ix2 0 ⟨l.val, by omega⟩)) := by
  have z : (FloatOps.ofBits (F := Ideal) .f32 0x00000000#32) = (0 : EReal) := Ideal.ofBits_zero_f32
  rw [← gate_apply, val_main_v61_apply, val_main_v59_apply, val_main_v60_apply, val_main_cst_2_apply, val_main_call0_v1_apply,
    val_main_call0_call0_v4_apply, val_main_call0_call0_v11_apply, val_main_call0_call0_v10_apply, val_main_call0_call0_v9_apply,
    val_main_call0_call0_v8_apply, val_main_call0_call0_v7_apply, val_main_call0_call0_v3_apply, val_main_call0_call0_v2_apply,
    val_main_call0_call0_v1_apply, val_main_call0_call0_v0_apply, val_main_call0_call0_cst_apply,
    val_main_call0_v0_apply, cmp_self, z]
  generalize val_main_v58 (F := Ideal) x g w b (ix2 i l) = y
  unfold logForget
  rw [← neg_softplus]
  rfl

theorem sums_apply (q : Fin 4) (j : Fin 4096) (l : Fin 8) :
    val_main_v63 (F := Ideal) x g w b (ix3 q j l)
      = running (fun s => logForget (at_ x g w ⟨q.val * 4096 + s % 4096, by have := Nat.mod_lt s (show 4096 > 0 by decide); omega⟩
          ⟨3072 + l.val, by omega⟩ + b (ix2 0 ⟨l.val, by omega⟩))) j.val := by
  unfold val_main_v63
  have z : val_main_call1_call0_v0 (F := Ideal) (Shape.Idx.first h_S_) = (0 : EReal) := by
    rw [val_main_call1_call0_v0_apply, val_main_call1_call0_cst_apply]
    exact Ideal.ofBits_zero_f32
  unfold Host.reduceWindowAdd
  rw [z, Ideal.hostReduceWindowAdd_def]
  refine (window_apply _ _ q j l).trans ?_
  refine congrArg (fun f => running f j.val) (funext fun s => ?_)
  rw [val_main_v62_apply, ← log_apply]
  have hs := Nat.mod_lt s (show 4096 > 0 by decide)
  exact congrArg _ (funext fun (a : Fin 2) => Fin.ext (by
    match a with
    | ⟨0, _⟩ => show ((q.val * 4096 + s % 4096) * 8 + l.val) / 8 = q.val * 4096 + s % 4096; omega
    | ⟨1, _⟩ => show ((q.val * 4096 + s % 4096) * 8 + l.val) % 8 = l.val; omega))

/-- The third result: in the first eight lanes the running sum of the forget logarithms, in the others zero. -/
theorem third_result (i : Fin 16384) (l : Fin 128) :
    val_main_v67 (F := Ideal) x g w b (ix2 i l)
      = running (fun s => if l.val < 8 then logForget (at_ x g w ⟨(seq i).val * 4096 + s % 4096, by
            have := Nat.mod_lt s (show 4096 > 0 by decide); have := (seq i).isLt; omega⟩ ⟨3072 + l.val, by omega⟩ + b (ix2 0 l))
          else 0) (i.val % 4096) := by
  unfold val_main_v67
  by_cases h8 : l.val < 8
  · simp only [if_pos h8]
    refine (pad_apply_of_inside (t := S16384x128) ![0, 0] ![0, 120] ![0, 0] (val_main_v64 (F := Ideal) x g w b) _ _ _ (ix2 i l) (ix2 i ⟨l.val, h8⟩) (fun a => by
      match a with
      | ⟨0, _⟩ => show i.val = 0 + i.val * (0 + 1); omega
      | ⟨1, _⟩ => show l.val = 0 + l.val * (0 + 1); omega)).trans ?_
    rw [val_main_v64_apply]
    have e : idx_main_v64 (ix2 i ⟨l.val, h8⟩) = (ix3 (seq i) (place i) ⟨l.val, h8⟩ : S4x4096x8.Idx) := funext fun (a : Fin 3) => Fin.ext (by
      match a with
      | ⟨0, _⟩ => show (i.val * 8 + l.val) / 32768 = i.val / 4096; omega
      | ⟨1, _⟩ => show (i.val * 8 + l.val) / 8 % 4096 = i.val % 4096; omega
      | ⟨2, _⟩ => show (i.val * 8 + l.val) % 8 = l.val; omega)
    rw [e, sums_apply]
    rfl
  · simp only [if_neg h8]
    refine (pad_apply_of_not_inside (t := S16384x128) ![0, 0] ![0, 120] ![0, 0] (val_main_v64 (F := Ideal) x g w b) _ _ _ (ix2 i l) (1 : Fin 2) (fun h => h8 ?_)).trans ?_
    · have h2 := h.2.2
      change (l.val - 0) / (0 + 1) < 8 at h2
      omega
    · rw [val_main_call2_v0_apply]
      unfold running
      rw [Finset.sum_const_zero]
      show (((0#32 : BitVec 32).toInt : ℝ) : EReal) = 0
      simp

end Cert.Reference2Ideal.Front

end
-- ==== Proof.Front.Claims.lean ====
/-
  The front's claims: the frames of the kernel, of its idealization and of the reference, and the equality of the three results over
  the extended reals, for every value of the arguments.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Front.Ideal.Result
public import proofs.«01_k».proof.Proof.Front.Reference

@[expose] public section

noncomputable section

namespace Cert.Front.Claims

open Idealize.ShloMosaic Idealize.SL.Sem

theorem frame_bits : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r q => ⟨fun c => (q c).2.2.2, sem_eq_zero_of_no_sems (by decide) r.2⟩)
    (Cert.Reference2Ideal.Value.run (F := Ideal) m ρ)

theorem equal : Cert.algebraic_Kernel2Ideal_Reference2Ideal := fun m ρ m' ρ' _ hag => by
  refine ⟨fun c => Cert.Kernel2Ideal.Value.G7 m c, fun c => Cert.Kernel2Ideal.Value.G8 m c, fun c => Cert.Kernel2Ideal.Value.G9 m c,
    Cert.Kernel2Ideal.Value.run m ρ, ?_⟩
  refine (θ_run Cert.Reference2Ideal.defs _ _).mono (fun r q c => ⟨(q c).1.trans ?_, (q c).2.1.trans ?_, (q c).2.2.1.trans ?_, (q c).2.2.2⟩)
    (Cert.Reference2Ideal.Value.run (F := Ideal) m' ρ')
  all_goals
    obtain ⟨a0, a1, a2, a3, a4, a5⟩ := hag c
  · rw [Cert.Reference2Ideal.Read.val_main_v65_eq, a0, a1, a2, a3, a4]
    funext j
    obtain ⟨i, e, rfl⟩ : ∃ (i : Fin 16384) (e : Fin 1536), j = ValueIdx.ix2 i e := ⟨j 0, j 1, ValueIdx.eq_ix2 j⟩
    exact (Cert.Reference2Ideal.Front.first_result _ _ _ _ _ i e).trans (Cert.Kernel2Ideal.Front.first_array m c i e).symm
  · rw [Cert.Reference2Ideal.Read.val_main_v66_eq, a0, a1, a2]
    funext j
    obtain ⟨i, e, rfl⟩ : ∃ (i : Fin 16384) (e : Fin 1536), j = ValueIdx.ix2 i e := ⟨j 0, j 1, ValueIdx.eq_ix2 j⟩
    exact (Cert.Reference2Ideal.Front.second_result _ _ _ i e).trans (Cert.Kernel2Ideal.Front.second_array m c i e).symm
  · rw [Cert.Reference2Ideal.Read.val_main_v67_eq, a0, a1, a2, a5]
    funext j
    obtain ⟨i, l, rfl⟩ : ∃ (i : Fin 16384) (l : Fin 128), j = ValueIdx.ix2 i l := ⟨j 0, j 1, ValueIdx.eq_ix2 j⟩
    exact (Cert.Reference2Ideal.Front.third_result _ _ _ _ i l).trans (Cert.Kernel2Ideal.Front.third_array m c i l).symm

end Cert.Front.Claims

end
-- ==== Proof.Outproj.Math.lean ====
/-
  The output projection's mathematics over the extended reals: one output of one row, and its sum over 1024 inputs as two sums of 512.
-/
module

public import Idealize.ShloMosaic.PureOps.Ideal.Laws

@[expose] public section

noncomputable section

namespace Cert.Outproj

/-- One output of one row: the residual's element plus the inner products of the two groups' outputs with their halves of the weights. -/
def summed (x : EReal) (a b : Fin 512 → EReal) (w : Fin 1024 → EReal) : EReal :=
  x + ∑ k : Fin 512, a k * w ⟨k.val, by omega⟩ + ∑ k : Fin 512, b k * w ⟨512 + k.val, by omega⟩

/-- The two groups' outputs side by side. -/
def joined (a b : Fin 512 → EReal) (k : Fin 1024) : EReal :=
  if h : k.val < 512 then a ⟨k.val, h⟩ else b ⟨k.val - 512, by omega⟩

/-- The residual plus one inner product with the joined outputs is the residual plus the two halves. -/
theorem joined_sum (x : EReal) (a b : Fin 512 → EReal) (w : Fin 1024 → EReal) :
    x + ∑ k : Fin 1024, joined a b k * w k = summed x a b w := by
  unfold summed
  rw [add_assoc]
  refine congrArg (x + ·) ((Fin.sum_univ_add (a := 512) (b := 512) (fun k => joined a b k * w k)).trans ?_)
  refine congrArg₂ (· + ·) (Finset.sum_congr rfl fun k _ => ?_) (Finset.sum_congr rfl fun k _ => ?_)
  · have h : (Fin.castAdd 512 k).val < 512 := k.isLt
    show joined a b (Fin.castAdd 512 k) * w (Fin.castAdd 512 k) = _
    unfold joined
    rw [dif_pos h]
    rfl
  · have h : ¬(Fin.natAdd 512 k).val < 512 := by show ¬(512 + k.val < 512); omega
    show joined a b (Fin.natAdd 512 k) * w (Fin.natAdd 512 k) = _
    unfold joined
    rw [dif_neg h]
    refine congrArg₂ (· * ·) (congrArg b (Fin.ext ?_)) rfl
    show 512 + k.val - 512 = k.val
    omega

end Cert.Outproj

end
-- ==== Proof.Outproj.Kernel.lean ====
/-
  The launch's first result array, element by element over the extended reals: every point's tile of 512 rows, then the array.
-/
module

public import proofs.«01_k».proof.Proof.Gen.Kernel3Ideal.Value
public import proofs.«01_k».proof.Proof.Outproj.Math
public import Idealize.ShloMosaic.Lib.ValueIdx
public import Idealize.ShloMosaic.Lib.ValueIdxCoords
public import Idealize.ShloMosaic.Lib.KernelVsHost
public import Idealize.ShloMosaic.Lib.Pipeline.ReadBack

@[expose] public section

set_option maxRecDepth 16384

noncomputable section

namespace Cert.Kernel3Ideal.Outproj

open Idealize.ShloMosaic Idealize.ShloMosaic.TcCoe Idealize.ShloMosaic.ValueIdx Idealize.ShloMosaic.Tactic
open Idealize.ShloMosaic.Pipeline (Dat Cfg Window)
open Cert.Kernel3Ideal.Gen Cert.Outproj

theorem zero_off : (![0, 0] : Fin 2 → Nat) = fun _ => 0 := funext fun a => by fin_cases a <;> rfl

/-! ## One tile -/

/-- The product of one group's tile with its half of the weights. -/
theorem product_half (x : FVec Ideal S512x512 .bf16) (w : FVec Ideal S512x1024 .bf16) (r : Fin 512) (e : Fin 1024) :
    matmul dot_S512x512_S512x1024_S512x1024_1_0_0_1_n_n none x w (constant S512x1024 .f32 0x00000000#32) (ix2 r e)
      = ∑ k : Fin 512, x (ix2 r k) * w (ix2 k e) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  congr 2
  · funext a; match a with
    | ⟨0, _⟩ => exact Fin.ext (by simp [DotDims.lhsIdx, dot_S512x512_S512x1024_S512x1024_1_0_0_1_n_n]; rfl)
    | ⟨1, _⟩ => exact Fin.ext (Eq.trans (by simp [DotDims.lhsIdx, dot_S512x512_S512x1024_S512x1024_1_0_0_1_n_n]; rfl) hk)
  · funext a; match a with
    | ⟨0, _⟩ => exact Fin.ext (Eq.trans (by simp [DotDims.rhsIdx, dot_S512x512_S512x1024_S512x1024_1_0_0_1_n_n]; rfl) hk)
    | ⟨1, _⟩ => exact Fin.ext (by simp [DotDims.rhsIdx, dot_S512x512_S512x1024_S512x1024_1_0_0_1_n_n]; rfl)

/-- Half of the weights, as the kernel reads it. -/
abbrev lower (w : Vec Ideal S1024x1024 .bf16) : Vec Ideal S512x1024 .bf16 :=
  View.ld w (Rect.unit ![0, 0] ![512, 1024] Facts₀.inb_S1024x1024_S512x1024_0_0)
/-- The other half. -/
abbrev upper (w : Vec Ideal S1024x1024 .bf16) : Vec Ideal S512x1024 .bf16 :=
  View.ld w (Rect.unit ![512, 0] ![512, 1024] Facts₀.inb_S1024x1024_S512x1024_512_0)

theorem lower_apply (w : Vec Ideal S1024x1024 .bf16) (k : Fin 512) (e : Fin 1024) : lower w (ix2 k e) = w (ix2 ⟨k.val, by omega⟩ e) :=
  congrArg w (funext fun a => Fin.ext (by
    match a with
    | ⟨0, _⟩ => show 0 + 1 * k.val = k.val; omega
    | ⟨1, _⟩ => show 0 + 1 * e.val = e.val; omega))
theorem upper_apply (w : Vec Ideal S1024x1024 .bf16) (k : Fin 512) (e : Fin 1024) : upper w (ix2 k e) = w (ix2 ⟨512 + k.val, by omega⟩ e) :=
  congrArg w (funext fun a => Fin.ext (by
    match a with
    | ⟨0, _⟩ => show 512 + 1 * k.val = 512 + k.val; omega
    | ⟨1, _⟩ => show 0 + 1 * e.val = e.val; omega))

/-- The tile. -/
def tile (x : Vec Ideal S512x1024 .f32) (a b : Vec Ideal S512x512 .bf16) (w : Vec Ideal S1024x1024 .bf16) (y : S512x1024.Idx) : EReal :=
  summed (x y) (fun k => a (ix2 (y 0) k)) (fun k => b (ix2 (y 0) k)) (fun k => w (ix2 k (y 1)))

theorem pay3_apply (x : Vec Ideal S512x1024 .f32) (a b : Vec Ideal S512x512 .bf16) (w : Vec Ideal S1024x1024 .bf16) (y : S512x1024.Idx) :
    k0_pay3 x a (lower w) b (upper w) y = tile x a b w y := by
  obtain ⟨r, e, rfl⟩ : ∃ (r : Fin 512) (e : Fin 1024), y = ix2 r e := ⟨y 0, y 1, eq_ix2 y⟩
  unfold k0_pay3
  refine (congrArg₂ (fun p q : EReal => x (ix2 r e) + p + q) (product_half a (lower w) r e) (product_half b (upper w) r e)).trans ?_
  show _ = summed (x (ix2 r e)) (fun k => a (ix2 r k)) (fun k => b (ix2 r k)) (fun k => w (ix2 k e))
  unfold summed
  refine congrArg₂ (· + ·) (congrArg (x (ix2 r e) + ·) (Finset.sum_congr rfl fun k _ => ?_)) (Finset.sum_congr rfl fun k _ => ?_)
  · rw [lower_apply]
  · rw [upper_apply]

/-- What a point leaves in its first buffer. -/
theorem out_6 (c : Dev nD) (i : grid0.Coords)
    (a1 : Memref sig .tc .vmem S512x512 .bf16) (h1 : a1.IsWhole)
    (a2 : Memref sig .tc .vmem S512x512 .bf16) (h2 : a2.IsWhole)
    (a3 : Memref sig .tc .vmem S512x1024 .f32) (h3 : a3.IsWhole)
    (a4 : Memref sig .tc .vmem S1024x1024 .bf16) (h4 : a4.IsWhole)
    (a5 : Memref sig .tc .vmem S1x1024 .f32) (h5 : a5.IsWhole)
    (a6 : Memref sig .tc .vmem S1024x256 .bf16) (h6 : a6.IsWhole)
    (a7 : Memref sig .tc .vmem S512x1024 .f32) (h7 : a7.IsWhole)
    (a8 : Memref sig .tc .vmem S512x1152 .f32) (h8 : a8.IsWhole)
    (a9 : Memref sig .tc .vmem S1x4x128 .i32) (h9 : a9.IsWhole)
    (x0 x1 : Vec Ideal S512x512 .bf16) (x2 : Vec Ideal S512x1024 .f32) (x3 : Vec Ideal S1024x1024 .bf16) (x4 : Vec Ideal S1x1024 .f32)
    (x5 : Vec Ideal S1024x256 .bf16) (y : S512x1024.Idx) :
    out0_A_6 c i a1 h1 a2 h2 a3 h3 a4 h4 a5 h5 a6 h6 a7 h7 a8 h8 a9 h9 x0 x1 x2 x3 x4 x5 y = tile x2 x0 x1 x3 y := by
  unfold out0_A_6
  rw [View.read_writes_eq_canon _ _ _ (cover0_A_6 c i a1 h1 a2 h2 a3 h3 a4 h4 a5 h5 a6 h6 a7 h7 a8 h8 a9 h9 x0 x1 x2 x3 x4 x5)]
  unfold kernelRun0_A
  dsimp only
  sl_unfold_words
  rw [View.canon_unit_zero (S := S512x1024) zero_off]
  simp only [View.readAt_eq_ld, h1.read_unread, h2.read_unread, h3.read_unread, h4.read_unread,
      View.ld_unit_zero (S := S512x1024) zero_off, View.ld_unit_zero (S := S512x512) zero_off]
  exact pay3_apply x2 x0 x1 x3 y

/-! ## The array -/

variable (m : (ℓ : Loc nD τ sig) → Buf (Elt Ideal) ℓ) (c : Dev nD)

/-- The argument arrays by name. -/
abbrev groupA : Vec Ideal S16384x512 .bf16 := m ((c : Thread nD τ).loc main_arg0)
abbrev groupB : Vec Ideal S16384x512 .bf16 := m ((c : Thread nD τ).loc main_arg1)
abbrev residual : Vec Ideal S16384x1024 .f32 := m ((c : Thread nD τ).loc main_arg2)
abbrev weight : Vec Ideal S1024x1024 .bf16 := m ((c : Thread nD τ).loc main_arg3)

theorem points (t : Fin cfg0.N) : t.val < 32 := lt_of_lt_of_eq t.isLt N_0

theorem index_0 : ∀ t : Fin cfg0.N, win0_0.index t = ![t.val, 0] := (by decide +kernel : ∀ t : Fin grid0.N, win0_0.index t = ![t.val, 0])
theorem index_1 : ∀ t : Fin cfg0.N, win0_1.index t = ![t.val, 0] := (by decide +kernel : ∀ t : Fin grid0.N, win0_1.index t = ![t.val, 0])
theorem index_2 : ∀ t : Fin cfg0.N, win0_2.index t = ![t.val, 0] := (by decide +kernel : ∀ t : Fin grid0.N, win0_2.index t = ![t.val, 0])
theorem index_3 : ∀ t : Fin cfg0.N, win0_3.index t = ![0, 0] := (by decide +kernel : ∀ t : Fin grid0.N, win0_3.index t = ![0, 0])
theorem index_6 : ∀ t : Fin cfg0.N, win0_6.index t = ![t.val, 0] := (by decide +kernel : ∀ t : Fin grid0.N, win0_6.index t = ![t.val, 0])

/-- The row of the array a tile's row is. -/
def rowOf (t : Fin cfg0.N) (r : Fin 512) : Fin 16384 := ⟨t.val * 512 + r.val, by have := points t; omega⟩

theorem block_0 (t : Fin cfg0.N) (r k : Fin 512) : (iblk m c 0 t : Vec Ideal S512x512 .bf16) (ix2 r k) = groupA m c (ix2 (rowOf t r) k) := by
  refine Eq.trans (congrArg (V m c main_arg0) (funext fun a => Fin.ext ?_)) (congrFun (V_main_arg0 m c) _)
  refine (Window.rect_emb_val (cfg0.win 0) t (ix2 r k) a).trans ?_
  rw [show (cfg0.win 0).index t = ![t.val, 0] from index_0 t]
  match a with
  | ⟨0, _⟩ => rfl
  | ⟨1, _⟩ => exact Nat.zero_add _
theorem block_1 (t : Fin cfg0.N) (r k : Fin 512) : (iblk m c 1 t : Vec Ideal S512x512 .bf16) (ix2 r k) = groupB m c (ix2 (rowOf t r) k) := by
  refine Eq.trans (congrArg (V m c main_arg1) (funext fun a => Fin.ext ?_)) (congrFun (V_main_arg1 m c) _)
  refine (Window.rect_emb_val (cfg0.win 1) t (ix2 r k) a).trans ?_
  rw [show (cfg0.win 1).index t = ![t.val, 0] from index_1 t]
  match a with
  | ⟨0, _⟩ => rfl
  | ⟨1, _⟩ => exact Nat.zero_add _
theorem block_2 (t : Fin cfg0.N) (r : Fin 512) (k : Fin 1024) : (iblk m c 2 t : Vec Ideal S512x1024 .f32) (ix2 r k) = residual m c (ix2 (rowOf t r) k) := by
  refine Eq.trans (congrArg (V m c main_arg2) (funext fun a => Fin.ext ?_)) (congrFun (V_main_arg2 m c) _)
  refine (Window.rect_emb_val (cfg0.win 2) t (ix2 r k) a).trans ?_
  rw [show (cfg0.win 2).index t = ![t.val, 0] from index_2 t]
  match a with
  | ⟨0, _⟩ => rfl
  | ⟨1, _⟩ => exact Nat.zero_add _
theorem block_3 (t : Fin cfg0.N) (r k : Fin 1024) : (iblk m c 3 t : Vec Ideal S1024x1024 .bf16) (ix2 r k) = weight m c (ix2 r k) := by
  refine Eq.trans (congrArg (V m c main_arg3) (funext fun a => Fin.ext ?_)) (congrFun (V_main_arg3 m c) _)
  refine (Window.rect_emb_val (cfg0.win 3) t (ix2 r k) a).trans ?_
  rw [show (cfg0.win 3).index t = ![0, 0] from index_3 t]
  match a with
  | ⟨0, _⟩ => show 0 * 1024 + r.val = r.val; omega
  | ⟨1, _⟩ => exact Nat.zero_add _

/-- What the array is to hold. -/
def sumAt (i : Fin 16384) (e : Fin 1024) : EReal :=
  summed (residual m c (ix2 i e)) (fun k => groupA m c (ix2 i k)) (fun k => groupB m c (ix2 i k)) (fun k => weight m c (ix2 k e))

theorem point_value (t : Fin cfg0.N) (r : Fin 512) (e : Fin 1024) : (outsAt0 m c t).1 (ix2 r e) = sumAt m c (rowOf t r) e := by
  unfold outsAt0
  dsimp only
  rw [out_6]
  show summed (iblk m c 2 t (ix2 r e)) (fun k => iblk m c 0 t (ix2 r k)) (fun k => iblk m c 1 t (ix2 r k)) (fun k => iblk m c 3 t (ix2 k e)) = _
  unfold sumAt
  rw [block_2, show (fun k : Fin 512 => (iblk m c 0 t : Vec Ideal S512x512 .bf16) (ix2 r k)) = _ from funext fun k => block_0 m c t r k,
    show (fun k : Fin 512 => (iblk m c 1 t : Vec Ideal S512x512 .bf16) (ix2 r k)) = _ from funext fun k => block_1 m c t r k,
    show (fun k : Fin 1024 => (iblk m c 3 t : Vec Ideal S1024x1024 .bf16) (ix2 k e)) = _ from funext fun k => block_3 m c t k e]

/-- The point that writes a row. -/
def tileOf (i : Fin 16384) : Fin cfg0.N := ⟨i.val / 512, lt_of_lt_of_eq (by omega) N_0.symm⟩
/-- Where a row lies in its tile. -/
def inTile (i : Fin 16384) : Fin 512 := ⟨i.val % 512, Nat.mod_lt _ (by decide)⟩

theorem rowOf_tileOf (i : Fin 16384) : rowOf (tileOf i) (inTile i) = i := Fin.ext (by
  show i.val / 512 * 512 + i.val % 512 = i.val; omega)

/-- The array after the launch. -/
def finalArray : Buf (Elt Ideal) ((c : Thread nD τ).loc main_v0_0) := (dats m 0 c).arrAt 6 cfg0.N

theorem array_apply (i : Fin 16384) (e : Fin 1024) : finalArray m c (ix2 i e : S16384x1024.Idx) = sumAt m c i e := by
  have h := congrFun (Value.blocks6 m c (tileOf i) (flush0_6 (tileOf i))) (ix2 (inTile i) e : S512x1024.Idx)
  rw [Value.flushed6] at h
  have hy : ((cfg0.win 6).blk (tileOf i)).view.emb (ix2 (inTile i) e : S512x1024.Idx) = (ix2 i e : S16384x1024.Idx) := funext fun a => Fin.ext (by
    refine (Window.rect_emb_val (cfg0.win 6) (tileOf i) (ix2 (inTile i) e) a).trans ?_
    rw [show (cfg0.win 6).index (tileOf i) = ![(tileOf i).val, 0] from index_6 (tileOf i)]
    match a with
    | ⟨0, _⟩ => exact congrArg Fin.val (rowOf_tileOf i)
    | ⟨1, _⟩ => exact Nat.zero_add _)
  refine Eq.trans (congrArg ((dats m 0 c).arrAt 6 cfg0.N) hy.symm) (Eq.trans h ?_)
  exact (point_value m c (tileOf i) (inTile i) e).trans (by rw [rowOf_tileOf])

end Cert.Kernel3Ideal.Outproj

end
-- ==== Proof.Outproj.Reference.lean ====
/-
  The reference's result, element by element over the extended reals.
-/
module

public import proofs.«01_k».proof.Proof.Gen.Reference3Ideal.Read
public import proofs.«01_k».proof.Proof.Outproj.Math
public import Idealize.ShloMosaic.Lib.KernelVsHost

@[expose] public section

noncomputable section

namespace Cert.Reference3Ideal.Outproj

open Idealize.ShloMosaic Idealize.ShloMosaic.TcCoe Idealize.ShloMosaic.ValueIdx
open Cert.Reference3Ideal Cert.Reference3Ideal.Gen Cert.Reference3Ideal.Read Cert.Outproj

variable (a b : S16384x512.Idx → EReal) (x : S16384x1024.Idx → EReal) (w : S1024x1024.Idx → EReal)

theorem mixed_apply (i : Fin 16384) (k : Fin 1024) :
    val_main_v0 (F := Ideal) a b (ix2 i k) = joined (fun k => a (ix2 i k)) (fun k => b (ix2 i k)) k := by
  unfold val_main_v0 joined
  by_cases h : k.val < 512
  · rw [dif_pos h]
    exact concatenate_pair_apply_left (t := S16384x1024) 1 a b _ _ rfl (ix2 i ⟨k.val, h⟩) (fun a => by match a with | ⟨0, _⟩ => rfl | ⟨1, _⟩ => rfl)
  · rw [dif_neg h]
    refine concatenate_pair_apply_right (t := S16384x1024) 1 a b _ _ rfl rfl (ix2 i ⟨k.val - 512, by omega⟩) (fun a ha => ?_) ?_
    · match a with
      | ⟨0, _⟩ => rfl
      | ⟨1, _⟩ => exact absurd rfl ha
    · show k.val - 512 + 512 = k.val
      omega

theorem result_apply (i : Fin 16384) (e : Fin 1024) :
    val_main_v4 (F := Ideal) a b x w (ix2 i e)
      = summed (x (ix2 i e)) (fun k => a (ix2 i k)) (fun k => b (ix2 i k)) (fun k => w (ix2 k e)) := by
  rw [val_main_v4_apply, val_main_v3_apply, ← joined_sum]
  refine congrArg (x (ix2 i e) + ·) (Finset.sum_congr rfl fun k _ => congrArg₂ (· * ·) ?_ ?_)
  · rw [val_main_v1_apply]
    refine Eq.trans ?_ (mixed_apply a b i k)
    exact congrArg (val_main_v0 (F := Ideal) a b) (funext fun (a : Fin 2) => by match a with | ⟨0, _⟩ => rfl | ⟨1, _⟩ => rfl)
  · rw [val_main_v2_apply]
    exact congrArg w (funext fun (a : Fin 2) => by match a with | ⟨0, _⟩ => rfl | ⟨1, _⟩ => rfl)

end Cert.Reference3Ideal.Outproj

end
-- ==== Proof.Outproj.Claims.lean ====
/-
  The output projection's claims: the frames of the kernel, of its idealization and of the reference, and the equality of the result over
  the extended reals, for every value of the arguments.
-/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Outproj.Kernel
public import proofs.«01_k».proof.Proof.Outproj.Reference

@[expose] public section

noncomputable section

namespace Cert.Outproj.Claims

open Idealize.ShloMosaic Idealize.SL.Sem

theorem frame_bits : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r q => ⟨fun c => (q c).2, sem_eq_zero_of_no_sems (by decide) r.2⟩)
    (Cert.Reference3Ideal.Value.run (F := Ideal) m ρ)

theorem equal : Cert.algebraic_Kernel3Ideal_Reference3Ideal := fun m ρ m' ρ' _ hag => by
  refine ⟨fun c => Cert.Kernel3Ideal.Outproj.finalArray m c,
    (θ_run Cert.Kernel3Ideal.defs _ _).mono (fun r q c => ⟨(q c).1, (q c).2.2.2⟩) (Cert.Kernel3Ideal.Value.run_blocks m ρ), ?_⟩
  refine (θ_run Cert.Reference3Ideal.defs _ _).mono (fun r q c => ⟨(q c).1.trans ?_, (q c).2⟩)
    (Cert.Reference3Ideal.Value.run (F := Ideal) m' ρ')
  obtain ⟨a0, a1, a2, a3, a4, a5⟩ := hag c
  rw [Cert.Reference3Ideal.Read.val_main_v4_eq, a0, a1, a2, a3]
  funext j
  obtain ⟨i, e, rfl⟩ : ∃ (i : Fin 16384) (e : Fin 1024), j = ValueIdx.ix2 i e := ⟨j 0, j 1, ValueIdx.eq_ix2 j⟩
  exact (Cert.Reference3Ideal.Outproj.result_apply _ _ _ _ i e).trans (Cert.Kernel3Ideal.Outproj.array_apply m c i e).symm

end Cert.Outproj.Claims

end
-- ==== Proof.Router.Select.lean ====
/-
  Choosing the first and the second of four logits, equal ones by index: by counting how many stand before an entry, and by the largest
  of a row of 128 lanes and the smallest lane that holds it.
-/
module

public import Idealize.ShloMosaic.PureOps.Ideal.Laws

@[expose] public section

noncomputable section

namespace Cert.Router

open Idealize.ShloMosaic

/-- Entry `j` stands before entry `i`: it is larger, or equal with the lower index. -/
def Before (t : Fin 4 → ℝ) (j i : Fin 4) : Prop := t i < t j ∨ (t j = t i ∧ j < i)

/-- Entry `i` is the first. -/
def First (t : Fin 4 → ℝ) (i : Fin 4) : Prop := ∀ j, j ≠ i → Before t i j

/-- Entry `s` is the second, the first being `i`. -/
def Second (t : Fin 4 → ℝ) (i s : Fin 4) : Prop := s ≠ i ∧ ∀ j, j ≠ i → j ≠ s → Before t s j

theorem Before.not_symm {t : Fin 4 → ℝ} {i j : Fin 4} (h : Before t i j) : ¬Before t j i := by
  rintro (h' | ⟨h', l'⟩) <;> rcases h with h | ⟨h, l⟩
  · exact lt_asymm h h'
  · exact absurd h (ne_of_lt h')
  · exact absurd h' (ne_of_lt h)
  · exact lt_asymm l l'

theorem Before.irrefl (t : Fin 4 → ℝ) (i : Fin 4) : ¬Before t i i := fun h => h.not_symm h

theorem Before.le {t : Fin 4 → ℝ} {i j : Fin 4} (h : Before t i j) : t j ≤ t i := h.elim le_of_lt fun h => h.1.ge

/-- Of some of the entries one is the first. -/
theorem exists_before (t : Fin 4 → ℝ) (S : Finset (Fin 4)) (hS : S.Nonempty) : ∃ i ∈ S, ∀ j ∈ S, j ≠ i → Before t i j := by
  obtain ⟨p, hp, hm⟩ := S.exists_max_image t hS
  have hT : (S.filter fun j => t j = t p).Nonempty := ⟨p, Finset.mem_filter.mpr ⟨hp, rfl⟩⟩
  have hi := Finset.mem_filter.mp ((S.filter fun j => t j = t p).min'_mem hT)
  refine ⟨_, hi.1, fun j hj hne => ?_⟩
  rcases (hm j hj).lt_or_eq with h | h
  · exact .inl (h.trans_eq hi.2.symm)
  · exact .inr ⟨hi.2.trans h.symm, lt_of_le_of_ne (Finset.min'_le _ j (Finset.mem_filter.mpr ⟨hj, h⟩)) (Ne.symm hne)⟩

theorem exists_first (t : Fin 4 → ℝ) : ∃ i, First t i := by
  obtain ⟨i, -, h⟩ := exists_before t Finset.univ ⟨0, Finset.mem_univ _⟩
  exact ⟨i, fun j hj => h j (Finset.mem_univ _) hj⟩

theorem exists_second (t : Fin 4 → ℝ) (i : Fin 4) : ∃ s, Second t i s := by
  obtain ⟨s, hs, h⟩ := exists_before t (Finset.univ.erase i) (by
    rw [← Finset.card_pos, Finset.card_erase_of_mem (Finset.mem_univ _)]; decide)
  exact ⟨s, Finset.ne_of_mem_erase hs, fun j hi hj => h j (Finset.mem_erase.mpr ⟨hi, Finset.mem_univ _⟩) hj⟩

theorem First.max {t : Fin 4 → ℝ} {i : Fin 4} (h : First t i) (j : Fin 4) : t j ≤ t i := by
  by_cases e : j = i
  · rw [e]
  · exact (h j e).le

theorem First.least {t : Fin 4 → ℝ} {i : Fin 4} (h : First t i) (j : Fin 4) (e : t j = t i) : i ≤ j := by
  by_cases e' : j = i
  · rw [e']
  · exact (h j e').elim (fun l => absurd e (ne_of_lt l)) fun l => l.2.le

theorem Second.max {t : Fin 4 → ℝ} {i s : Fin 4} (h : Second t i s) (j : Fin 4) (hj : j ≠ i) : t j ≤ t s := by
  by_cases e : j = s
  · rw [e]
  · exact (h.2 j hj e).le

theorem Second.least {t : Fin 4 → ℝ} {i s : Fin 4} (h : Second t i s) (j : Fin 4) (hj : j ≠ i) (e : t j = t s) : s ≤ j := by
  by_cases e' : j = s
  · rw [e']
  · exact (h.2 j hj e').elim (fun l => absurd e (ne_of_lt l)) fun l => l.2.le

open Classical in
/-- How many entries stand before entry `i`. -/
def rank (t : Fin 4 → ℝ) (i : Fin 4) : EReal := ∑ j : Fin 4, if Before t j i then 1 else 0

open Classical in
theorem rank_eq_card (t : Fin 4 → ℝ) (i : Fin 4) : rank t i = (((Finset.univ.filter fun j => Before t j i).card : ℕ) : EReal) := by
  unfold rank
  rw [Finset.sum_boole]

theorem natCast_inj (a b : ℕ) : ((a : EReal) = (b : EReal)) ↔ a = b := by
  rw [← EReal.coe_natCast, ← EReal.coe_natCast, EReal.coe_eq_coe_iff, Nat.cast_inj]

/-- The first is the entry of rank zero. -/
theorem rank_eq_zero {t : Fin 4 → ℝ} {i : Fin 4} (h : First t i) (j : Fin 4) : rank t j = 0 ↔ j = i := by
  classical
  rw [rank_eq_card, show (0 : EReal) = ((0 : ℕ) : EReal) from Nat.cast_zero.symm, natCast_inj, Finset.card_eq_zero, Finset.filter_eq_empty_iff]
  constructor
  · intro h0
    by_contra e
    exact h0 (Finset.mem_univ i) (h j e)
  · rintro rfl k -
    by_cases e : k = j
    · rw [e]; exact Before.irrefl t j
    · exact (h k e).not_symm

/-- The second is the entry of rank one. -/
theorem rank_eq_one {t : Fin 4 → ℝ} {i s : Fin 4} (h : First t i) (h' : Second t i s) (j : Fin 4) : rank t j = 1 ↔ j = s := by
  classical
  rw [rank_eq_card, show (1 : EReal) = ((1 : ℕ) : EReal) from Nat.cast_one.symm, natCast_inj]
  constructor
  · intro h1
    by_contra e
    by_cases ei : j = i
    · have := (rank_eq_zero h j).mpr ei
      rw [rank_eq_card, h1, Nat.cast_one] at this
      exact one_ne_zero this
    · obtain ⟨a, ha⟩ := Finset.card_eq_one.mp h1
      have hi : i ∈ (Finset.univ.filter fun k => Before t k j) := Finset.mem_filter.mpr ⟨Finset.mem_univ _, h j ei⟩
      have hs : s ∈ (Finset.univ.filter fun k => Before t k j) := Finset.mem_filter.mpr ⟨Finset.mem_univ _, h'.2 j ei e⟩
      rw [ha, Finset.mem_singleton] at hi hs
      exact h'.1 (hs.trans hi.symm)
  · rintro rfl
    refine Finset.card_eq_one.mpr ⟨i, Finset.ext fun k => ?_⟩
    rw [Finset.mem_filter, Finset.mem_singleton]
    constructor
    · rintro ⟨-, hk⟩
      by_contra e
      by_cases ek : k = j
      · rw [ek] at hk; exact Before.irrefl t j hk
      · exact (h'.2 k e ek).not_symm hk
    · rintro rfl
      exact ⟨Finset.mem_univ _, h j h'.1⟩

/-- A sum of real numbers. -/
theorem coe_sum {n : ℕ} (f : Fin n → ℝ) : ((∑ i, f i : ℝ) : EReal) = ∑ i, (f i : EReal) := by
  refine Finset.induction_on (Finset.univ : Finset (Fin n)) (by simp) fun a s ha h => ?_
  rw [Finset.sum_insert ha, Finset.sum_insert ha, EReal.coe_add, h]

/-- A quotient of real numbers. -/
theorem div_real (a b : ℝ) (h : b ≠ 0) : Ideal.div (a : EReal) (b : EReal) = ((a / b : ℝ) : EReal) := by
  rw [Ideal.div_coe h, ← EReal.coe_mul, mul_one_div]

/-! ## Lanes -/

/-- The largest value of the lanes in use. -/
theorem fold_max {n : ℕ} (m : Fin n → Prop) [DecidablePred m] (L : Fin n → EReal) (p : Fin n) (hp : m p) (h : ∀ l, m l → L l ≤ L p) :
    Finset.fold max ⊥ (fun l => if m l then L l else ⊥) Finset.univ = L p := by
  refine le_antisymm (Finset.fold_max_le _ |>.mpr ⟨bot_le, fun l _ => ?_⟩) (Finset.le_fold_max _ |>.mpr (.inr ⟨p, Finset.mem_univ _, ?_⟩))
  · split_ifs with hl
    · exact h l hl
    · exact bot_le
  · rw [if_pos hp]

/-- The smallest lane of those in use, where the others hold a larger number. -/
theorem fold_min {n : ℕ} (m : Fin n → Prop) [DecidablePred m] (L : Fin n → EReal) (b : EReal) (p : Fin n) (hp : m p)
    (h : ∀ l, m l → L p ≤ L l) (hb : L p ≤ b) :
    Finset.fold min ⊤ (fun l => if m l then L l else b) Finset.univ = L p := by
  refine le_antisymm (Finset.fold_min_le _ |>.mpr (.inr ⟨p, Finset.mem_univ _, ?_⟩)) (Finset.le_fold_min _ |>.mpr ⟨le_top, fun l _ => ?_⟩)
  · rw [if_pos hp]
  · split_ifs with hl
    · exact h l hl
    · exact hb

/-- The sum over the first four of 128 lanes. -/
theorem sum_four (f : Fin 128 → EReal) : ∑ l : Fin 128, (if l.val < 4 then f l else 0) = ∑ g : Fin 4, f ⟨g.val, by omega⟩ := by
  rw [show (∑ l : Fin 128, (if l.val < 4 then f l else 0)) = _ from Fin.sum_univ_add (a := 4) (b := 124) (fun l : Fin 128 => if l.val < 4 then f l else 0)]
  rw [show (∑ i : Fin 124, (if (Fin.natAdd 4 i : Fin 128).val < 4 then f (Fin.natAdd 4 i) else 0)) = 0 from
    Finset.sum_eq_zero fun i _ => if_neg (by show ¬(4 + i.val < 4); omega), add_zero]
  exact Finset.sum_congr rfl fun i _ => if_pos i.isLt

end Cert.Router

end
-- ==== Proof.Router.Math.lean ====
/-
  The router's mathematics over the extended reals: a row's norm, which is real whenever the gain is, the inner products of real numbers,
  and the row that both sides compute: the normed row, the weights of the two experts, that of the lower index first, and zeros.
-/
module

public import proofs.«01_k».proof.Proof.Router.Select

@[expose] public section

noncomputable section

namespace Cert.Router

open Idealize.ShloMosaic

/-- An element that is a real number. -/
def IsReal (x : EReal) : Prop := ∃ y : ℝ, x = (y : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub_self {x : EReal} (hx : IsReal x) : x - x = 0 := by
  obtain ⟨a, rfl⟩ := hx
  rw [← EReal.coe_sub, _root_.sub_self, EReal.coe_zero]

theorem isReal_sum {n : ℕ} (f : Fin n → EReal) (h : ∀ k, IsReal (f k)) : IsReal (∑ k, f k) := by
  choose g hg using h
  exact ⟨∑ k, g k, by rw [coe_sum]; exact Finset.sum_congr rfl fun k _ => hg k⟩

theorem isReal_of_abs_lt_top {x : EReal} (h : max x (-x) < ⊤) : IsReal x := by
  induction x using EReal.rec with
  | bot => exact absurd h (by simp)
  | top => exact absurd h (by simp)
  | coe a => exact ⟨a, rfl⟩

/-! ## The norm -/

theorem lit_width : Ideal.ofBits .f32 1149239296#32 = ((1024 : ℝ) : EReal) := by
  simp [Ideal.ofBits, Ideal.ieee, -EReal.coe_mul]; norm_num

theorem lit_eps : ∃ e : ℝ, 0 < e ∧ Ideal.ofBits .f32 897988541#32 = (e : EReal) := by
  refine ⟨_, ?_, by simp [Ideal.ofBits, Ideal.ieee, -EReal.coe_mul]; rfl⟩
  positivity

/-- An element of a row, over the root of the mean of the squares plus a small number, times its gain. -/
def normed {n : ℕ} (x g : Fin n → EReal) (l : Fin n) : EReal :=
  x l * Ideal.rsqrt (Ideal.div (∑ k, x k * x k) (Ideal.ofBits .f32 1149239296#32) + Ideal.ofBits .f32 897988541#32) * g l

theorem mul_self_nonneg' (x : EReal) : 0 ≤ x * x := by
  induction x using EReal.rec with
  | bot => simp
  | top => simp
  | coe a => rw [← EReal.coe_mul]; exact_mod_cast mul_self_nonneg a

/-- Its factor is real: zero if an element of the row is infinite. -/
theorem factor_real {n : ℕ} (x : Fin n → EReal) (l : Fin n) :
    IsReal (x l * Ideal.rsqrt (Ideal.div (∑ k, x k * x k) (Ideal.ofBits .f32 1149239296#32) + Ideal.ofBits .f32 897988541#32)) := by
  obtain ⟨e, he, hE⟩ := lit_eps
  rw [hE, lit_width]
  by_cases h : ∀ k, IsReal (x k)
  · refine (h l).mul ?_
    choose y hy using h
    have hs : ∑ k, x k * x k = ((∑ k, y k * y k : ℝ) : EReal) := by
      rw [coe_sum]
      exact Finset.sum_congr rfl fun k _ => by rw [hy, EReal.coe_mul]
    rw [hs, div_real _ _ (by norm_num), ← EReal.coe_add]
    have hp : 0 < (∑ k, y k * y k) / 1024 + e := add_pos_of_nonneg_of_pos (div_nonneg (Finset.sum_nonneg fun k _ => mul_self_nonneg _) (by norm_num)) he
    refine ⟨(Real.sqrt ((∑ k, y k * y k) / 1024 + e))⁻¹, ?_⟩
    show (if (∑ k, y k * y k) / 1024 + e < 0 then ⊥ else if (∑ k, y k * y k) / 1024 + e = 0 then ⊤ else _) = _
    rw [if_neg hp.not_gt, if_neg hp.ne']
  · obtain ⟨p, hp⟩ := not_forall.mp h
    have ht : x p * x p = ⊤ := by
      revert hp
      induction x p using EReal.rec with
      | bot => simp
      | top => simp
      | coe a => exact fun hp => absurd ⟨a, rfl⟩ hp
    have hs : ∑ k, x k * x k = ⊤ := top_le_iff.mp (ht.symm.le.trans (Finset.single_le_sum (f := fun k => x k * x k) (fun k _ => mul_self_nonneg' _) (Finset.mem_univ p)))
    have hd : Ideal.div ⊤ ((1024 : ℝ) : EReal) = ⊤ := by
      rw [Ideal.div_coe (by norm_num)]
      exact EReal.top_mul_coe_of_pos (by norm_num)
    rw [hs, hd, EReal.top_add_coe]
    exact ⟨0, (mul_zero _)⟩

theorem normed_real {n : ℕ} (x g : Fin n → EReal) (l : Fin n) (hg : IsReal (g l)) : IsReal (normed x g l) := (factor_real x l).mul hg

/-! ## The row -/

/-- The column of an expert among the sixteen. -/
abbrev column (q j : Fin 4) : Fin 16 := ⟨4 * q.val + j.val, by omega⟩

/-- The first expert's weight: its share of two, times the group's probability. -/
def weightOne (G : Fin 4 → ℝ) (E : Fin 4 → Fin 4 → ℝ) (g i s : Fin 4) : ℝ :=
  1 / (∑ j : Fin 4, Real.exp (G j - G g)) / (1 + Real.exp (E g s - E g i))
/-- The second's. -/
def weightTwo (G : Fin 4 → ℝ) (E : Fin 4 → Fin 4 → ℝ) (g i s : Fin 4) : ℝ :=
  1 / (∑ j : Fin 4, Real.exp (G j - G g)) * Real.exp (E g s - E g i) / (1 + Real.exp (E g s - E g i))

/-- The row of 1152 elements. -/
def row (H : Fin 1024 → EReal) (a b : EReal) (i s : Fin 4) (l : Fin 1152) : EReal :=
  if h : l.val < 1024 then H ⟨l.val, h⟩
  else if l.val - 1024 = 0 then (if i < s then a else b) else if l.val - 1024 = 1 then (if i < s then b else a) else 0

end Cert.Router

end
-- ==== Proof.Router.Pre.lean ====
/-
  What the router's precondition says of the argument arrays: the gain and the router's weights are real numbers.
-/
module

public import proofs.«01_k».proof.Pre_finite_router
public import proofs.«01_k».proof.Proof.Experts.Pre
public import proofs.«01_k».proof.Proof.Router.Math
public import Idealize.ShloMosaic.Lib.Decide

@[expose] public section

noncomputable section

namespace Cert.Pre_finite_router.Decode

open Idealize.ShloMosaic Cert.Pre_finite_router Cert.Router
open Cert.Pre_routed.Decode (and_true all_of_reduce)

/-- The side conditions that the precondition states. -/
instance facts : Facts where
  bcast_S_S1x1024 := by decide
  reducesTo_S1x1024_S_d0_1 := by decide
  h_S_ := by decide
  bcast_S_S1024x4 := by decide
  reducesTo_S1024x4_S_d0_1 := by decide
  bcast_S_S1024x16 := by decide
  reducesTo_S1024x16_S_d0_1 := by decide

theorem real_of_word {x : EReal}
    (h : FloatOps.cmpf (F := Ideal) (φ := .f32) .olt (FloatOps.hostAbsf (F := Ideal) (φ := .f32) x) (FloatOps.ofBits .f32 0x7F800000#32) = 1#1) : IsReal x := by
  have ht : Ideal.ofBits .f32 0x7F800000#32 = ⊤ := by simp [Ideal.ofBits, Ideal.ieee]
  have hb : ∀ b : Bool, BitVec.ofBool b = 1#1 → b = true := by decide
  have h' : max x (-x) < Ideal.ofBits .f32 0x7F800000#32 := of_decide_eq_true (hb _ h)
  rw [ht] at h'
  exact isReal_of_abs_lt_top h'

theorem real {a0 a1 a2 a3} {g : FVec Ideal S1x1024 .f32} {u : FVec Ideal S1024x4 .f32} {v : FVec Ideal S1024x16 .f32}
    (h : fn (F := Ideal) a0 a1 a2 a3 g u v = fun _ => 1#1) :
    (∀ j, IsReal (g j)) ∧ (∀ j, IsReal (u j)) ∧ ∀ j, IsReal (v j) := by
  have e := congrFun h (fun a => a.elim0)
  unfold fn at e
  obtain ⟨e, ev⟩ := and_true _ _ e
  obtain ⟨eg, eu⟩ := and_true _ _ e
  exact ⟨fun j => real_of_word (all_of_reduce _ _ _ _ _ eg j), fun j => real_of_word (all_of_reduce _ _ _ _ _ eu j),
    fun j => real_of_word (all_of_reduce _ _ _ _ _ ev j)⟩

end Cert.Pre_finite_router.Decode

end
-- ==== Proof.Router.Payload.lean ====
/-
  The kernel's routing of one row of a tile over the extended reals, from the row's 128 logits: the first group, its probability, the
  first two experts of that group, and their weights.
-/
module

public import proofs.«01_k».proof.Proof.Gen.Kernel4Ideal.Skeleton
public import proofs.«01_k».proof.Proof.Router.Select
public import Idealize.ShloMosaic.Lib.Pointwise

@[expose] public section

set_option maxRecDepth 16384

noncomputable section

namespace Cert.Kernel4Ideal.Router

open Idealize.ShloMosaic Idealize.ShloMosaic.Tactic Idealize.ShloMosaic.Pointwise
open Cert.Kernel4Ideal Cert.Kernel4Ideal.Gen Cert.Router

/-! ## Words and literals -/

theorem select_if (p : Prop) [Decidable p] (a b : EReal) : Scalar.select (BitVec.ofBool (decide p)) a b = if p then a else b := by
  by_cases h : p <;> simp [h, Scalar.select]

theorem and_if (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

theorem lit_top : Ideal.ofBits .f32 2139095040#32 = ⊤ := by simp [Ideal.ofBits, Ideal.ieee]
theorem lit_bot : Ideal.ofBits .f32 4286578688#32 = ⊥ := by simp [Ideal.ofBits, Ideal.ieee]
theorem lit_four : Ideal.ofBits .f32 1082130432#32 = ((4 : ℝ) : EReal) := by
  simp [Ideal.ofBits, Ideal.ieee, -EReal.coe_mul]; norm_num
theorem lit_lanes : Ideal.ofBits .f32 1124073472#32 = ((128 : ℝ) : EReal) := by
  simp [Ideal.ofBits, Ideal.ieee, -EReal.coe_mul]; norm_num
theorem mask : Named.named (F := Ideal) (φ := .f32) κ "mask" 0xF149F2CA#32 = (⊥ : EReal) := IdealRules.named_const.ideal_named_scalar _ _ _ _ rfl

theorem lane_word : ∀ l : Fin 128, (BitVec.ofNat 32 l.val).toInt = (l.val : ℤ) := by decide

/-- A lane's number. -/
abbrev lane (l : Fin 128) : EReal := ((l.val : ℝ) : EReal)

theorem lane_le (a b : Fin 128) : lane a ≤ lane b ↔ a.val ≤ b.val := by
  unfold lane; rw [EReal.coe_le_coe_iff, Nat.cast_le]

theorem pay11_apply (r : Fin 512) (l : Fin 128) : k0_pay11 (F := Ideal) (ix2 r l) = lane l := by
  pointwise [k0_pay11]
  show (((BitVec.ofNat 32 l.val).toInt : ℝ) : EReal) = _
  rw [lane_word, Int.cast_natCast]

theorem pay12_apply (r : Fin 512) (l : Fin 128) : k0_pay12 (ix2 r l) = BitVec.ofBool (decide (l.val < 4)) := by
  pointwise [k0_pay12]
  exact (by decide : ∀ l : Fin 128, IntOp.cmpi .slt (BitVec.ofNat 32 l.val) 4#32 = BitVec.ofBool (decide (l.val < 4))) l

/-! ## The first group -/

/-- A row's logits: four of the groups, then four of each group's experts. -/
structure Logits (L : Fin 128 → EReal) (G : Fin 4 → ℝ) (E : Fin 4 → Fin 4 → ℝ) : Prop where
  group : ∀ g : Fin 4, L ⟨g.val, by omega⟩ = (G g : EReal)
  expert : ∀ g k : Fin 4, L ⟨4 + 4 * g.val + k.val, by omega⟩ = (E g k : EReal)

/-- The lane of a group. -/
abbrev atGroup (g : Fin 4) : Fin 128 := ⟨g.val, by omega⟩
/-- The lane of an expert. -/
abbrev atExpert (g k : Fin 4) : Fin 128 := ⟨4 + 4 * g.val + k.val, by omega⟩

theorem expert_in (g k : Fin 4) : 4 + 4 * g.val ≤ (atExpert g k).val ∧ (atExpert g k).val < 8 + 4 * g.val :=
  ⟨by show 4 + 4 * g.val ≤ 4 + 4 * g.val + k.val; omega, by show 4 + 4 * g.val + k.val < 8 + 4 * g.val; omega⟩

theorem expert_inj {g k k' : Fin 4} (h : atExpert g k = atExpert g k') : k = k' := Fin.ext (by
  have : 4 + 4 * g.val + k.val = 4 + 4 * g.val + k'.val := congrArg Fin.val h
  omega)

theorem inGroup (g : Fin 4) (l : Fin 128) (h : 4 + 4 * g.val ≤ l.val ∧ l.val < 8 + 4 * g.val) : ∃ k, l = atExpert g k :=
  ⟨⟨l.val - (4 + 4 * g.val), by omega⟩, Fin.ext (by show l.val = 4 + 4 * g.val + (l.val - (4 + 4 * g.val)); omega)⟩

theorem sum_pos (G : Fin 4 → ℝ) (g : Fin 4) : 0 < ∑ j : Fin 4, Real.exp (G j - G g) :=
  Finset.sum_pos (fun _ _ => Real.exp_pos _) ⟨0, Finset.mem_univ _⟩

section Group

variable (v27 : FVec Ideal S512x1024 .bf16) (v31 v32 : FVec Ideal S512x128 .f32) (v34 : Vec Ideal S1024x128 .bf16)
  (r : Fin 512) (L : Fin 128 → EReal) (G : Fin 4 → ℝ) (E : Fin 4 → Fin 4 → ℝ)
  (hL : ∀ l, k0_pay10 v27 v31 v32 v34 (ix2 r l) = L l) (hR : Logits L G E) (g i s : Fin 4) (hg : First G g)
  (hi : First (E g) i) (hs : Second (E g) i s)

include hL

theorem pay13_apply (l : Fin 128) : k0_pay13 v27 v31 v32 v34 (ix2 r l) = if l.val < 4 then L l else ⊥ := by
  pointwise [k0_pay13]
  rw [hL, pay12_apply, mask, select_if]

include hR hg

theorem pay14_apply : k0_pay14 v27 v31 v32 v34 (ix2 r 0) = (G g : EReal) := by
  pointwise [k0_pay14]
  rw [lit_bot]
  simp only [pay13_apply v27 v31 v32 v34 r L hL]
  refine (fold_max (fun l : Fin 128 => l.val < 4) L (atGroup g) g.isLt fun l hl => ?_).trans (hR.group g)
  have := hR.group ⟨l.val, hl⟩
  rw [hR.group g]
  refine this.le.trans ?_
  exact EReal.coe_le_coe_iff.mpr (hg.max _)

theorem pay15_apply : k0_pay15 v27 v31 v32 v34 (ix2 r 0) = ((1 / ∑ j : Fin 4, Real.exp (G j - G g) : ℝ) : EReal) := by
  pointwise [k0_pay15]
  simp only [pay13_apply v27 v31 v32 v34 r L hL, pay14_apply v27 v31 v32 v34 r L G E hL hR g hg, pay12_apply, select_if]
  have e : (∑ l : Fin 128, (if l.val < 4 then Ideal.exp ((if l.val < 4 then L l else ⊥) - (G g : EReal)) else 0))
      = ((∑ j : Fin 4, Real.exp (G j - G g) : ℝ) : EReal) := by
    rw [sum_four (fun l => Ideal.exp ((if l.val < 4 then L l else ⊥) - (G g : EReal))), coe_sum]
    refine Finset.sum_congr rfl fun j _ => ?_
    rw [if_pos j.isLt, hR.group j, ← EReal.coe_sub]
    rfl
  exact (congrArg (Ideal.div ((1 : ℝ) : EReal)) e).trans (div_real _ _ (sum_pos G g).ne')

theorem pay16_apply : k0_pay16 v27 v31 v32 v34 (ix2 r 0) = lane (atGroup g) := by
  pointwise [k0_pay16]
  rw [lit_top, lit_lanes]
  simp only [pay13_apply v27 v31 v32 v34 r L hL, pay14_apply v27 v31 v32 v34 r L G E hL hR g hg, pay12_apply, pay11_apply, and_if, select_if]
  refine fold_min (fun l : Fin 128 => l.val < 4 ∧ (if l.val < 4 then L l else ⊥) = (G g : EReal)) lane ((128 : ℝ) : EReal) (atGroup g)
    ⟨g.isLt, by rw [if_pos g.isLt]; exact hR.group g⟩ (fun l hl => ?_) ?_
  · rw [lane_le]
    have h := hl.2
    rw [if_pos hl.1] at h
    exact hg.least ⟨l.val, hl.1⟩ (EReal.coe_eq_coe_iff.mp ((hR.group ⟨l.val, hl.1⟩).symm.trans h))
  · rw [EReal.coe_le_coe_iff]
    exact_mod_cast (by omega : g.val ≤ 128)

theorem pay17_apply : k0_pay17 v27 v31 v32 v34 (ix2 r 0) = (((4 + 4 * g.val : ℕ) : ℝ) : EReal) := by
  pointwise [k0_pay17]
  rw [pay16_apply v27 v31 v32 v34 r L G E hL hR g hg, lit_four]
  unfold lane
  rw [← EReal.coe_mul, ← EReal.coe_add]
  push_cast
  rfl

theorem pay18_apply (l : Fin 128) :
    k0_pay18 v27 v31 v32 v34 (ix2 r l) = BitVec.ofBool (decide (4 + 4 * g.val ≤ l.val ∧ l.val < 8 + 4 * g.val)) := by
  pointwise [k0_pay18]
  rw [pay17_apply v27 v31 v32 v34 r L G E hL hR g hg, lit_four, pay11_apply, ← EReal.coe_add, and_if]
  refine congrArg BitVec.ofBool (decide_eq_decide.mpr (and_congr ?_ ?_))
  · rw [EReal.coe_le_coe_iff, Nat.cast_le]
  · rw [EReal.coe_lt_coe_iff]
    have : ((4 + 4 * g.val : ℕ) : ℝ) + 4 = ((8 + 4 * g.val : ℕ) : ℝ) := by push_cast; ring
    rw [this, Nat.cast_lt]

theorem pay19_apply (l : Fin 128) :
    k0_pay19 v27 v31 v32 v34 (ix2 r l) = if 4 + 4 * g.val ≤ l.val ∧ l.val < 8 + 4 * g.val then L l else ⊥ := by
  pointwise [k0_pay19]
  rw [hL, pay18_apply v27 v31 v32 v34 r L G E hL hR g hg, mask, select_if]

include hi

theorem pay20_apply : k0_pay20 v27 v31 v32 v34 (ix2 r 0) = (E g i : EReal) := by
  pointwise [k0_pay20]
  rw [lit_bot]
  simp only [pay19_apply v27 v31 v32 v34 r L G E hL hR g hg]
  refine (fold_max (fun l : Fin 128 => 4 + 4 * g.val ≤ l.val ∧ l.val < 8 + 4 * g.val) L (atExpert g i)
    ⟨by show 4 + 4 * g.val ≤ 4 + 4 * g.val + i.val; omega, by show 4 + 4 * g.val + i.val < 8 + 4 * g.val; omega⟩ fun l hl => ?_).trans (hR.expert g i)
  obtain ⟨k, rfl⟩ := inGroup g l hl
  rw [hR.expert g k, hR.expert g i]
  exact EReal.coe_le_coe_iff.mpr (hi.max _)

end Group

/-! ## The first two experts -/

section Experts

variable (v37 v39 : FVec Ideal S512x128 .f32) (v54 v65 v76 : FVec Ideal S512x1 .f32) (v72 : IVec S512x128 1) (v74 : FVec Ideal S512x128 .f32)
  (r : Fin 512) (L : Fin 128 → EReal) (G : Fin 4 → ℝ) (E : Fin 4 → Fin 4 → ℝ) (hR : Logits L G E) (g i s : Fin 4) (p : ℝ)
  (hi : First (E g) i) (hs : Second (E g) i s)
  (h37 : ∀ l, v37 (ix2 r l) = L l) (h39 : ∀ l, v39 (ix2 r l) = lane l)
  (h72 : ∀ l : Fin 128, v72 (ix2 r l) = BitVec.ofBool (decide (4 + 4 * g.val ≤ l.val ∧ l.val < 8 + 4 * g.val)))
  (h74 : ∀ l : Fin 128, v74 (ix2 r l) = if 4 + 4 * g.val ≤ l.val ∧ l.val < 8 + 4 * g.val then L l else ⊥)
  (h76 : v76 (ix2 r 0) = (E g i : EReal)) (h65 : v65 (ix2 r 0) = (((4 + 4 * g.val : ℕ) : ℝ) : EReal)) (h54 : v54 (ix2 r 0) = (p : EReal))

theorem lane_small (l : Fin 128) : lane l ≤ ((128 : ℝ) : EReal) := by
  rw [EReal.coe_le_coe_iff]
  exact_mod_cast (by omega : l.val ≤ 128)

include hR hi h39 h72 h74 h76

theorem pay21_apply : k0_pay21 v39 v72 v74 v76 (ix2 r 0) = lane (atExpert g i) := by
  pointwise [k0_pay21]
  rw [lit_top, lit_lanes]
  simp only [h39, h72, h74, h76, and_if, select_if]
  refine fold_min (fun l : Fin 128 => (4 + 4 * g.val ≤ l.val ∧ l.val < 8 + 4 * g.val)
      ∧ (if 4 + 4 * g.val ≤ l.val ∧ l.val < 8 + 4 * g.val then L l else ⊥) = (E g i : EReal)) lane ((128 : ℝ) : EReal) (atExpert g i)
    ⟨expert_in g i, by rw [if_pos (expert_in g i)]; exact hR.expert g i⟩ (fun l hl => ?_) (lane_small _)
  obtain ⟨hm, h⟩ := hl
  rw [if_pos hm] at h
  obtain ⟨k, rfl⟩ := inGroup g l hm
  rw [lane_le]
  have := hi.least k (EReal.coe_eq_coe_iff.mp ((hR.expert g k).symm.trans h))
  show 4 + 4 * g.val + i.val ≤ 4 + 4 * g.val + k.val
  have : i.val ≤ k.val := this
  omega

theorem pay22_apply (l : Fin 128) : k0_pay22 v39 v72 v74 v76 (ix2 r l)
    = BitVec.ofBool (decide ((4 + 4 * g.val ≤ l.val ∧ l.val < 8 + 4 * g.val) ∧ l ≠ atExpert g i)) := by
  pointwise [k0_pay22]
  rw [pay21_apply v39 v76 v72 v74 r L G E hR g i hi h39 h72 h74 h76, h39, h72, and_if]
  refine congrArg BitVec.ofBool (decide_eq_decide.mpr (and_congr Iff.rfl (not_congr ?_)))
  unfold lane
  rw [EReal.coe_eq_coe_iff, Nat.cast_inj, Fin.ext_iff]

include h37

theorem pay23_apply (l : Fin 128) : k0_pay23 v37 v39 v72 v74 v76 (ix2 r l)
    = if (4 + 4 * g.val ≤ l.val ∧ l.val < 8 + 4 * g.val) ∧ l ≠ atExpert g i then L l else ⊥ := by
  pointwise [k0_pay23]
  rw [pay22_apply v39 v76 v72 v74 r L G E hR g i hi h39 h72 h74 h76, h37, mask, select_if]

include hs

theorem pay24_apply : k0_pay24 v37 v39 v72 v74 v76 (ix2 r 0) = (E g s : EReal) := by
  pointwise [k0_pay24]
  rw [lit_bot]
  simp only [pay23_apply v37 v39 v76 v72 v74 r L G E hR g i hi h37 h39 h72 h74 h76]
  refine (fold_max (fun l : Fin 128 => (4 + 4 * g.val ≤ l.val ∧ l.val < 8 + 4 * g.val) ∧ l ≠ atExpert g i) L (atExpert g s)
    ⟨expert_in g s, fun h => hs.1 (expert_inj h)⟩ fun l hl => ?_).trans (hR.expert g s)
  obtain ⟨k, rfl⟩ := inGroup g l hl.1
  rw [hR.expert g k, hR.expert g s]
  exact EReal.coe_le_coe_iff.mpr (hs.max _ fun e => hl.2 (by rw [e]))

theorem pay25_apply : k0_pay25 v37 v39 v72 v74 v76 (ix2 r 0) = ((Real.exp (E g s - E g i) : ℝ) : EReal) := by
  pointwise [k0_pay25]
  rw [pay24_apply v37 v39 v76 v72 v74 r L G E hR g i s hi hs h37 h39 h72 h74 h76, h76, ← EReal.coe_sub]
  rfl

include h54

theorem pay26_apply : k0_pay26 v37 v39 v54 v72 v74 v76 (ix2 r 0) = ((p / (1 + Real.exp (E g s - E g i)) : ℝ) : EReal) := by
  pointwise [k0_pay26]
  rw [pay25_apply v37 v39 v76 v72 v74 r L G E hR g i s hi hs h37 h39 h72 h74 h76, h54,
    show (1 : EReal) = ((1 : ℝ) : EReal) from rfl, ← EReal.coe_add]
  exact div_real _ _ (by positivity)

theorem pay27_apply : k0_pay27 v37 v39 v54 v72 v74 v76 (ix2 r 0)
    = ((p * Real.exp (E g s - E g i) / (1 + Real.exp (E g s - E g i)) : ℝ) : EReal) := by
  pointwise [k0_pay27]
  rw [pay25_apply v37 v39 v76 v72 v74 r L G E hR g i s hi hs h37 h39 h72 h74 h76, h54,
    show (1 : EReal) = ((1 : ℝ) : EReal) from rfl, ← EReal.coe_add, ← EReal.coe_mul]
  exact div_real _ _ (by positivity)

omit hs h37 h54 in
include h65 in
theorem pay28_apply : k0_pay28 v39 v65 v72 v74 v76 (ix2 r 0) = ((i.val : ℝ) : EReal) := by
  pointwise [k0_pay28]
  rw [pay21_apply v39 v76 v72 v74 r L G E hR g i hi h39 h72 h74 h76, h65, ← EReal.coe_sub]
  refine congrArg _ ?_
  show ((4 + 4 * g.val + i.val : ℕ) : ℝ) - ((4 + 4 * g.val : ℕ) : ℝ) = _
  push_cast
  ring

omit h54 in
include h65 in
theorem pay29_apply : k0_pay29 v37 v39 v65 v72 v74 v76 (ix2 r 0) = ((s.val : ℝ) : EReal) := by
  pointwise [k0_pay29]
  rw [lit_top, lit_lanes]
  simp only [pay23_apply v37 v39 v76 v72 v74 r L G E hR g i hi h37 h39 h72 h74 h76,
    pay22_apply v39 v76 v72 v74 r L G E hR g i hi h39 h72 h74 h76,
    pay24_apply v37 v39 v76 v72 v74 r L G E hR g i s hi hs h37 h39 h72 h74 h76, h39, and_if, select_if, h65]
  have hm : (4 + 4 * g.val ≤ (atExpert g s).val ∧ (atExpert g s).val < 8 + 4 * g.val) ∧ atExpert g s ≠ atExpert g i :=
    ⟨expert_in g s, fun h => hs.1 (expert_inj h)⟩
  refine (congrArg (· - (((4 + 4 * g.val : ℕ) : ℝ) : EReal)) (fold_min (fun l : Fin 128 => ((4 + 4 * g.val ≤ l.val ∧ l.val < 8 + 4 * g.val) ∧ l ≠ atExpert g i)
      ∧ (if (4 + 4 * g.val ≤ l.val ∧ l.val < 8 + 4 * g.val) ∧ l ≠ atExpert g i then L l else ⊥) = (E g s : EReal)) lane ((128 : ℝ) : EReal) (atExpert g s)
    ⟨hm, by rw [if_pos hm]; exact hR.expert g s⟩ (fun l hl => ?_) (lane_small _))).trans ?_
  · obtain ⟨hm, h⟩ := hl
    rw [if_pos hm] at h
    obtain ⟨k, rfl⟩ := inGroup g l hm.1
    rw [lane_le]
    have := hs.least k (fun e => hm.2 (by rw [e])) (EReal.coe_eq_coe_iff.mp ((hR.expert g k).symm.trans h))
    show 4 + 4 * g.val + s.val ≤ 4 + 4 * g.val + k.val
    have : s.val ≤ k.val := this
    omega
  · show lane (atExpert g s) - _ = _
    rw [← EReal.coe_sub]
    refine congrArg _ ?_
    show ((4 + 4 * g.val + s.val : ℕ) : ℝ) - ((4 + 4 * g.val : ℕ) : ℝ) = _
    push_cast
    ring

end Experts

/-! ## The two weights -/

section Weights

variable (v102 v106 v107 v108 : FVec Ideal S512x1 .f32) (r : Fin 512) (a b : EReal) (i s : Fin 4)
  (h102 : v102 (ix2 r 0) = a) (h106 : v106 (ix2 r 0) = b)
  (h107 : v107 (ix2 r 0) = ((i.val : ℝ) : EReal)) (h108 : v108 (ix2 r 0) = ((s.val : ℝ) : EReal))

include h102 h106 h107 h108

theorem pay36_apply : k0_pay36 v102 v106 v107 v108 (ix2 r 0) = if i < s then a else b := by
  pointwise [k0_pay36]
  rw [h102, h106, h107, h108]
  simp only [EReal.coe_lt_coe_iff, Nat.cast_lt, Fin.lt_def]

theorem pay39_apply : k0_pay39 v102 v106 v107 v108 (ix2 r 0) = if i < s then b else a := by
  pointwise [k0_pay39]
  rw [h102, h106, h107, h108]
  simp only [EReal.coe_lt_coe_iff, Nat.cast_lt, Fin.lt_def]

/-- The columns beside the normed row. -/
theorem weights_apply (l : Fin 128) :
    k0_pay1 (k0_pay36 v102 v106 v107 v108) (k0_pay37 (iota .tc S512x128 32 [1] iota_S512x128_d1_w32))
        (k0_pay38 (iota .tc S512x128 32 [1] iota_S512x128_d1_w32)) (Scalar.ofBits .f32 0x00000000#32) (k0_pay39 v102 v106 v107 v108) (ix2 r l)
      = if l.val = 0 then (if i < s then a else b) else if l.val = 1 then (if i < s then b else a) else 0 := by
  have e0 : k0_pay37 (iota .tc S512x128 32 [1] iota_S512x128_d1_w32) (ix2 r l) = BitVec.ofBool (decide (l.val = 0)) := by
    pointwise [k0_pay37]
    exact (by decide : ∀ l : Fin 128, IntOp.cmpi .eq (BitVec.ofNat 32 l.val) 0#32 = BitVec.ofBool (decide (l.val = 0))) l
  have e1 : k0_pay38 (iota .tc S512x128 32 [1] iota_S512x128_d1_w32) (ix2 r l) = BitVec.ofBool (decide (l.val = 1)) := by
    pointwise [k0_pay38]
    exact (by decide : ∀ l : Fin 128, IntOp.cmpi .eq (BitVec.ofNat 32 l.val) 1#32 = BitVec.ofBool (decide (l.val = 1))) l
  pointwise [k0_pay1]
  rw [e0, e1, pay36_apply v102 v106 v107 v108 r a b i s h102 h106 h107 h108, pay39_apply v102 v106 v107 v108 r a b i s h102 h106 h107 h108,
    select_if, select_if]

end Weights

end Cert.Kernel4Ideal.Router

end
-- ==== Proof.Router.Tile.lean ====
/-
  A tile of 512 rows over the extended reals: the normed rows, and the 128 logits of each, which are the inner products with the router's
  weights, the two products with the parts that vanish over the extended reals being zero.
-/
module

public import proofs.«01_k».proof.Proof.Router.Payload
public import proofs.«01_k».proof.Proof.Router.Math
public import proofs.«01_k».proof.Proof.Outproj.Math

@[expose] public section

set_option maxRecDepth 16384

noncomputable section

namespace Cert.Kernel4Ideal.Router

open Idealize.ShloMosaic Idealize.ShloMosaic.Tactic Idealize.ShloMosaic.Pointwise
open Cert.Kernel4Ideal Cert.Kernel4Ideal.Gen Cert.Router Cert.Outproj

/-- Half of the weights, as the kernel reads it. -/
abbrev lower (w : Vec Ideal S1024x1024 .bf16) : Vec Ideal S512x1024 .bf16 :=
  View.ld w (Rect.unit ![0, 0] ![512, 1024] Facts₀.inb_S1024x1024_S512x1024_0_0)
/-- The other half. -/
abbrev upper (w : Vec Ideal S1024x1024 .bf16) : Vec Ideal S512x1024 .bf16 :=
  View.ld w (Rect.unit ![512, 0] ![512, 1024] Facts₀.inb_S1024x1024_S512x1024_512_0)
/-- The first 128 columns of the router's weights. -/
abbrev left (w : Vec Ideal S1024x256 .bf16) : Vec Ideal S1024x128 .bf16 :=
  View.ld w (Rect.unit ![0, 0] ![1024, 128] Facts₀.inb_S1024x256_S1024x128_0_0)

theorem lower_apply (w : Vec Ideal S1024x1024 .bf16) (k : Fin 512) (e : Fin 1024) : lower w (ix2 k e) = w (ix2 ⟨k.val, by omega⟩ e) :=
  congrArg w (funext fun a => Fin.ext (by
    match a with
    | ⟨0, _⟩ => show 0 + 1 * k.val = k.val; omega
    | ⟨1, _⟩ => show 0 + 1 * e.val = e.val; omega))
theorem upper_apply (w : Vec Ideal S1024x1024 .bf16) (k : Fin 512) (e : Fin 1024) : upper w (ix2 k e) = w (ix2 ⟨512 + k.val, by omega⟩ e) :=
  congrArg w (funext fun a => Fin.ext (by
    match a with
    | ⟨0, _⟩ => show 512 + 1 * k.val = 512 + k.val; omega
    | ⟨1, _⟩ => show 0 + 1 * e.val = e.val; omega))
theorem left_apply (w : Vec Ideal S1024x256 .bf16) (k : Fin 1024) (l : Fin 128) : left w (ix2 k l) = w (ix2 k ⟨l.val, by omega⟩) :=
  congrArg w (funext fun a => Fin.ext (by
    match a with
    | ⟨0, _⟩ => show 0 + 1 * k.val = k.val; omega
    | ⟨1, _⟩ => show 0 + 1 * l.val = l.val; omega))

variable (x : Vec Ideal S512x1024 .f32) (a b : Vec Ideal S512x512 .bf16) (w : Vec Ideal S1024x1024 .bf16) (g : Vec Ideal S1x1024 .f32)
  (wr : Vec Ideal S1024x256 .bf16) (r : Fin 512)

/-- A row of the residual stream. -/
def stream (e : Fin 1024) : EReal :=
  summed (x (ix2 r e)) (fun k => a (ix2 r k)) (fun k => b (ix2 r k)) (fun k => w (ix2 k e))

/-- A normed row. -/
def normedRow (e : Fin 1024) : EReal := normed (stream x a b w r) (fun k => g (ix2 0 k)) e

theorem pay3_apply (e : Fin 1024) : k0_pay3 x a (lower w) b (upper w) (ix2 r e) = stream x a b w r e := by
  pointwise [k0_pay3]
  unfold stream summed
  refine congrArg₂ (· + ·) (congrArg (x (ix2 r e) + ·) (Finset.sum_congr rfl fun k _ => ?_)) (Finset.sum_congr rfl fun k _ => ?_)
  · rw [lower_apply]
  · rw [upper_apply]

theorem pay4_apply (e : Fin 1024) : k0_pay4 x a (lower w) b (upper w) g (ix2 r e) = normedRow x a b w g r e := by
  pointwise [k0_pay4]
  simp only [pay3_apply]
  rfl

theorem pay5_apply (e : Fin 1024) : k0_pay5 x a (lower w) b (upper w) g (ix2 r e) = normedRow x a b w g r e := by
  pointwise [k0_pay5]
  exact pay4_apply x a b w g r e

theorem pay6_apply (e : Fin 1024) (h : IsReal (normedRow x a b w g r e)) : k0_pay6 x a (lower w) b (upper w) g (ix2 r e) = 0 := by
  pointwise [k0_pay6]
  rw [pay4_apply, pay5_apply]
  exact h.sub_self

theorem pay7_apply (l : Fin 256) : k0_pay7 x a (lower w) b (upper w) g wr (ix2 r l) = ∑ k, normedRow x a b w g r k * wr (ix2 k l) := by
  pointwise [k0_pay7]
  simp only [pay5_apply]

theorem pay8_apply (l : Fin 128) :
    k0_pay8 x a (lower w) b (upper w) g wr (ix2 r l) = ∑ k, normedRow x a b w g r k * wr (ix2 k ⟨l.val, by omega⟩) := by
  pointwise [k0_pay8]
  exact pay7_apply x a b w g wr r ⟨l.val, by omega⟩

theorem pay9_apply (l : Fin 128) :
    k0_pay9 x a (lower w) b (upper w) g wr (ix2 r l) = ∑ k, normedRow x a b w g r k * wr (ix2 k ⟨128 + l.val, by omega⟩) := by
  pointwise [k0_pay9]
  exact pay7_apply x a b w g wr r ⟨128 + l.val, by omega⟩

/-- The logits. -/
theorem logits_apply (hH : ∀ e, IsReal (normedRow x a b w g r e)) (h0 : ∀ (k : Fin 1024) (l : Fin 128), wr (ix2 k ⟨128 + l.val, by omega⟩) = 0)
    (l : Fin 128) :
    k0_pay10 (k0_pay6 x a (lower w) b (upper w) g) (k0_pay8 x a (lower w) b (upper w) g wr) (k0_pay9 x a (lower w) b (upper w) g wr) (left wr) (ix2 r l)
      = ∑ k, normedRow x a b w g r k * wr (ix2 k ⟨l.val, by omega⟩) := by
  pointwise [k0_pay10]
  rw [pay8_apply, pay9_apply]
  rw [show (∑ k : Fin 1024, normedRow x a b w g r k * wr (ix2 k ⟨128 + l.val, by omega⟩)) = 0 from
      Finset.sum_eq_zero fun k _ => by rw [h0, mul_zero],
    show (∑ k : Fin 1024, k0_pay6 x a (lower w) b (upper w) g (ix2 r k) * left wr (ix2 k l)) = 0 from
      Finset.sum_eq_zero fun k _ => by rw [pay6_apply x a b w g r k (hH k), zero_mul], add_zero, add_zero]

end Cert.Kernel4Ideal.Router

end
-- ==== Proof.Router.Classes.lean ====
/-
  The kernel's class of a row of a tile over the extended reals: six times its group, plus the number of its two experts among the six
  pairs, laid out by a sum over the tile's rows in which one row counts for each lane.
-/
module

public import proofs.«01_k».proof.Proof.Router.Payload
public import proofs.«01_k».proof.Proof.Router.Math

@[expose] public section

set_option maxRecDepth 16384

noncomputable section

namespace Cert.Router

/-- The number of a pair of experts, in either order. -/
def number (p s : Fin 4) : ℕ := (![![0, 0, 1, 4], ![0, 0, 2, 3], ![1, 2, 0, 5], ![4, 3, 5, 0]] : Fin 4 → Fin 4 → ℕ) p s

/-- A row's class, from its group and its two experts. -/
def classOf (q p s : Fin 4) : EReal := (((6 * q.val + number p s : ℕ) : ℝ) : EReal)

end Cert.Router

namespace Cert.Kernel4Ideal.Router

open Idealize.ShloMosaic Idealize.ShloMosaic.Tactic Idealize.ShloMosaic.Pointwise
open Cert.Kernel4Ideal Cert.Kernel4Ideal.Gen Cert.Router

/-- A natural number among the extended reals. -/
abbrev nat (n : ℕ) : EReal := ((n : ℝ) : EReal)

theorem nat_inj (a b : ℕ) : nat a = nat b ↔ a = b := by rw [EReal.coe_eq_coe_iff, Nat.cast_inj]

theorem nat_min (a b : ℕ) : min (nat a) (nat b) = nat (min a b) := by
  rcases le_total a b with h | h
  · rw [min_eq_left h, min_eq_left (EReal.coe_le_coe_iff.mpr (Nat.cast_le.mpr h))]
  · rw [min_eq_right h, min_eq_right (EReal.coe_le_coe_iff.mpr (Nat.cast_le.mpr h))]

theorem nat_max (a b : ℕ) : max (nat a) (nat b) = nat (max a b) := by
  rcases le_total a b with h | h
  · rw [max_eq_right h, max_eq_right (EReal.coe_le_coe_iff.mpr (Nat.cast_le.mpr h))]
  · rw [max_eq_left h, max_eq_left (EReal.coe_le_coe_iff.mpr (Nat.cast_le.mpr h))]

theorem nat_mul (a b : ℕ) : nat a * nat b = nat (a * b) := by
  rw [← EReal.coe_mul, ← Nat.cast_mul]
theorem nat_add (a b : ℕ) : nat a + nat b = nat (a + b) := by
  rw [← EReal.coe_add, ← Nat.cast_add]

theorem nat_zero : (0 : EReal) = nat 0 := by simp [nat]
theorem nat_one : (1 : EReal) = nat 1 := by simp [nat]
theorem nat_two : Ideal.ofBits .f32 1073741824#32 = nat 2 := by
  simp [nat, Ideal.ofBits, Ideal.ieee, -EReal.coe_mul]; norm_num
theorem nat_three : Ideal.ofBits .f32 1077936128#32 = nat 3 := by
  simp [nat, Ideal.ofBits, Ideal.ieee, -EReal.coe_mul]; norm_num
theorem nat_four : Ideal.ofBits .f32 1082130432#32 = nat 4 := lit_four.trans (by simp [nat])
theorem nat_five : Ideal.ofBits .f32 1084227584#32 = nat 5 := by
  simp [nat, Ideal.ofBits, Ideal.ieee, -EReal.coe_mul]; norm_num
theorem nat_six : Ideal.ofBits .f32 1086324736#32 = nat 6 := by
  simp [nat, Ideal.ofBits, Ideal.ieee, -EReal.coe_mul]; norm_num

/-- A number where two others are two given ones. -/
theorem select_nat (a b i j x y : ℕ) [Decidable (nat a = nat i)] [Decidable (nat b = nat j)] :
    Scalar.select (IntOp.andi (BitVec.ofBool (decide (nat a = nat i))) (BitVec.ofBool (decide (nat b = nat j)))) (nat x) (nat y)
      = nat (if a = i ∧ b = j then x else y) := by
  have e₁ := nat_inj a i
  have e₂ := nat_inj b j
  by_cases h₁ : a = i <;> by_cases h₂ : b = j <;> simp [e₁, e₂, h₁, h₂, IntOp.andi, Scalar.select]

/-! ## The number of the pair -/

theorem number_eq : ∀ i s : Fin 4, s ≠ i →
    (if min i.val s.val = 2 ∧ max i.val s.val = 3 then 5
      else if min i.val s.val = 0 ∧ max i.val s.val = 3 then 4
      else if min i.val s.val = 1 ∧ max i.val s.val = 3 then 3
      else if min i.val s.val = 1 ∧ max i.val s.val = 2 then 2
      else if min i.val s.val = 0 ∧ max i.val s.val = 2 then 1 else 0) = number i s := by decide

section Pair

variable (v37 v39 : FVec Ideal S512x128 .f32) (v65 v76 : FVec Ideal S512x1 .f32) (v72 : IVec S512x128 1) (v74 : FVec Ideal S512x128 .f32)
  (r : Fin 512) (i s : Fin 4)
  (h28 : k0_pay28 v39 v65 v72 v74 v76 (ix2 r 0) = nat i.val) (h29 : k0_pay29 v37 v39 v65 v72 v74 v76 (ix2 r 0) = nat s.val)

include h28 h29

theorem pay30_apply : k0_pay30 v37 v39 v65 v72 v74 v76 (ix2 r 0) = nat (min i.val s.val) := by
  pointwise [k0_pay30]
  rw [h28, h29, nat_min]

theorem pay31_apply : k0_pay31 v37 v39 v65 v72 v74 v76 (ix2 r 0) = nat (max i.val s.val) := by
  pointwise [k0_pay31]
  rw [h28, h29, nat_max]

/-- The class, from the group. -/
theorem class_apply (v61 : FVec Ideal S512x1 .f32) (q : Fin 4) (h61 : v61 (ix2 r 0) = nat q.val) (hne : s ≠ i) :
    k0_pay35 v61 (k0_pay30 v37 v39 v65 v72 v74 v76) (k0_pay31 v37 v39 v65 v72 v74 v76) (k0_pay32 v37 v39 v65 v72 v74 v76)
      (k0_pay33 v37 v39 v65 v72 v74 v76) (k0_pay34 v37 v39 v65 v72 v74 v76) (ix2 r 0) = classOf q i s := by
  pointwise [k0_pay35, k0_pay34, k0_pay33, k0_pay32]
  rw [h61, pay30_apply v37 v39 v65 v76 v72 v74 r i s h28 h29, pay31_apply v37 v39 v65 v76 v72 v74 r i s h28 h29]
  simp only [nat_zero, nat_one, nat_two, nat_three, nat_four, nat_five, nat_six, select_nat]
  unfold classOf
  rw [nat_mul, nat_add, Nat.mul_comm q.val 6]
  exact congrArg (fun n : ℕ => nat (6 * q.val + n)) (number_eq i s hne)

end Pair

/-! ## The layout -/

theorem row_word : ∀ (u : Fin 4) (k : Fin 128), IntOp.andi (BitVec.ofNat 32 (u.val * 128 + k.val)) 127#32 = BitVec.ofNat 32 k.val := by
  decide +kernel

theorem lane_eq (k l : Fin 128) : IntOp.cmpi .eq (BitVec.ofNat 32 l.val) (BitVec.ofNat 32 k.val) = BitVec.ofBool (decide (k = l)) := by
  have : (BitVec.ofNat 32 l.val = BitVec.ofNat 32 k.val) ↔ k = l := by
    rw [← BitVec.toNat_inj, BitVec.toNat_ofNat, BitVec.toNat_ofNat, Nat.mod_eq_of_lt (by omega), Nat.mod_eq_of_lt (by omega), Fin.ext_iff, eq_comm]
  unfold IntOp.cmpi
  by_cases h : k = l
  · simp [h]
  · have h' : ¬BitVec.ofNat 32 l.val = BitVec.ofNat 32 k.val := fun e => h (this.mp e)
    rw [decide_eq_false h]
    exact congrArg BitVec.ofBool (beq_eq_false_iff_ne.mpr h')

/-- The stored block holds each row's class. -/
theorem pay2_apply (v : FVec Ideal S512x1 .f32) (u : Fin 4) (l : Fin 128) :
    k0_pay2 (iota .tc S512x128 32 [1] iota_S512x128_d1_w32) v (ix3 0 u l) = Ideal.fptosi 32 (v (ix2 ⟨u.val * 128 + l.val, by omega⟩ 0)) := by
  pointwise [k0_pay2]
  simp only [row_word, lane_eq, select_if]
  refine congrArg (Ideal.fptosi 32) ?_
  exact (Finset.sum_ite_eq' Finset.univ l fun k : Fin 128 => v (ix2 ⟨u.val * 128 + k.val, by omega⟩ 0)).trans (if_pos (Finset.mem_univ _))

end Cert.Kernel4Ideal.Router

end
-- ==== Proof.Router.Point.lean ====
/-
  What a grid point leaves in its second buffer over the extended reals: the normed rows, and beside them the two weights and zeros;
  and in its third: the rows' classes.
-/
module

public import proofs.«01_k».proof.Proof.Router.Tile
public import proofs.«01_k».proof.Proof.Router.Classes
public import proofs.«01_k».proof.Proof.Gen.Kernel4Ideal.Value
public import Idealize.ShloMosaic.Lib.Pipeline.ReadBack

@[expose] public section

set_option maxRecDepth 16384

noncomputable section

namespace Cert.Kernel4Ideal.Router

open Idealize.ShloMosaic Idealize.ShloMosaic.TcCoe Idealize.ShloMosaic.Tactic
open Idealize.ShloMosaic.Pipeline (Dat Cfg Window)
open Cert.Kernel4Ideal Cert.Kernel4Ideal.Gen Cert.Router Cert.Outproj

theorem zero_off : (![0, 0] : Fin 2 → Nat) = fun _ => 0 := funext fun a => by fin_cases a <;> rfl
theorem zero_off' : (![0, 0, 0] : Fin 3 → Nat) = fun _ => 0 := funext fun a => by fin_cases a <;> rfl

section Block

variable (x : Vec Ideal S512x1024 .f32) (a b : Vec Ideal S512x512 .bf16) (w : Vec Ideal S1024x1024 .bf16) (g : Vec Ideal S1x1024 .f32)
  (wr : Vec Ideal S1024x256 .bf16)

/-- The values that the routing is computed from, in the kernel's order. -/
abbrev lowPart : FVec Ideal S512x1024 .bf16 := k0_pay6 x a (lower w) b (upper w) g
abbrev product : FVec Ideal S512x128 .f32 := k0_pay8 x a (lower w) b (upper w) g wr
abbrev product' : FVec Ideal S512x128 .f32 := k0_pay9 x a (lower w) b (upper w) g wr
abbrev logits : FVec Ideal S512x128 .f32 := k0_pay10 (lowPart x a b w g) (product x a b w g wr) (product' x a b w g wr) (left wr)
abbrev inGroupOf : IVec S512x128 1 := k0_pay18 (lowPart x a b w g) (product x a b w g wr) (product' x a b w g wr) (left wr)
abbrev chosen : FVec Ideal S512x128 .f32 := k0_pay19 (lowPart x a b w g) (product x a b w g wr) (product' x a b w g wr) (left wr)
abbrev largest : FVec Ideal S512x1 .f32 := k0_pay20 (lowPart x a b w g) (product x a b w g wr) (product' x a b w g wr) (left wr)
abbrev top : FVec Ideal S512x1 .f32 := k0_pay15 (lowPart x a b w g) (product x a b w g wr) (product' x a b w g wr) (left wr)
abbrev firstLane : FVec Ideal S512x1 .f32 := k0_pay17 (lowPart x a b w g) (product x a b w g wr) (product' x a b w g wr) (left wr)
abbrev one : FVec Ideal S512x1 .f32 :=
  k0_pay26 (logits x a b w g wr) k0_pay11 (top x a b w g wr) (inGroupOf x a b w g wr) (chosen x a b w g wr) (largest x a b w g wr)
abbrev two : FVec Ideal S512x1 .f32 :=
  k0_pay27 (logits x a b w g wr) k0_pay11 (top x a b w g wr) (inGroupOf x a b w g wr) (chosen x a b w g wr) (largest x a b w g wr)
abbrev placeOne : FVec Ideal S512x1 .f32 :=
  k0_pay28 k0_pay11 (firstLane x a b w g wr) (inGroupOf x a b w g wr) (chosen x a b w g wr) (largest x a b w g wr)
abbrev placeTwo : FVec Ideal S512x1 .f32 :=
  k0_pay29 (logits x a b w g wr) k0_pay11 (firstLane x a b w g wr) (inGroupOf x a b w g wr) (chosen x a b w g wr) (largest x a b w g wr)
/-- The stored columns beside the normed rows. -/
abbrev beside : FVec Ideal S512x128 .f32 :=
  k0_pay1 (k0_pay36 (one x a b w g wr) (two x a b w g wr) (placeOne x a b w g wr) (placeTwo x a b w g wr))
    (k0_pay37 (iota .tc S512x128 32 [1] iota_S512x128_d1_w32)) (k0_pay38 (iota .tc S512x128 32 [1] iota_S512x128_d1_w32))
    (Scalar.ofBits .f32 0x00000000#32) (k0_pay39 (one x a b w g wr) (two x a b w g wr) (placeOne x a b w g wr) (placeTwo x a b w g wr))

/-- The row's result, from its logits' order. -/
theorem beside_apply (r : Fin 512) (G : Fin 4 → ℝ) (E : Fin 4 → Fin 4 → ℝ) (q i s : Fin 4)
    (hH : ∀ e, IsReal (normedRow x a b w g r e)) (h0 : ∀ (k : Fin 1024) (l : Fin 128), wr (ValueIdx.ix2 k ⟨128 + l.val, by omega⟩) = 0)
    (hR : Logits (fun l : Fin 128 => ∑ k : Fin 1024, normedRow x a b w g r k * wr (ix2 k ⟨l.val, by omega⟩)) G E)
    (hq : First G q) (hi : First (E q) i) (hs : Second (E q) i s) (l : Fin 128) :
    beside x a b w g wr (ix2 r l)
      = if l.val = 0 then (if i < s then (weightOne G E q i s : EReal) else (weightTwo G E q i s : EReal))
        else if l.val = 1 then (if i < s then (weightTwo G E q i s : EReal) else (weightOne G E q i s : EReal)) else 0 := by
  have hL := fun l => logits_apply x a b w g wr r hH (fun k l => (congrArg wr (funext fun c => by
    match c with
    | ⟨0, _⟩ => rfl
    | ⟨1, _⟩ => rfl)).trans (h0 k l)) l
  have e18 := pay18_apply _ _ _ _ r _ G E hL hR q hq
  have e19 := pay19_apply _ _ _ _ r _ G E hL hR q hq
  have e20 := pay20_apply _ _ _ _ r _ G E hL hR q i hq hi
  have e17 := pay17_apply _ _ _ _ r _ G E hL hR q hq
  have e15 := pay15_apply _ _ _ _ r _ G E hL hR q hq
  exact weights_apply _ _ _ _ r _ _ i s
    (pay26_apply _ _ _ _ _ _ r _ G E hR q i s _ hi hs hL (pay11_apply r) e18 e19 e20 e15)
    (pay27_apply _ _ _ _ _ _ r _ G E hR q i s _ hi hs hL (pay11_apply r) e18 e19 e20 e15)
    (pay28_apply _ _ _ _ _ r _ G E hR q i hi (pay11_apply r) e18 e19 e20 e17)
    (pay29_apply _ _ _ _ _ _ r _ G E hR q i s hi hs hL (pay11_apply r) e18 e19 e20 e17) l

/-- The stored classes. -/
abbrev classes : IVec S1x4x128 32 :=
  k0_pay2 (iota .tc S512x128 32 [1] iota_S512x128_d1_w32)
    (k0_pay35 (k0_pay16 (lowPart x a b w g) (product x a b w g wr) (product' x a b w g wr) (left wr))
      (k0_pay30 (logits x a b w g wr) k0_pay11 (firstLane x a b w g wr) (inGroupOf x a b w g wr) (chosen x a b w g wr) (largest x a b w g wr))
      (k0_pay31 (logits x a b w g wr) k0_pay11 (firstLane x a b w g wr) (inGroupOf x a b w g wr) (chosen x a b w g wr) (largest x a b w g wr))
      (k0_pay32 (logits x a b w g wr) k0_pay11 (firstLane x a b w g wr) (inGroupOf x a b w g wr) (chosen x a b w g wr) (largest x a b w g wr))
      (k0_pay33 (logits x a b w g wr) k0_pay11 (firstLane x a b w g wr) (inGroupOf x a b w g wr) (chosen x a b w g wr) (largest x a b w g wr))
      (k0_pay34 (logits x a b w g wr) k0_pay11 (firstLane x a b w g wr) (inGroupOf x a b w g wr) (chosen x a b w g wr) (largest x a b w g wr)))

/-- A row's place among the tile's four times 128. -/
abbrev rowAt (u : Fin 4) (l : Fin 128) : Fin 512 := ⟨u.val * 128 + l.val, by omega⟩

/-- The row's class, from its logits' order. -/
theorem classes_apply (u : Fin 4) (l : Fin 128) (G : Fin 4 → ℝ) (E : Fin 4 → Fin 4 → ℝ) (q i s : Fin 4)
    (hH : ∀ e, IsReal (normedRow x a b w g (rowAt u l) e)) (h0 : ∀ (k : Fin 1024) (l : Fin 128), wr (ValueIdx.ix2 k ⟨128 + l.val, by omega⟩) = 0)
    (hR : Logits (fun j : Fin 128 => ∑ k : Fin 1024, normedRow x a b w g (rowAt u l) k * wr (ix2 k ⟨j.val, by omega⟩)) G E)
    (hq : First G q) (hi : First (E q) i) (hs : Second (E q) i s) :
    classes x a b w g wr (ix3 0 u l) = Ideal.fptosi 32 (classOf q i s) := by
  have hL := fun j => logits_apply x a b w g wr (rowAt u l) hH (fun k j => (congrArg wr (funext fun c => by
    match c with
    | ⟨0, _⟩ => rfl
    | ⟨1, _⟩ => rfl)).trans (h0 k j)) j
  have e18 := pay18_apply _ _ _ _ (rowAt u l) _ G E hL hR q hq
  have e19 := pay19_apply _ _ _ _ (rowAt u l) _ G E hL hR q hq
  have e20 := pay20_apply _ _ _ _ (rowAt u l) _ G E hL hR q i hq hi
  have e17 := pay17_apply _ _ _ _ (rowAt u l) _ G E hL hR q hq
  have e16 := pay16_apply _ _ _ _ (rowAt u l) _ G E hL hR q hq
  refine (pay2_apply _ u l).trans (congrArg (Ideal.fptosi 32) ?_)
  exact class_apply _ _ _ _ _ _ (rowAt u l) i s
    (pay28_apply _ _ _ _ _ (rowAt u l) _ G E hR q i hi (pay11_apply (rowAt u l)) e18 e19 e20 e17)
    (pay29_apply _ _ _ _ _ _ (rowAt u l) _ G E hR q i s hi hs hL (pay11_apply (rowAt u l)) e18 e19 e20 e17) _ q e16 hs.1

/-- The buffer: the normed rows in the first 1024 columns, then these. -/
def tile (y : S512x1152.Idx) : EReal :=
  if h : (y 1).val < 1024 then normedRow x a b w g (y 0) ⟨(y 1).val, h⟩
  else beside x a b w g wr (ix2 (y 0) ⟨(y 1).val - 1024, by have : (y 1).val < 1152 := (y 1).isLt; omega⟩)

theorem normed_piece (z : S512x1024.Idx) :
    k0_pay4 x a (lower w) b (upper w) g z
      = tile x a b w g wr ((Rect.unit (s := S512x1152) ![0, 0] ![512, 1024] Facts₀.inb_S512x1152_S512x1024_0_0).emb z) := by
  obtain ⟨r, l, rfl⟩ : ∃ (r : Fin 512) (l : Fin 1024), z = ix2 r l := ⟨z 0, z 1, funext fun a => by
    match a with
    | ⟨0, _⟩ => rfl
    | ⟨1, _⟩ => rfl⟩
  have hy : (Rect.unit (s := S512x1152) ![0, 0] ![512, 1024] Facts₀.inb_S512x1152_S512x1024_0_0).emb (ix2 r l : S512x1024.Idx)
      = (ix2 r ⟨l.val, by omega⟩ : S512x1152.Idx) := funext fun a => Fin.ext (by
    match a with
    | ⟨0, _⟩ => show 0 + 1 * r.val = r.val; omega
    | ⟨1, _⟩ => show 0 + 1 * l.val = l.val; omega)
  refine Eq.trans ?_ (congrArg (tile x a b w g wr) hy).symm
  unfold tile
  rw [dif_pos (show (ix2 r (⟨l.val, by omega⟩ : Fin 1152) 1).val < 1024 from l.isLt)]
  exact pay4_apply x a b w g r l

theorem beside_piece (z : S512x128.Idx) :
    beside x a b w g wr z
      = tile x a b w g wr ((Rect.unit (s := S512x1152) ![0, 1024] ![512, 128] Facts₀.inb_S512x1152_S512x128_0_1024).emb z) := by
  obtain ⟨r, l, rfl⟩ : ∃ (r : Fin 512) (l : Fin 128), z = ix2 r l := ⟨z 0, z 1, funext fun a => by
    match a with
    | ⟨0, _⟩ => rfl
    | ⟨1, _⟩ => rfl⟩
  have hy : (Rect.unit (s := S512x1152) ![0, 1024] ![512, 128] Facts₀.inb_S512x1152_S512x128_0_1024).emb (ix2 r l : S512x128.Idx)
      = (ix2 r ⟨1024 + l.val, by omega⟩ : S512x1152.Idx) := funext fun a => Fin.ext (by
    match a with
    | ⟨0, _⟩ => show 0 + 1 * r.val = r.val; omega
    | ⟨1, _⟩ => show 1024 + 1 * l.val = 1024 + l.val; omega)
  refine Eq.trans ?_ (congrArg (tile x a b w g wr) hy).symm
  unfold tile
  rw [dif_neg (show ¬(ix2 r (⟨1024 + l.val, by omega⟩ : Fin 1152) 1).val < 1024 by show ¬(1024 + l.val < 1024); omega)]
  exact congrArg (beside x a b w g wr) (funext fun a => Fin.ext (by
    match a with
    | ⟨0, _⟩ => rfl
    | ⟨1, _⟩ => show l.val = 1024 + l.val - 1024; omega))

end Block

/-- What a point leaves in its second buffer. -/
theorem out_7 (c : Dev nD) (i : grid0.Coords)
    (a1 : Memref sig .tc .vmem S512x512 .bf16) (h1 : a1.IsWhole)
    (a2 : Memref sig .tc .vmem S512x512 .bf16) (h2 : a2.IsWhole)
    (a3 : Memref sig .tc .vmem S512x1024 .f32) (h3 : a3.IsWhole)
    (a4 : Memref sig .tc .vmem S1024x1024 .bf16) (h4 : a4.IsWhole)
    (a5 : Memref sig .tc .vmem S1x1024 .f32) (h5 : a5.IsWhole)
    (a6 : Memref sig .tc .vmem S1024x256 .bf16) (h6 : a6.IsWhole)
    (a7 : Memref sig .tc .vmem S512x1024 .f32) (h7 : a7.IsWhole)
    (a8 : Memref sig .tc .vmem S512x1152 .f32) (h8 : a8.IsWhole)
    (a9 : Memref sig .tc .vmem S1x4x128 .i32) (h9 : a9.IsWhole)
    (x0 x1 : Vec Ideal S512x512 .bf16) (x2 : Vec Ideal S512x1024 .f32) (x3 : Vec Ideal S1024x1024 .bf16) (x4 : Vec Ideal S1x1024 .f32)
    (x5 : Vec Ideal S1024x256 .bf16) (y : S512x1152.Idx) :
    out0_A_7 c i a1 h1 a2 h2 a3 h3 a4 h4 a5 h5 a6 h6 a7 h7 a8 h8 a9 h9 x0 x1 x2 x3 x4 x5 y = tile x2 x0 x1 x3 x4 x5 y := by
  unfold out0_A_7
  rw [View.read_writes_eq_canon _ _ _ (cover0_A_7 c i a1 h1 a2 h2 a3 h3 a4 h4 a5 h5 a6 h6 a7 h7 a8 h8 a9 h9 x0 x1 x2 x3 x4 x5)]
  refine View.canon_apply_of_pieces (tile x2 x0 x1 x3 x4 x5) _ ?_ y (cover0_A_7 c i a1 h1 a2 h2 a3 h3 a4 h4 a5 h5 a6 h6 a7 h7 a8 h8 a9 h9 x0 x1 x2 x3 x4 x5 y)
  unfold kernelRun0_A
  dsimp only
  sl_unfold_words
  simp only [View.readAt_eq_ld, h1.read_unread, h2.read_unread, h3.read_unread, h4.read_unread, h5.read_unread, h6.read_unread,
      View.ld_unit_zero (S := S512x1024) zero_off, View.ld_unit_zero (S := S512x512) zero_off, View.ld_unit_zero (S := S1x1024) zero_off,
      View.ld_unit_zero (S := S1024x256) zero_off]
  intro p hp
  simp only [List.mem_cons, List.not_mem_nil, or_false] at hp
  rcases hp with rfl | rfl
  · exact beside_piece x2 x0 x1 x3 x4 x5
  · exact normed_piece x2 x0 x1 x3 x4 x5

/-- What a point leaves in its third buffer. -/
theorem out_8 (c : Dev nD) (i : grid0.Coords)
    (a1 : Memref sig .tc .vmem S512x512 .bf16) (h1 : a1.IsWhole)
    (a2 : Memref sig .tc .vmem S512x512 .bf16) (h2 : a2.IsWhole)
    (a3 : Memref sig .tc .vmem S512x1024 .f32) (h3 : a3.IsWhole)
    (a4 : Memref sig .tc .vmem S1024x1024 .bf16) (h4 : a4.IsWhole)
    (a5 : Memref sig .tc .vmem S1x1024 .f32) (h5 : a5.IsWhole)
    (a6 : Memref sig .tc .vmem S1024x256 .bf16) (h6 : a6.IsWhole)
    (a7 : Memref sig .tc .vmem S512x1024 .f32) (h7 : a7.IsWhole)
    (a8 : Memref sig .tc .vmem S512x1152 .f32) (h8 : a8.IsWhole)
    (a9 : Memref sig .tc .vmem S1x4x128 .i32) (h9 : a9.IsWhole)
    (x0 x1 : Vec Ideal S512x512 .bf16) (x2 : Vec Ideal S512x1024 .f32) (x3 : Vec Ideal S1024x1024 .bf16) (x4 : Vec Ideal S1x1024 .f32)
    (x5 : Vec Ideal S1024x256 .bf16) (y : S1x4x128.Idx) :
    out0_A_8 c i a1 h1 a2 h2 a3 h3 a4 h4 a5 h5 a6 h6 a7 h7 a8 h8 a9 h9 x0 x1 x2 x3 x4 x5 y = classes x2 x0 x1 x3 x4 x5 y := by
  unfold out0_A_8
  rw [View.read_writes_eq_canon _ _ _ (cover0_A_8 c i a1 h1 a2 h2 a3 h3 a4 h4 a5 h5 a6 h6 a7 h7 a8 h8 a9 h9 x0 x1 x2 x3 x4 x5)]
  unfold kernelRun0_A
  dsimp only
  sl_unfold_words
  rw [View.canon_unit_zero (S := S1x4x128) zero_off']
  simp only [View.readAt_eq_ld, h1.read_unread, h2.read_unread, h3.read_unread, h4.read_unread, h5.read_unread, h6.read_unread,
      View.ld_unit_zero (S := S512x1024) zero_off, View.ld_unit_zero (S := S512x512) zero_off, View.ld_unit_zero (S := S1x1024) zero_off,
      View.ld_unit_zero (S := S1024x256) zero_off]

end Cert.Kernel4Ideal.Router

end
-- ==== Proof.Router.Weights.lean ====
/-
  The router's weights as the host lays them out before the launch: the group's columns, the experts' columns, zeros, and beside them
  what is left of each after rounding, which over the extended reals is zero for finite weights.
-/
module

public import proofs.«01_k».proof.Proof.Router.Point
public import Idealize.ShloMosaic.Lib.StableHlo.Run
public import Idealize.ShloMosaic.Lib.KernelVsHost

@[expose] public section

noncomputable section

namespace Cert.Kernel4Ideal.Router

open Idealize.ShloMosaic Idealize.ShloMosaic.TcCoe
open Cert.Kernel4Ideal Cert.Kernel4Ideal.Gen Cert.Router

/-- The weights of the four groups and of the sixteen experts side by side, then zeros. -/
def padded (u : Vec Ideal S1024x4 .f32) (v : Vec Ideal S1024x16 .f32) : Vec Ideal S1024x128 .f32 :=
  pad S1024x128 ![0, 0] ![0, 108] ![0, 0]
    (concatenate S1024x20 1 [⟨S1024x4, u⟩, ⟨S1024x16, v⟩] Facts₀.concatenates_S1024x4_S1024x16_S1024x20_d1 : Vec Ideal S1024x20 .f32)
    (sitofp .f32 (constantI S_ 32 0#32) : FVec Ideal S_ .f32) Facts₀.pads_S1024x20_S1024x128_000_01080 Facts₀.h_S_

/-- What rounding leaves of a table. -/
def rest (p : FVec Ideal S1024x128 .f32) : FVec Ideal S1024x128 .f32 := subf p p

/-- Two tables side by side. -/
def pair (p q : Vec Ideal S1024x128 .f32) : Vec Ideal S1024x256 .f32 :=
  concatenate S1024x256 1 [⟨S1024x128, p⟩, ⟨S1024x128, q⟩] Facts₀.concatenates_S1024x128_S1024x128_S1024x256_d1

theorem padded_group (u : Vec Ideal S1024x4 .f32) (v : Vec Ideal S1024x16 .f32) (k : Fin 1024) (g : Fin 4) :
    padded u v (ix2 k ⟨g.val, by omega⟩) = u (ix2 k g) := by
  unfold padded
  refine (pad_apply_of_inside _ _ _ _ _ _ _ _ (ix2 k ⟨g.val, by omega⟩ : S1024x20.Idx) (fun a => ?_)).trans ?_
  · match a with
    | ⟨0, _⟩ => show k.val = 0 + k.val * (0 + 1); omega
    | ⟨1, _⟩ => show g.val = 0 + g.val * (0 + 1); omega
  · exact concatenate_pair_apply_left (t := S1024x20) 1 u v _ _ rfl (ix2 k g) (fun c => by
      match c with
      | ⟨0, _⟩ => rfl
      | ⟨1, _⟩ => rfl)

theorem padded_expert (u : Vec Ideal S1024x4 .f32) (v : Vec Ideal S1024x16 .f32) (k : Fin 1024) (e : Fin 16) :
    padded u v (ix2 k ⟨4 + e.val, by omega⟩) = v (ix2 k e) := by
  unfold padded
  refine (pad_apply_of_inside _ _ _ _ _ _ _ _ (ix2 k ⟨4 + e.val, by omega⟩ : S1024x20.Idx) (fun a => ?_)).trans ?_
  · match a with
    | ⟨0, _⟩ => show k.val = 0 + k.val * (0 + 1); omega
    | ⟨1, _⟩ => show 4 + e.val = 0 + (4 + e.val) * (0 + 1); omega
  · exact concatenate_pair_apply_right (t := S1024x20) 1 u v _ _ rfl rfl (ix2 k e) (fun c => by
      match c with
      | ⟨0, _⟩ => exact fun _ => rfl
      | ⟨1, _⟩ => exact fun hn => absurd rfl hn) (by show e.val + 4 = 4 + e.val; omega)

theorem padded_zero (u : Vec Ideal S1024x4 .f32) (v : Vec Ideal S1024x16 .f32) (k : Fin 1024) (l : Fin 128) (h : ¬l.val < 20) :
    padded u v (ix2 k l) = 0 := by
  unfold padded
  refine (pad_apply_of_not_inside _ _ _ _ _ _ _ _ (1 : Fin 2) (fun hin => ?_)).trans ?_
  · have e : (l.val - 0) / (0 + 1) < 20 := hin.2.2
    omega
  · show (((0#32 : BitVec 32).toInt : ℝ) : EReal) = 0
    simp

/-- For finite weights rounding leaves nothing. -/
theorem rest_padded (u : Vec Ideal S1024x4 .f32) (v : Vec Ideal S1024x16 .f32) (hu : ∀ j, IsReal (u j)) (hv : ∀ j, IsReal (v j))
    (k : Fin 1024) (l : Fin 128) : rest (padded u v) (ix2 k l) = 0 := by
  have hr : IsReal (padded u v (ix2 k l)) := by
    by_cases h4 : l.val < 4
    · exact (padded_group u v k ⟨l.val, h4⟩) ▸ hu _
    · by_cases h20 : l.val < 20
      · have e := padded_expert u v k ⟨l.val - 4, by omega⟩
        rw [show (⟨4 + (l.val - 4), by omega⟩ : Fin 128) = l from Fin.ext (by show 4 + (l.val - 4) = l.val; omega)] at e
        exact e ▸ hv _
      · rw [padded_zero u v k l h20]; exact ⟨0, rfl⟩
  exact hr.sub_self

theorem pair_left (p q : Vec Ideal S1024x128 .f32) (k : Fin 1024) (l : Fin 128) : pair p q (ix2 k ⟨l.val, by omega⟩) = p (ix2 k l) :=
  concatenate_pair_apply_left (t := S1024x256) 1 p q _ _ rfl (ix2 k l) (fun c => by
    match c with
    | ⟨0, _⟩ => rfl
    | ⟨1, _⟩ => rfl)
theorem pair_right (p q : Vec Ideal S1024x128 .f32) (k : Fin 1024) (l : Fin 128) : pair p q (ix2 k ⟨128 + l.val, by omega⟩) = q (ix2 k l) :=
  concatenate_pair_apply_right (t := S1024x256) 1 p q _ _ rfl rfl (ix2 k l) (fun c => by
    match c with
    | ⟨0, _⟩ => exact fun _ => rfl
    | ⟨1, _⟩ => exact fun hn => absurd rfl hn) (by show l.val + 128 = 128 + l.val; omega)

variable (m : (ℓ : Loc nD τ sig) → Buf (Elt Ideal) ℓ) (c : Dev nD)

abbrev groupWeight : Vec Ideal S1024x4 .f32 := m ((c : Thread nD τ).loc main_arg5)
abbrev expertWeight : Vec Ideal S1024x16 .f32 := m ((c : Thread nD τ).loc main_arg6)

theorem V_weights : V m c main_v6 = pair (padded (groupWeight m c) (expertWeight m c)) (rest (padded (groupWeight m c) (expertWeight m c))) := by
  show StableHlo.after (List.flatten [hostOps0, hostOps0_1, hostOps0_2]) (fun b => m (c, b)) (Proc.devRef .tc main_v6) = _
  simp only [hostOps0, hostOps0_1, hostOps0_2, List.flatten_cons, List.flatten_nil, List.append_nil, List.cons_append, List.nil_append]
  after_results
  rfl

end Cert.Kernel4Ideal.Router

end
-- ==== Proof.Router.Kernel.lean ====
/-
  The kernel's second array, element by element over the extended reals, for a finite gain and finite router's weights: each row normed,
  then the weights of its two experts, that of the lower index first, then zeros; and its third array, the rows' classes.
-/
module

public import proofs.«01_k».proof.Proof.Router.Weights

@[expose] public section

noncomputable section

namespace Cert.Kernel4Ideal.Router

open Idealize.ShloMosaic Idealize.ShloMosaic.TcCoe
open Idealize.ShloMosaic.Pipeline (Dat Cfg Window)
open Cert.Kernel4Ideal Cert.Kernel4Ideal.Gen Cert.Router Cert.Outproj

variable (m : (ℓ : Loc nD τ sig) → Buf (Elt Ideal) ℓ) (c : Dev nD)

/-- The other argument arrays by name. -/
abbrev groupA : Vec Ideal S16384x512 .bf16 := m ((c : Thread nD τ).loc main_arg0)
abbrev groupB : Vec Ideal S16384x512 .bf16 := m ((c : Thread nD τ).loc main_arg1)
abbrev residual : Vec Ideal S16384x1024 .f32 := m ((c : Thread nD τ).loc main_arg2)
abbrev weight : Vec Ideal S1024x1024 .bf16 := m ((c : Thread nD τ).loc main_arg3)
abbrev gain : Vec Ideal S1x1024 .f32 := m ((c : Thread nD τ).loc main_arg4)

theorem points (t : Fin cfg0.N) : t.val < 32 := lt_of_lt_of_eq t.isLt N_0

theorem index_0 : ∀ t : Fin cfg0.N, win0_0.index t = ![t.val, 0] := (by decide +kernel : ∀ t : Fin grid0.N, win0_0.index t = ![t.val, 0])
theorem index_1 : ∀ t : Fin cfg0.N, win0_1.index t = ![t.val, 0] := (by decide +kernel : ∀ t : Fin grid0.N, win0_1.index t = ![t.val, 0])
theorem index_2 : ∀ t : Fin cfg0.N, win0_2.index t = ![t.val, 0] := (by decide +kernel : ∀ t : Fin grid0.N, win0_2.index t = ![t.val, 0])
theorem index_3 : ∀ t : Fin cfg0.N, win0_3.index t = ![0, 0] := (by decide +kernel : ∀ t : Fin grid0.N, win0_3.index t = ![0, 0])
theorem index_4 : ∀ t : Fin cfg0.N, win0_4.index t = ![0, 0] := (by decide +kernel : ∀ t : Fin grid0.N, win0_4.index t = ![0, 0])
theorem index_5 : ∀ t : Fin cfg0.N, win0_5.index t = ![0, 0] := (by decide +kernel : ∀ t : Fin grid0.N, win0_5.index t = ![0, 0])
theorem index_7 : ∀ t : Fin cfg0.N, win0_7.index t = ![t.val, 0] := (by decide +kernel : ∀ t : Fin grid0.N, win0_7.index t = ![t.val, 0])

theorem index_8 : ∀ t : Fin cfg0.N, win0_8.index t = ![t.val, 0, 0] := (by decide +kernel : ∀ t : Fin grid0.N, win0_8.index t = ![t.val, 0, 0])

/-- The row of the array a tile's row is. -/
def rowOf (t : Fin cfg0.N) (r : Fin 512) : Fin 16384 := ⟨t.val * 512 + r.val, by have := points t; omega⟩

theorem block_0 (t : Fin cfg0.N) (r k : Fin 512) : (iblk m c 0 t : Vec Ideal S512x512 .bf16) (ix2 r k) = groupA m c (ix2 (rowOf t r) k) := by
  refine Eq.trans (congrArg (V m c main_arg0) (funext fun a => Fin.ext ?_)) (congrFun (V_main_arg0 m c) _)
  refine (Window.rect_emb_val (cfg0.win 0) t (ix2 r k) a).trans ?_
  rw [show (cfg0.win 0).index t = ![t.val, 0] from index_0 t]
  match a with
  | ⟨0, _⟩ => rfl
  | ⟨1, _⟩ => exact Nat.zero_add _
theorem block_1 (t : Fin cfg0.N) (r k : Fin 512) : (iblk m c 1 t : Vec Ideal S512x512 .bf16) (ix2 r k) = groupB m c (ix2 (rowOf t r) k) := by
  refine Eq.trans (congrArg (V m c main_arg1) (funext fun a => Fin.ext ?_)) (congrFun (V_main_arg1 m c) _)
  refine (Window.rect_emb_val (cfg0.win 1) t (ix2 r k) a).trans ?_
  rw [show (cfg0.win 1).index t = ![t.val, 0] from index_1 t]
  match a with
  | ⟨0, _⟩ => rfl
  | ⟨1, _⟩ => exact Nat.zero_add _
theorem block_2 (t : Fin cfg0.N) (r : Fin 512) (k : Fin 1024) : (iblk m c 2 t : Vec Ideal S512x1024 .f32) (ix2 r k) = residual m c (ix2 (rowOf t r) k) := by
  refine Eq.trans (congrArg (V m c main_arg2) (funext fun a => Fin.ext ?_)) (congrFun (V_main_arg2 m c) _)
  refine (Window.rect_emb_val (cfg0.win 2) t (ix2 r k) a).trans ?_
  rw [show (cfg0.win 2).index t = ![t.val, 0] from index_2 t]
  match a with
  | ⟨0, _⟩ => rfl
  | ⟨1, _⟩ => exact Nat.zero_add _
theorem block_3 (t : Fin cfg0.N) (r k : Fin 1024) : (iblk m c 3 t : Vec Ideal S1024x1024 .bf16) (ix2 r k) = weight m c (ix2 r k) := by
  refine Eq.trans (congrArg (V m c main_arg3) (funext fun a => Fin.ext ?_)) (congrFun (V_main_arg3 m c) _)
  refine (Window.rect_emb_val (cfg0.win 3) t (ix2 r k) a).trans ?_
  rw [show (cfg0.win 3).index t = ![0, 0] from index_3 t]
  match a with
  | ⟨0, _⟩ => show 0 * 1024 + r.val = r.val; omega
  | ⟨1, _⟩ => exact Nat.zero_add _
theorem block_4 (t : Fin cfg0.N) (k : Fin 1024) : (iblk m c 4 t : Vec Ideal S1x1024 .f32) (ix2 0 k) = gain m c (ix2 0 k) := by
  refine Eq.trans (congrArg (V m c main_arg4) (funext fun a => Fin.ext ?_)) (congrFun (V_main_arg4 m c) _)
  refine (Window.rect_emb_val (cfg0.win 4) t (ix2 0 k) a).trans ?_
  rw [show (cfg0.win 4).index t = ![0, 0] from index_4 t]
  match a with
  | ⟨0, _⟩ => rfl
  | ⟨1, _⟩ => exact Nat.zero_add _
theorem block_5 (t : Fin cfg0.N) (k : Fin 1024) (l : Fin 256) :
    (iblk m c 5 t : Vec Ideal S1024x256 .bf16) (ix2 k l)
      = pair (padded (groupWeight m c) (expertWeight m c)) (rest (padded (groupWeight m c) (expertWeight m c))) (ix2 k l) := by
  refine Eq.trans (congrArg (V m c main_v6) (funext fun a => Fin.ext ?_)) (congrFun (V_weights m c) _)
  refine (Window.rect_emb_val (cfg0.win 5) t (ix2 k l) a).trans ?_
  rw [show (cfg0.win 5).index t = ![0, 0] from index_5 t]
  match a with
  | ⟨0, _⟩ => show 0 * 1024 + k.val = k.val; omega
  | ⟨1, _⟩ => exact Nat.zero_add _

/-- A row of the residual stream. -/
def streamAt (i : Fin 16384) (e : Fin 1024) : EReal :=
  summed (residual m c (ix2 i e)) (fun k => groupA m c (ix2 i k)) (fun k => groupB m c (ix2 i k)) (fun k => weight m c (ix2 k e))
/-- A normed row. -/
def normedAt (i : Fin 16384) (e : Fin 1024) : EReal := normed (streamAt m c i) (fun k => gain m c (ix2 0 k)) e

theorem normedRow_block (t : Fin cfg0.N) (r : Fin 512) :
    normedRow (iblk m c 2 t) (iblk m c 0 t) (iblk m c 1 t) (iblk m c 3 t) (iblk m c 4 t) r = normedAt m c (rowOf t r) := by
  funext e
  have hs : stream (iblk m c 2 t) (iblk m c 0 t) (iblk m c 1 t) (iblk m c 3 t) r = streamAt m c (rowOf t r) := by
    funext e
    unfold stream streamAt
    rw [block_2, show (fun k : Fin 512 => (iblk m c 0 t : Vec Ideal S512x512 .bf16) (ix2 r k)) = _ from funext fun k => block_0 m c t r k,
      show (fun k : Fin 512 => (iblk m c 1 t : Vec Ideal S512x512 .bf16) (ix2 r k)) = _ from funext fun k => block_1 m c t r k,
      show (fun k : Fin 1024 => (iblk m c 3 t : Vec Ideal S1024x1024 .bf16) (ix2 k e)) = _ from funext fun k => block_3 m c t k e]
  unfold normedRow normedAt
  rw [hs, show (fun k : Fin 1024 => (iblk m c 4 t : Vec Ideal S1x1024 .f32) (ix2 0 k)) = _ from funext fun k => block_4 m c t k]

theorem weights_right (hu : ∀ j, IsReal (groupWeight m c j)) (hv : ∀ j, IsReal (expertWeight m c j)) (t : Fin cfg0.N) (k : Fin 1024) (l : Fin 128) :
    (iblk m c 5 t : Vec Ideal S1024x256 .bf16) (ix2 k ⟨128 + l.val, by omega⟩) = (0 : EReal) :=
  (block_5 m c t k ⟨128 + l.val, by omega⟩).trans ((pair_right _ _ k l).trans (rest_padded _ _ hu hv k l))

section
variable (hg : ∀ j, IsReal (gain m c j)) (hu : ∀ j, IsReal (groupWeight m c j)) (hv : ∀ j, IsReal (expertWeight m c j))
  (i : Fin 16384) (G : Fin 4 → ℝ) (E : Fin 4 → Fin 4 → ℝ)
  (hG : ∀ j : Fin 4, ∑ k : Fin 1024, normedAt m c i k * groupWeight m c (ix2 k j) = (G j : EReal))
  (hE : ∀ q j : Fin 4, ∑ k : Fin 1024, normedAt m c i k * expertWeight m c (ix2 k (column q j)) = (E q j : EReal))
  (q p s : Fin 4) (hq : First G q) (hp : First (E q) p) (hs : Second (E q) p s)

include hG hE in
theorem block_logits (t : Fin cfg0.N) (r : Fin 512) (hi : rowOf t r = i) :
    Logits (fun l : Fin 128 => ∑ k : Fin 1024, normedRow (iblk m c 2 t) (iblk m c 0 t) (iblk m c 1 t) (iblk m c 3 t) (iblk m c 4 t) r k
      * (iblk m c 5 t : Vec Ideal S1024x256 .bf16) (ix2 k ⟨l.val, by omega⟩)) G E := by
  subst hi
  have hn := normedRow_block m c t r
  exact ⟨fun j => by
      rw [← hG j, hn]
      exact Finset.sum_congr rfl fun k _ => congrArg (normedAt m c (rowOf t r) k * ·)
        ((block_5 m c t k ⟨j.val, by omega⟩).trans ((pair_left _ _ k ⟨j.val, by omega⟩).trans (padded_group _ _ k j))),
    fun q j => by
      rw [← hE q j, hn]
      exact Finset.sum_congr rfl fun k _ => congrArg (normedAt m c (rowOf t r) k * ·)
        ((block_5 m c t k ⟨4 + 4 * q.val + j.val, by omega⟩).trans ((pair_left _ _ k ⟨4 + 4 * q.val + j.val, by omega⟩).trans
          ((congrArg (padded _ _) (congrArg (ix2 k) (Fin.ext (Nat.add_assoc 4 (4 * q.val) j.val)))).trans
            (padded_expert _ _ k (column q j)))))⟩

include hg hu hv hG hE hq hp hs

theorem point_value (t : Fin cfg0.N) (r : Fin 512) (hi : rowOf t r = i) (l : Fin 1152) :
    (outsAt0 m c t).2.1 (ix2 r l) = row (normedAt m c i) (weightOne G E q p s : EReal) (weightTwo G E q p s : EReal) p s l := by
  subst hi
  have hn := normedRow_block m c t r
  have hb := beside_apply (iblk m c 2 t) (iblk m c 0 t) (iblk m c 1 t) (iblk m c 3 t) (iblk m c 4 t) (iblk m c 5 t) r G E q p s
    (fun e => by rw [hn]; exact normed_real _ _ _ (hg _)) (weights_right m c hu hv t)
    (block_logits m c _ G E hG hE t r rfl) hq hp hs
  unfold outsAt0
  dsimp only
  rw [out_7]
  unfold tile row
  by_cases h : l.val < 1024
  · rw [dif_pos h]
    exact (dif_pos h).trans (congrFun hn _)
  · rw [dif_neg h]
    exact (dif_neg h).trans (hb ⟨l.val - 1024, by omega⟩)

theorem point_class (t : Fin cfg0.N) (u : Fin 4) (l : Fin 128) (hi : rowOf t (rowAt u l) = i) :
    (outsAt0 m c t).2.2 (ix3 0 u l) = Ideal.fptosi 32 (classOf q p s) := by
  have hb := classes_apply (iblk m c 2 t) (iblk m c 0 t) (iblk m c 1 t) (iblk m c 3 t) (iblk m c 4 t) (iblk m c 5 t) u l G E q p s
    (fun e => by rw [normedRow_block m c t (rowAt u l)]; exact normed_real _ _ _ (hg _)) (weights_right m c hu hv t)
    (block_logits m c i G E hG hE t (rowAt u l) hi) hq hp hs
  unfold outsAt0
  dsimp only
  rw [out_8]
  exact hb

end

/-- The point that writes a row. -/
def tileOf (i : Fin 16384) : Fin cfg0.N := ⟨i.val / 512, lt_of_lt_of_eq (by omega) N_0.symm⟩
/-- Where a row lies in its tile. -/
def inTile (i : Fin 16384) : Fin 512 := ⟨i.val % 512, Nat.mod_lt _ (by decide)⟩

theorem rowOf_tileOf (i : Fin 16384) : rowOf (tileOf i) (inTile i) = i := Fin.ext (by
  show i.val / 512 * 512 + i.val % 512 = i.val; omega)

/-- The array after the launch. -/
def finalArray : Buf (Elt Ideal) ((c : Thread nD τ).loc main_v7_1) := (dats m 0 c).arrAt 7 cfg0.N

theorem array_apply (hg : ∀ j, IsReal (gain m c j)) (hu : ∀ j, IsReal (groupWeight m c j)) (hv : ∀ j, IsReal (expertWeight m c j))
    (i : Fin 16384) (G : Fin 4 → ℝ) (E : Fin 4 → Fin 4 → ℝ)
    (hG : ∀ j : Fin 4, ∑ k : Fin 1024, normedAt m c i k * groupWeight m c (ix2 k j) = (G j : EReal))
    (hE : ∀ q j : Fin 4, ∑ k : Fin 1024, normedAt m c i k * expertWeight m c (ix2 k (column q j)) = (E q j : EReal))
    (q p s : Fin 4) (hq : First G q) (hp : First (E q) p) (hs : Second (E q) p s) (l : Fin 1152) :
    finalArray m c (ix2 i l : S16384x1152.Idx)
      = row (normedAt m c i) (weightOne G E q p s : EReal) (weightTwo G E q p s : EReal) p s l := by
  have h := congrFun (Value.blocks7 m c (tileOf i) (flush0_7 (tileOf i))) (ix2 (inTile i) l : S512x1152.Idx)
  rw [Value.flushed7] at h
  have hy : ((cfg0.win 7).blk (tileOf i)).view.emb (ix2 (inTile i) l : S512x1152.Idx) = (ix2 i l : S16384x1152.Idx) := funext fun a => Fin.ext (by
    refine (Window.rect_emb_val (cfg0.win 7) (tileOf i) (ix2 (inTile i) l) a).trans ?_
    rw [show (cfg0.win 7).index (tileOf i) = ![(tileOf i).val, 0] from index_7 (tileOf i)]
    match a with
    | ⟨0, _⟩ => exact congrArg Fin.val (rowOf_tileOf i)
    | ⟨1, _⟩ => exact Nat.zero_add _)
  refine Eq.trans (congrArg ((dats m 0 c).arrAt 7 cfg0.N) hy.symm) (Eq.trans h ?_)
  exact point_value m c hg hu hv i G E hG hE q p s hq hp hs (tileOf i) (inTile i) (rowOf_tileOf i) l

/-- The classes' array after the launch. -/
def finalClasses : Buf (Elt Ideal) ((c : Thread nD τ).loc main_v7_2) := (dats m 0 c).arrAt 8 cfg0.N

/-- The row that an element of the classes' array is of. -/
def classRow (t : Fin 32) (u : Fin 4) (l : Fin 128) : Fin 16384 := ⟨t.val * 512 + (u.val * 128 + l.val), by omega⟩

theorem classes_array (hg : ∀ j, IsReal (gain m c j)) (hu : ∀ j, IsReal (groupWeight m c j)) (hv : ∀ j, IsReal (expertWeight m c j))
    (b : Fin 32) (u : Fin 4) (l : Fin 128) (G : Fin 4 → ℝ) (E : Fin 4 → Fin 4 → ℝ)
    (hG : ∀ j : Fin 4, ∑ k : Fin 1024, normedAt m c (classRow b u l) k * groupWeight m c (ix2 k j) = (G j : EReal))
    (hE : ∀ q j : Fin 4, ∑ k : Fin 1024, normedAt m c (classRow b u l) k * expertWeight m c (ix2 k (column q j)) = (E q j : EReal))
    (q p s : Fin 4) (hq : First G q) (hp : First (E q) p) (hs : Second (E q) p s) :
    finalClasses m c (ix3 b u l : S32x4x128.Idx) = Ideal.fptosi 32 (classOf q p s) := by
  obtain ⟨t, ht⟩ : ∃ t : Fin cfg0.N, t.val = b.val := ⟨⟨b.val, lt_of_lt_of_eq b.isLt N_0.symm⟩, rfl⟩
  have h := congrFun (Value.blocks8 m c t (flush0_8 t)) (ix3 0 u l : S1x4x128.Idx)
  rw [Value.flushed8] at h
  have hy : ((cfg0.win 8).blk t).view.emb (ix3 0 u l : S1x4x128.Idx) = (ix3 b u l : S32x4x128.Idx) := funext fun a => Fin.ext (by
    refine (Window.rect_emb_val (cfg0.win 8) t (ix3 0 u l) a).trans ?_
    rw [show (cfg0.win 8).index t = ![t.val, 0, 0] from index_8 t]
    match a with
    | ⟨0, _⟩ => show t.val * 1 + 0 = b.val; omega
    | ⟨1, _⟩ => exact Nat.zero_add _
    | ⟨2, _⟩ => exact Nat.zero_add _)
  refine Eq.trans (congrArg ((dats m 0 c).arrAt 8 cfg0.N) hy.symm) (Eq.trans h ?_)
  exact point_class m c hg hu hv (classRow b u l) G E hG hE q p s hq hp hs t u l (Fin.ext (by
    show t.val * 512 + (u.val * 128 + l.val) = b.val * 512 + (u.val * 128 + l.val); omega))

end Cert.Kernel4Ideal.Router

end
-- ==== Proof.Router.Reference.lean ====
/-
  The reference's two results, element by element over the extended reals.
-/
module

public import proofs.«01_k».proof.Proof.Gen.Reference4Ideal.Read
public import proofs.«01_k».proof.Proof.Router.Math
public import proofs.«01_k».proof.Proof.Router.Payload
public import proofs.«01_k».proof.Proof.Router.Classes
public import proofs.«01_k».proof.Proof.Outproj.Math
public import Idealize.ShloMosaic.Lib.KernelVsHost
public import Idealize.ShloMosaic.Lib.Pointwise

@[expose] public section

set_option maxRecDepth 16384

noncomputable section

namespace Cert.Reference4Ideal.Router

open Idealize.ShloMosaic Idealize.ShloMosaic.TcCoe Idealize.ShloMosaic.Tactic Idealize.ShloMosaic.Pointwise
open Cert.Reference4Ideal Cert.Reference4Ideal.Gen Cert.Reference4Ideal.Read Cert.Router Cert.Outproj
open Cert.Kernel4Ideal.Router (select_if lit_bot nat nat_inj nat_mul nat_add nat_zero nat_one nat_two nat_three nat_four nat_five nat_six)

/-! ## Words, and sums and maxima of a few elements -/

theorem index_lt : ∀ k j : Fin 4, IntOp.cmpi .slt (BitVec.ofNat 32 k.val) (BitVec.ofNat 32 j.val) = BitVec.ofBool (decide (k < j)) := by decide

theorem index_word : ∀ k : Fin 4, (BitVec.ofNat 32 k.val).toInt = (k.val : ℤ) := by decide

/-- The comparison of two entries, as a number. -/
theorem before_word (t : Fin 4 → ℝ) (k j : Fin 4) [d₁ : Decidable ((t j : EReal) < (t k : EReal))] [d₂ : Decidable ((t k : EReal) = (t j : EReal))]
    [d : Decidable (Before t k j)] :
    Scalar.select (IntOp.ori (BitVec.ofBool (decide ((t j : EReal) < (t k : EReal))))
        (IntOp.andi (BitVec.ofBool (decide ((t k : EReal) = (t j : EReal)))) (IntOp.cmpi .slt (BitVec.ofNat 32 k.val) (BitVec.ofNat 32 j.val))))
      (1 : EReal) 0 = if Before t k j then 1 else 0 := by
  have e₁ : ((t j : EReal) < (t k : EReal)) ↔ t j < t k := EReal.coe_lt_coe_iff
  have e₂ : ((t k : EReal) = (t j : EReal)) ↔ t k = t j := EReal.coe_eq_coe_iff
  have e : Before t k j ↔ ((t j : EReal) < (t k : EReal)) ∨ (((t k : EReal) = (t j : EReal)) ∧ k < j) := by
    rw [e₁, e₂]; exact Iff.rfl
  rw [index_lt]
  by_cases h₁ : (t j : EReal) < (t k : EReal) <;> by_cases h₂ : (t k : EReal) = (t j : EReal) <;> by_cases h₃ : k < j <;>
    simp [e, h₁, h₂, h₃, IntOp.ori, IntOp.andi, Scalar.select]

/-- The sum picks the entry. -/
theorem pick (f : Fin 4 → EReal) (q : Fin 4) : (∑ k, Scalar.select (BitVec.ofBool (decide (k = q))) (f k) 0) = f q := by
  simp only [select_if]
  rw [Finset.sum_ite_eq' Finset.univ q f, if_pos (Finset.mem_univ _)]

/-- The maximum is the largest entry. -/
theorem largest {n : ℕ} (L : Fin n → EReal) (p : Fin n) (h : ∀ l, L l ≤ L p) : max ⊥ (Finset.fold max ⊥ L Finset.univ) = L p := by
  rw [max_eq_right bot_le]
  exact le_antisymm ((Finset.fold_max_le _).mpr ⟨bot_le, fun l _ => h l⟩) ((Finset.le_fold_max _).mpr (.inr ⟨p, Finset.mem_univ _, le_rfl⟩))

theorem exp_real (x y : ℝ) : Ideal.exp ((x : EReal) - (y : EReal)) = ((Real.exp (x - y) : ℝ) : EReal) := by
  rw [← EReal.coe_sub]; rfl

theorem fill1 (y : S16384x4.Idx) : val_main_call1_v1 (F := Ideal) y = 0 := by
  rw [val_main_call1_v1_apply, val_main_call1_v0_apply, val_main_cst_9_apply]; exact Ideal.ofBits_zero_f32
theorem fill2 (y : S_.Idx) : val_main_call2_v0 (F := Ideal) y = 0 := by
  rw [val_main_call2_v0_apply, val_main_cst_11_apply]; exact Ideal.ofBits_zero_f32
theorem fill4 (y : S16384x4.Idx) : val_main_call4_v1 (F := Ideal) y = 0 := by
  rw [val_main_call4_v1_apply, val_main_call4_v0_apply, val_main_cst_18_apply]; exact Ideal.ofBits_zero_f32
theorem fill5 (y : S16384x4.Idx) : val_main_call5_v1 (F := Ideal) y = 0 := by
  rw [val_main_call5_v1_apply, val_main_call5_v0_apply, val_main_cst_20_apply]; exact Ideal.ofBits_zero_f32
theorem fill6 (y : S16384x4.Idx) : val_main_call6_v2 (F := Ideal) y = 0 := by
  rw [val_main_call6_v2_apply, val_main_call6_v0_apply, val_main_cst_25_apply]; exact Ideal.ofBits_zero_f32
theorem fill7 (y : S16384x4.Idx) : val_main_call7_v2 (F := Ideal) y = 0 := by
  rw [val_main_call7_v2_apply, val_main_call7_v0_apply, val_main_cst_27_apply]; exact Ideal.ofBits_zero_f32
theorem place6 (i : Fin 16384) (k : Fin 4) : val_main_call6_v1 (F := Ideal) (ix2 i k) = ((k.val : ℝ) : EReal) := by
  pointwise [val_main_call6_v1, val_main_v103, val_main_v102, val_main_v17]
  show (((BitVec.ofNat 32 k.val).toInt : ℝ) : EReal) = _
  rw [index_word, Int.cast_natCast]
theorem place7 (i : Fin 16384) (k : Fin 4) : val_main_call7_v1 (F := Ideal) (ix2 i k) = ((k.val : ℝ) : EReal) := place6 i k

/-! ## The normed rows and the logits -/

variable (a b : S16384x512.Idx → EReal) (x : S16384x1024.Idx → EReal) (w : S1024x1024.Idx → EReal) (g : S1x1024.Idx → EReal)
  (u : S1024x4.Idx → EReal) (v : S1024x16.Idx → EReal)

theorem mixed_apply (i : Fin 16384) (k : Fin 1024) :
    val_main_v0 (F := Ideal) a b (ix2 i k) = joined (fun k => a (ix2 i k)) (fun k => b (ix2 i k)) k := by
  unfold val_main_v0 joined
  by_cases h : k.val < 512
  · rw [dif_pos h]
    exact concatenate_pair_apply_left (t := S16384x1024) 1 a b _ _ rfl (ix2 i ⟨k.val, h⟩) (fun a => by match a with | ⟨0, _⟩ => rfl | ⟨1, _⟩ => rfl)
  · rw [dif_neg h]
    refine concatenate_pair_apply_right (t := S16384x1024) 1 a b _ _ rfl rfl (ix2 i ⟨k.val - 512, by omega⟩) (fun a ha => ?_) ?_
    · match a with
      | ⟨0, _⟩ => rfl
      | ⟨1, _⟩ => exact absurd rfl ha
    · show k.val - 512 + 512 = k.val
      omega

/-- A row of the residual stream. -/
def streamAt (i : Fin 16384) (e : Fin 1024) : EReal :=
  summed (x (ix2 i e)) (fun k => a (ix2 i k)) (fun k => b (ix2 i k)) (fun k => w (ix2 k e))
/-- A normed row. -/
def normedAt (i : Fin 16384) (e : Fin 1024) : EReal := normed (streamAt a b x w i) (fun k => g (ix2 0 k)) e

theorem stream_apply (i : Fin 16384) (e : Fin 1024) : val_main_v4 (F := Ideal) a b x w (ix2 i e) = streamAt a b x w i e := by
  unfold streamAt
  rw [val_main_v4_apply, val_main_v3_apply, ← joined_sum]
  refine congrArg (x (ix2 i e) + ·) (Finset.sum_congr rfl fun k _ => congrArg₂ (· * ·) ?_ ?_)
  · rw [val_main_v1_apply]
    refine Eq.trans ?_ (mixed_apply a b i k)
    exact congrArg (val_main_v0 (F := Ideal) a b) (funext fun (a : Fin 2) => by match a with | ⟨0, _⟩ => rfl | ⟨1, _⟩ => rfl)
  · rw [val_main_v2_apply]
    exact congrArg w (funext fun (a : Fin 2) => by match a with | ⟨0, _⟩ => rfl | ⟨1, _⟩ => rfl)

theorem normed_apply (i : Fin 16384) (e : Fin 1024) : val_main_v16 (F := Ideal) a b x w g (ix2 i e) = normedAt a b x w g i e := by
  pointwise [val_main_v16, val_main_v15, val_main_v14, val_main_v13, val_main_v12, val_main_v11, val_main_v10, val_main_cst_1, val_main_v9,
    val_main_v8, val_main_cst_0, val_main_v7, val_main_v6, val_main_cst, val_main_v5]
  simp only [stream_apply]
  rfl

theorem group_logit (i : Fin 16384) (j : Fin 4) :
    val_main_v18 (F := Ideal) a b x w g u (ix2 i j) = ∑ k : Fin 1024, normedAt a b x w g i k * u (ix2 k j) := by
  pointwise [val_main_v18]
  simp only [normed_apply]

theorem expert_logit (i : Fin 16384) (q j : Fin 4) :
    val_main_v54 (F := Ideal) a b x w g v (ix3 i q j) = ∑ k : Fin 1024, normedAt a b x w g i k * v (ix2 k (column q j)) := by
  pointwise [val_main_v54, val_main_v53]
  simp only [normed_apply, Nat.mul_comm q.val 4]

section
variable (i : Fin 16384) (G : Fin 4 → ℝ) (E : Fin 4 → Fin 4 → ℝ)
  (hG : ∀ j : Fin 4, val_main_v18 (F := Ideal) a b x w g u (ix2 i j) = (G j : EReal))
  (hE : ∀ q j : Fin 4, val_main_v54 (F := Ideal) a b x w g v (ix3 i q j) = (E q j : EReal))
  (q p s : Fin 4) (hq : First G q) (hp : First (E q) p) (hs : Second (E q) p s)

/-! ## The group -/

open Classical in
include hG in
theorem group_before (j k : Fin 4) : val_main_v35 (F := Ideal) a b x w g u (ix3 i j k) = if Before G k j then 1 else 0 := by
  pointwise [val_main_v35, val_main_call0_v0, val_main_call0_v1, val_main_cst_2, val_main_cst_3,
    val_main_v34, val_main_v33, val_main_v32, val_main_v31, val_main_v30, val_main_v29, val_main_v28, val_main_v27, val_main_v17,
    val_main_v26, val_main_v25, val_main_v24, val_main_v23, val_main_v22, val_main_v21, val_main_v20, val_main_v19]
  simp only [hG]
  exact before_word G k j

include hG in
theorem group_rank (j : Fin 4) : val_main_v37 (F := Ideal) a b x w g u (ix2 i j) = rank G j := by
  pointwise [val_main_v37, val_main_cst_4]
  exact Finset.sum_congr rfl fun k _ => group_before a b x w g u i G hG j k

include hG hq in
theorem group_first (j : Fin 4) : val_main_v39 (F := Ideal) a b x w g u (ix2 i j) = BitVec.ofBool (decide (j = q)) := by
  pointwise [val_main_v39, val_main_v38, val_main_cst_5]
  rw [group_rank a b x w g u i G hG j]
  exact congrArg BitVec.ofBool (decide_eq_decide.mpr (rank_eq_zero hq j))

include hG hq in
theorem group_share : val_main_v50 (F := Ideal) a b x w g u (ix2 i q) = ((1 / ∑ j : Fin 4, Real.exp (G j - G q) : ℝ) : EReal) := by
  pointwise [val_main_v50, val_main_v49, val_main_v48, val_main_v47, val_main_cst_8, val_main_v46, val_main_v45, val_main_v44, val_main_v43,
    val_main_v42, val_main_v41, val_main_v40, val_main_cst_6, val_main_cst_7]
  simp only [hG]
  rw [lit_bot, largest (fun l => (G l : EReal)) q fun l => EReal.coe_le_coe_iff.mpr (hq.max l)]
  simp only [exp_real]
  rw [← coe_sum, div_real _ _ (Cert.Kernel4Ideal.Router.sum_pos G q).ne', sub_self, Real.exp_zero]

include hG hq in
theorem group_weight : val_main_v52 (F := Ideal) a b x w g u (ix1 i) = ((1 / ∑ j : Fin 4, Real.exp (G j - G q) : ℝ) : EReal) := by
  pointwise [val_main_v52, val_main_cst_10, val_main_v51]
  simp only [group_first a b x w g u i G hG q hq, fill1]
  exact (pick (fun k => val_main_v50 (F := Ideal) a b x w g u (ix2 i k)) q).trans (group_share a b x w g u i G hG q hq)

/-! ## Its two experts -/

include hG hE hq in
theorem sel_apply (j : Fin 4) : val_main_v57 (F := Ideal) a b x w g u v (ix2 i j) = (E q j : EReal) := by
  pointwise [val_main_v57, val_main_v56, val_main_v55, val_main_cst_12, val_main_call2_v1, val_main_call2_v2]
  simp only [group_first a b x w g u i G hG q hq, fill2, hE]
  exact pick (fun k => (E k j : EReal)) q

open Classical in
include hG hE hq in
theorem expert_before (j k : Fin 4) : val_main_v74 (F := Ideal) a b x w g u v (ix3 i j k) = if Before (E q) k j then 1 else 0 := by
  pointwise [val_main_v74, val_main_call3_v0, val_main_call3_v1, val_main_cst_13, val_main_cst_14,
    val_main_v73, val_main_v72, val_main_v71, val_main_v70, val_main_v69, val_main_v68, val_main_v67, val_main_v66, val_main_v17,
    val_main_v65, val_main_v64, val_main_v63, val_main_v62, val_main_v61, val_main_v60, val_main_v59, val_main_v58]
  simp only [sel_apply a b x w g u v i G E hG hE q hq]
  exact before_word (E q) k j

include hG hE hq in
theorem expert_rank (j : Fin 4) : val_main_v76 (F := Ideal) a b x w g u v (ix2 i j) = rank (E q) j := by
  pointwise [val_main_v76, val_main_cst_15]
  exact Finset.sum_congr rfl fun k _ => expert_before a b x w g u v i G E hG hE q hq j k

include hG hE hq hp in
theorem expert_first (j : Fin 4) : val_main_v78 (F := Ideal) a b x w g u v (ix2 i j) = BitVec.ofBool (decide (j = p)) := by
  pointwise [val_main_v78, val_main_v77, val_main_cst_16]
  rw [expert_rank a b x w g u v i G E hG hE q hq j]
  exact congrArg BitVec.ofBool (decide_eq_decide.mpr (rank_eq_zero hp j))

include hG hE hq hp hs in
theorem expert_second (j : Fin 4) : val_main_v80 (F := Ideal) a b x w g u v (ix2 i j) = BitVec.ofBool (decide (j = s)) := by
  pointwise [val_main_v80, val_main_v79, val_main_cst_17]
  rw [expert_rank a b x w g u v i G E hG hE q hq j]
  exact congrArg BitVec.ofBool (decide_eq_decide.mpr (rank_eq_one hp hs j))

include hG hE hq hp in
theorem chosen_one : val_main_v82 (F := Ideal) a b x w g u v (ix1 i) = (E q p : EReal) := by
  pointwise [val_main_v82, val_main_v81, val_main_cst_19]
  simp only [expert_first a b x w g u v i G E hG hE q p hq hp, fill4, sel_apply a b x w g u v i G E hG hE q hq]
  exact pick (fun k => (E q k : EReal)) p

include hG hE hq hp hs in
theorem chosen_two : val_main_v84 (F := Ideal) a b x w g u v (ix1 i) = (E q s : EReal) := by
  pointwise [val_main_v84, val_main_v83, val_main_cst_21]
  simp only [expert_second a b x w g u v i G E hG hE q p s hq hp hs, fill5, sel_apply a b x w g u v i G E hG hE q hq]
  exact pick (fun k => (E q k : EReal)) s

include hG hE hq hp hs in
theorem pair_apply (j : Fin 2) : val_main_v87 (F := Ideal) a b x w g u v (ix2 i j) = ((if j = 0 then E q p else E q s : ℝ) : EReal) := by
  pointwise [val_main_v87, val_main_v86, val_main_v85]
  rw [chosen_one a b x w g u v i G E hG hE q p hq hp, chosen_two a b x w g u v i G E hG hE q p s hq hp hs]
  match j with
  | ⟨0, _⟩ => rfl
  | ⟨1, _⟩ => rfl

include hG hE hq hp hs in
theorem share_apply (j : Fin 2) :
    val_main_v101 (F := Ideal) a b x w g u v (ix2 i j) = ((if j = 0 then weightOne G E q p s else weightTwo G E q p s : ℝ) : EReal) := by
  pointwise [val_main_v101, val_main_v100, val_main_v99, val_main_v98, val_main_v97, val_main_v96, val_main_v95, val_main_cst_24,
    val_main_v94, val_main_v93, val_main_v92, val_main_v91, val_main_v90, val_main_v89, val_main_cst_23, val_main_v88, val_main_cst_22]
  simp only [pair_apply a b x w g u v i G E hG hE q p s hq hp hs, group_weight a b x w g u i G hG q hq]
  rw [lit_bot, largest (fun l : Fin 2 => ((if l = 0 then E q p else E q s : ℝ) : EReal)) 0 fun l => EReal.coe_le_coe_iff.mpr (by
    match l with
    | ⟨0, _⟩ => exact le_rfl
    | ⟨1, _⟩ => exact hp.max s)]
  simp only [exp_real]
  rw [Fin.sum_univ_two, ← EReal.coe_add, div_real _ _ (by positivity), ← EReal.coe_mul]
  refine congrArg _ ?_
  match j with
  | ⟨0, _⟩ =>
    show Real.exp (E q p - E q p) / (Real.exp (E q p - E q p) + Real.exp (E q s - E q p)) * (1 / ∑ j : Fin 4, Real.exp (G j - G q))
      = weightOne G E q p s
    unfold weightOne
    rw [sub_self, Real.exp_zero]
    ring
  | ⟨1, _⟩ =>
    show Real.exp (E q s - E q p) / (Real.exp (E q p - E q p) + Real.exp (E q s - E q p)) * (1 / ∑ j : Fin 4, Real.exp (G j - G q))
      = weightTwo G E q p s
    unfold weightTwo
    rw [sub_self, Real.exp_zero]
    ring

include hG hE hq hp hs in
theorem ascending : val_main_v108 (F := Ideal) a b x w g u v (ix1 i) = BitVec.ofBool (decide (p < s)) := by
  pointwise [val_main_v108, val_main_v107, val_main_v106, val_main_v105, val_main_v104, val_main_cst_26, val_main_cst_28]
  simp only [expert_first a b x w g u v i G E hG hE q p hq hp, expert_second a b x w g u v i G E hG hE q p s hq hp hs, fill6, fill7, place6, place7]
  rw [pick (fun k : Fin 4 => ((k.val : ℝ) : EReal)) p, pick (fun k : Fin 4 => ((k.val : ℝ) : EReal)) s]
  exact congrArg BitVec.ofBool (decide_eq_decide.mpr (EReal.coe_lt_coe_iff.trans Nat.cast_lt))

include hG hE hq hp hs in
theorem lower_weight : val_main_v112 (F := Ideal) a b x w g u v (ix2 i 0)
    = if p < s then (weightOne G E q p s : EReal) else (weightTwo G E q p s : EReal) := by
  pointwise [val_main_v112, val_main_v111, val_main_v110, val_main_v109]
  rw [ascending a b x w g u v i G E hG hE q p s hq hp hs, select_if, share_apply a b x w g u v i G E hG hE q p s hq hp hs,
    share_apply a b x w g u v i G E hG hE q p s hq hp hs]
  rfl

include hG hE hq hp hs in
theorem upper_weight : val_main_v115 (F := Ideal) a b x w g u v (ix2 i 0)
    = if p < s then (weightTwo G E q p s : EReal) else (weightOne G E q p s : EReal) := by
  pointwise [val_main_v115, val_main_v114, val_main_v113, val_main_v109]
  rw [ascending a b x w g u v i G E hG hE q p s hq hp hs, select_if, share_apply a b x w g u v i G E hG hE q p s hq hp hs,
    share_apply a b x w g u v i G E hG hE q p s hq hp hs]
  rfl

include hG hE hq hp hs in
theorem row_apply (l : Fin 1152) : val_main_v117 (F := Ideal) a b x w g u v (ix2 i l)
    = row (normedAt a b x w g i) (weightOne G E q p s : EReal) (weightTwo G E q p s : EReal) p s l := by
  pointwise [val_main_v117, val_main_v116, val_main_cst_29]
  unfold row
  by_cases h : l.val < 1024
  · rw [dif_pos h, dif_pos h, normed_apply]
  · rw [dif_neg h, dif_neg h]
    by_cases h0 : l.val - 1024 = 0
    · rw [dif_pos (by omega), if_pos h0, ← lower_weight a b x w g u v i G E hG hE q p s hq hp hs]
      exact congrArg (val_main_v112 (F := Ideal) a b x w g u v) (congrArg (ix2 i) (Fin.ext h0))
    · rw [dif_neg (by omega), if_neg h0]
      by_cases h1 : l.val - 1024 = 1
      · rw [dif_pos (by omega), if_pos h1, ← upper_weight a b x w g u v i G E hG hE q p s hq hp hs]
        exact congrArg (val_main_v115 (F := Ideal) a b x w g u v) (congrArg (ix2 i) (Fin.ext (by show l.val - 1024 - 1 = 0; omega)))
      · rw [dif_neg (by omega), if_neg h1]

end

/-! ## The class -/

theorem fill10 (y : S16384x4.Idx) : val_main_call10_v2 (F := Ideal) y = 0 := by
  rw [val_main_call10_v2_apply, val_main_call10_v0_apply, val_main_cst_30_apply]; exact Ideal.ofBits_zero_f32
theorem place10 (i : Fin 16384) (k : Fin 4) : val_main_call10_v1 (F := Ideal) (ix2 i k) = nat k.val := place6 i k

theorem select_or (P Q R S : Prop) [Decidable P] [Decidable Q] [Decidable R] [Decidable S] (x y : EReal) :
    Scalar.select (IntOp.ori (IntOp.andi (BitVec.ofBool (decide P)) (BitVec.ofBool (decide Q)))
        (IntOp.andi (BitVec.ofBool (decide R)) (BitVec.ofBool (decide S)))) x y = if (P ∧ Q) ∨ (R ∧ S) then x else y := by
  by_cases h₁ : P <;> by_cases h₂ : Q <;> by_cases h₃ : R <;> by_cases h₄ : S <;> simp [h₁, h₂, h₃, h₄, IntOp.ori, IntOp.andi, Scalar.select]

/-- A number where two experts are two given ones, in either order. -/
theorem select_pair (p s i j x y : ℕ) [Decidable (nat p = nat i)] [Decidable (nat s = nat j)] [Decidable (nat p = nat j)] [Decidable (nat s = nat i)] :
    Scalar.select (IntOp.ori (IntOp.andi (BitVec.ofBool (decide (nat p = nat i))) (BitVec.ofBool (decide (nat s = nat j))))
        (IntOp.andi (BitVec.ofBool (decide (nat p = nat j))) (BitVec.ofBool (decide (nat s = nat i))))) (nat x) (nat y)
      = nat (if (p = i ∧ s = j) ∨ (p = j ∧ s = i) then x else y) := by
  rw [select_or]
  simp only [nat_inj]
  split_ifs <;> rfl

theorem number_sum : ∀ p s : Fin 4, s ≠ p →
    (if (p.val = 0 ∧ s.val = 1) ∨ (p.val = 1 ∧ s.val = 0) then 0 else 0) +
    (if (p.val = 0 ∧ s.val = 2) ∨ (p.val = 2 ∧ s.val = 0) then 1 else 0) +
    (if (p.val = 1 ∧ s.val = 2) ∨ (p.val = 2 ∧ s.val = 1) then 2 else 0) +
    (if (p.val = 1 ∧ s.val = 3) ∨ (p.val = 3 ∧ s.val = 1) then 3 else 0) +
    (if (p.val = 0 ∧ s.val = 3) ∨ (p.val = 3 ∧ s.val = 0) then 4 else 0) +
    (if (p.val = 2 ∧ s.val = 3) ∨ (p.val = 3 ∧ s.val = 2) then 5 else 0) = number p s := by decide

section
variable (i : Fin 16384) (G : Fin 4 → ℝ) (E : Fin 4 → Fin 4 → ℝ)
  (hG : ∀ j : Fin 4, val_main_v18 (F := Ideal) a b x w g u (ix2 i j) = (G j : EReal))
  (hE : ∀ q j : Fin 4, val_main_v54 (F := Ideal) a b x w g v (ix3 i q j) = (E q j : EReal))
  (q p s : Fin 4) (hq : First G q) (hp : First (E q) p) (hs : Second (E q) p s)

include hG hE hq hp in
theorem place_one : val_main_v105 (F := Ideal) a b x w g u v (ix1 i) = nat p.val := by
  pointwise [val_main_v105, val_main_v104, val_main_cst_26]
  simp only [expert_first a b x w g u v i G E hG hE q p hq hp, fill6, place6]
  exact pick (fun k : Fin 4 => nat k.val) p

include hG hE hq hp hs in
theorem place_two : val_main_v107 (F := Ideal) a b x w g u v (ix1 i) = nat s.val := by
  pointwise [val_main_v107, val_main_v106, val_main_cst_28]
  simp only [expert_second a b x w g u v i G E hG hE q p s hq hp hs, fill7, place7]
  exact pick (fun k : Fin 4 => nat k.val) s

include hG hq in
theorem place_group : val_main_v119 (F := Ideal) a b x w g u (ix1 i) = nat q.val := by
  pointwise [val_main_v119, val_main_v118, val_main_cst_31]
  simp only [group_first a b x w g u i G hG q hq, fill10, place10]
  exact pick (fun k : Fin 4 => nat k.val) q

theorem pair_0 : val_main_v134 (F := Ideal) a b x w g u v (ix1 i)
    = nat (if (p.val = 0 ∧ s.val = 1) ∨ (p.val = 1 ∧ s.val = 0) then 0 else 0) := by
  show val_main_v133 (F := Ideal) a b x w g u v (ix1 i) = _
  pointwise [val_main_v133, val_main_v132, val_main_v131, val_main_v130, val_main_v129, val_main_v128, val_main_v127, val_main_v126, val_main_v125, val_main_v124, val_main_v123, val_main_v122, val_main_call11_v0, val_main_call11_v1, val_main_cst_33, val_main_cst_34, val_main_cst_35, val_main_cst_36, val_main_cst_37, val_main_cst_38]
  rw [ite_self, nat_zero]

include hG hE hq hp hs in
theorem pair_1 : val_main_v148 (F := Ideal) a b x w g u v (ix1 i)
    = nat (if (p.val = 0 ∧ s.val = 2) ∨ (p.val = 2 ∧ s.val = 0) then 1 else 0) := by
  show val_main_v147 (F := Ideal) a b x w g u v (ix1 i) = _
  pointwise [val_main_v147, val_main_v146, val_main_v145, val_main_v144, val_main_v143, val_main_v142, val_main_v141, val_main_v140, val_main_v139, val_main_v138, val_main_v137, val_main_v136, val_main_call12_v0, val_main_call12_v1, val_main_cst_39, val_main_cst_40, val_main_cst_41, val_main_cst_42, val_main_cst_43, val_main_cst_44]
  rw [place_one a b x w g u v i G E hG hE q p hq hp, place_two a b x w g u v i G E hG hE q p s hq hp hs]
  simp only [nat_zero, nat_one, nat_two, nat_three, nat_four, nat_five]
  exact select_pair p.val s.val 0 2 1 0

include hG hE hq hp hs in
theorem pair_2 : val_main_v162 (F := Ideal) a b x w g u v (ix1 i)
    = nat (if (p.val = 1 ∧ s.val = 2) ∨ (p.val = 2 ∧ s.val = 1) then 2 else 0) := by
  show val_main_v161 (F := Ideal) a b x w g u v (ix1 i) = _
  pointwise [val_main_v161, val_main_v160, val_main_v159, val_main_v158, val_main_v157, val_main_v156, val_main_v155, val_main_v154, val_main_v153, val_main_v152, val_main_v151, val_main_v150, val_main_call13_v0, val_main_call13_v1, val_main_cst_45, val_main_cst_46, val_main_cst_47, val_main_cst_48, val_main_cst_49, val_main_cst_50]
  rw [place_one a b x w g u v i G E hG hE q p hq hp, place_two a b x w g u v i G E hG hE q p s hq hp hs]
  simp only [nat_zero, nat_one, nat_two, nat_three, nat_four, nat_five]
  exact select_pair p.val s.val 1 2 2 0

include hG hE hq hp hs in
theorem pair_3 : val_main_v176 (F := Ideal) a b x w g u v (ix1 i)
    = nat (if (p.val = 1 ∧ s.val = 3) ∨ (p.val = 3 ∧ s.val = 1) then 3 else 0) := by
  show val_main_v175 (F := Ideal) a b x w g u v (ix1 i) = _
  pointwise [val_main_v175, val_main_v174, val_main_v173, val_main_v172, val_main_v171, val_main_v170, val_main_v169, val_main_v168, val_main_v167, val_main_v166, val_main_v165, val_main_v164, val_main_call14_v0, val_main_call14_v1, val_main_cst_51, val_main_cst_52, val_main_cst_53, val_main_cst_54, val_main_cst_55, val_main_cst_56]
  rw [place_one a b x w g u v i G E hG hE q p hq hp, place_two a b x w g u v i G E hG hE q p s hq hp hs]
  simp only [nat_zero, nat_one, nat_two, nat_three, nat_four, nat_five]
  exact select_pair p.val s.val 1 3 3 0

include hG hE hq hp hs in
theorem pair_4 : val_main_v190 (F := Ideal) a b x w g u v (ix1 i)
    = nat (if (p.val = 0 ∧ s.val = 3) ∨ (p.val = 3 ∧ s.val = 0) then 4 else 0) := by
  show val_main_v189 (F := Ideal) a b x w g u v (ix1 i) = _
  pointwise [val_main_v189, val_main_v188, val_main_v187, val_main_v186, val_main_v185, val_main_v184, val_main_v183, val_main_v182, val_main_v181, val_main_v180, val_main_v179, val_main_v178, val_main_call15_v0, val_main_call15_v1, val_main_cst_57, val_main_cst_58, val_main_cst_59, val_main_cst_60, val_main_cst_61, val_main_cst_62]
  rw [place_one a b x w g u v i G E hG hE q p hq hp, place_two a b x w g u v i G E hG hE q p s hq hp hs]
  simp only [nat_zero, nat_one, nat_two, nat_three, nat_four, nat_five]
  exact select_pair p.val s.val 0 3 4 0

include hG hE hq hp hs in
theorem pair_5 : val_main_v204 (F := Ideal) a b x w g u v (ix1 i)
    = nat (if (p.val = 2 ∧ s.val = 3) ∨ (p.val = 3 ∧ s.val = 2) then 5 else 0) := by
  show val_main_v203 (F := Ideal) a b x w g u v (ix1 i) = _
  pointwise [val_main_v203, val_main_v202, val_main_v201, val_main_v200, val_main_v199, val_main_v198, val_main_v197, val_main_v196, val_main_v195, val_main_v194, val_main_v193, val_main_v192, val_main_call16_v0, val_main_call16_v1, val_main_cst_63, val_main_cst_64, val_main_cst_65, val_main_cst_66, val_main_cst_67, val_main_cst_68]
  rw [place_one a b x w g u v i G E hG hE q p hq hp, place_two a b x w g u v i G E hG hE q p s hq hp hs]
  simp only [nat_zero, nat_one, nat_two, nat_three, nat_four, nat_five]
  exact select_pair p.val s.val 2 3 5 0

include hG hE hq hp hs in
theorem class_real : val_main_v205 (F := Ideal) a b x w g u v (ix1 i) = classOf q p s := by
  pointwise [val_main_v205, val_main_v191, val_main_v177, val_main_v163, val_main_v149, val_main_v135, val_main_v121, val_main_v120, val_main_cst_32]
  rw [place_group a b x w g u i G hG q hq, pair_0 a b x w g u v i p s,
    pair_1 a b x w g u v i G E hG hE q p s hq hp hs,
    pair_2 a b x w g u v i G E hG hE q p s hq hp hs,
    pair_3 a b x w g u v i G E hG hE q p s hq hp hs,
    pair_4 a b x w g u v i G E hG hE q p s hq hp hs,
    pair_5 a b x w g u v i G E hG hE q p s hq hp hs]
  simp only [nat_six]
  unfold classOf
  rw [← number_sum p s hs.1]
  rw [nat_mul, nat_add, nat_add, nat_add, nat_add, nat_add, nat_add]
  exact congrArg nat (by omega)

end

/-- The classes, in their array's order. -/
theorem classes_apply (t : Fin 32) (d : Fin 4) (l : Fin 128) : val_main_v207 (F := Ideal) a b x w g u v (ix3 t d l)
    = Ideal.fptosi 32 (val_main_v205 (F := Ideal) a b x w g u v (ix1 ⟨t.val * 512 + (d.val * 128 + l.val), by omega⟩)) := by
  pointwise [val_main_v207, val_main_v206]
  exact congrArg (fun r => Ideal.fptosi 32 (val_main_v205 (F := Ideal) a b x w g u v (ix1 r))) (Fin.ext (Nat.add_assoc _ _ _))

end Cert.Reference4Ideal.Router

end
-- ==== Proof.Router.Claims.lean ====
/-
  The router's claims: the frames of the kernel, of its idealization and of the reference, the named constant, and the equality of the
  two results over the extended reals for a finite gain and finite router's weights.
-/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import proofs.«01_k».proof.Proof.Router.Pre
public import proofs.«01_k».proof.Proof.Router.Kernel
public import proofs.«01_k».proof.Proof.Router.Reference

@[expose] public section

noncomputable section

namespace Cert.Router.Claims

open Idealize.ShloMosaic Idealize.SL.Sem

theorem frame_bits : Cert.quiescent_Kernel4 := fun m ρ _ => Cert.Kernel4.Gen.frame m ρ

theorem frame_ideal : Cert.quiescent_Kernel4Ideal := fun m ρ _ => Cert.Kernel4Ideal.Gen.frame m ρ

theorem frame_ideal_finite : Cert.quiescent_Kernel4Ideal_pre_finite_router := fun m ρ _ => Cert.Kernel4Ideal.Gen.frame m ρ

theorem frame_reference : Cert.quiescent_Reference4Ideal := fun m ρ _ =>
  (θ_run Cert.Reference4Ideal.defs _ _).mono (fun r q => ⟨fun c => (q c).2.2, sem_eq_zero_of_no_sems (by decide) r.2⟩)
    (Cert.Reference4Ideal.Value.run (F := Ideal) m ρ)

theorem frame_reference_finite : Cert.quiescent_Reference4Ideal_pre_finite_router := fun m ρ _ =>
  (θ_run Cert.Reference4Ideal.defs _ _).mono (fun r q => ⟨fun c => (q c).2.2, sem_eq_zero_of_no_sems (by decide) r.2⟩)
    (Cert.Reference4Ideal.Value.run (F := Ideal) m ρ)

theorem preserves : Cert.preserves_Kernel4_Kernel4Ideal :=
  IdealRules.named_const.statement Cert.Kernel4Ideal.κ "mask" .f32 0xF149F2CA#32 ⊥ rfl

theorem equal : Cert.algebraic_Kernel4Ideal_Reference4Ideal_pre_finite_router := fun m ρ m' ρ' hpre hag => by
  refine ⟨fun c => Cert.Kernel4Ideal.Router.finalArray m c, fun c => Cert.Kernel4Ideal.Router.finalClasses m c,
    (θ_run Cert.Kernel4Ideal.defs _ _).mono (fun r q c => ⟨(q c).2.1, (q c).2.2.1, (q c).2.2.2⟩) (Cert.Kernel4Ideal.Value.run_blocks m ρ), ?_⟩
  refine (θ_run Cert.Reference4Ideal.defs _ _).mono (fun r q c => ⟨(q c).1.trans ?_, (q c).2.1.trans ?_, (q c).2.2⟩)
    (Cert.Reference4Ideal.Value.run (F := Ideal) m' ρ')
  all_goals
    obtain ⟨a0, a1, a2, a3, a4, a5, a6⟩ := hag c
    obtain ⟨hg, hu, hv⟩ := Cert.Pre_finite_router.Decode.real (hpre c)
    have hH : ∀ i k, IsReal (Cert.Kernel4Ideal.Router.normedAt m c i k) := fun i k => normed_real _ _ _ (hg _)
    have hG : ∀ (i : Fin 16384) (j : Fin 4), ∃ y : ℝ, ∑ k : Fin 1024, Cert.Kernel4Ideal.Router.normedAt m c i k
        * Cert.Kernel4Ideal.Router.groupWeight m c (ix2 k j) = (y : EReal) :=
      fun i j => isReal_sum _ fun k => (hH i k).mul (hu _)
    have hE : ∀ (i : Fin 16384) (q j : Fin 4), ∃ y : ℝ, ∑ k : Fin 1024, Cert.Kernel4Ideal.Router.normedAt m c i k
        * Cert.Kernel4Ideal.Router.expertWeight m c (ix2 k (column q j)) = (y : EReal) :=
      fun i q j => isReal_sum _ fun k => (hH i k).mul (hv _)
    choose G hG using hG
    choose E hE using hE
  · rw [Cert.Reference4Ideal.Read.val_main_v117_eq]
    rw [show StableHlo.launchContents m' c (Proc.devRef .tc Cert.Reference4Ideal.main_arg0) = _ from a0,
      show StableHlo.launchContents m' c (Proc.devRef .tc Cert.Reference4Ideal.main_arg1) = _ from a1,
      show StableHlo.launchContents m' c (Proc.devRef .tc Cert.Reference4Ideal.main_arg2) = _ from a2,
      show StableHlo.launchContents m' c (Proc.devRef .tc Cert.Reference4Ideal.main_arg3) = _ from a3,
      show StableHlo.launchContents m' c (Proc.devRef .tc Cert.Reference4Ideal.main_arg4) = _ from a4,
      show StableHlo.launchContents m' c (Proc.devRef .tc Cert.Reference4Ideal.main_arg5) = _ from a5,
      show StableHlo.launchContents m' c (Proc.devRef .tc Cert.Reference4Ideal.main_arg6) = _ from a6]
    funext j
    obtain ⟨i, l, rfl⟩ : ∃ (i : Fin 16384) (l : Fin 1152), j = ix2 i l := ⟨j 0, j 1, ValueIdx.eq_ix2 j⟩
    obtain ⟨q, hq⟩ := exists_first (G i)
    obtain ⟨p, hp⟩ := exists_first (E i q)
    obtain ⟨s, hs⟩ := exists_second (E i q) p
    exact (Cert.Reference4Ideal.Router.row_apply _ _ _ _ _ _ _ i (G i) (E i)
      (fun j => (Cert.Reference4Ideal.Router.group_logit _ _ _ _ _ _ i j).trans (hG i j))
      (fun q j => (Cert.Reference4Ideal.Router.expert_logit _ _ _ _ _ _ i q j).trans (hE i q j)) q p s hq hp hs l).trans
      (Cert.Kernel4Ideal.Router.array_apply m c hg hu hv i (G i) (E i) (hG i) (hE i) q p s hq hp hs l).symm
  · rw [Cert.Reference4Ideal.Read.val_main_v207_eq]
    rw [show StableHlo.launchContents m' c (Proc.devRef .tc Cert.Reference4Ideal.main_arg0) = _ from a0,
      show StableHlo.launchContents m' c (Proc.devRef .tc Cert.Reference4Ideal.main_arg1) = _ from a1,
      show StableHlo.launchContents m' c (Proc.devRef .tc Cert.Reference4Ideal.main_arg2) = _ from a2,
      show StableHlo.launchContents m' c (Proc.devRef .tc Cert.Reference4Ideal.main_arg3) = _ from a3,
      show StableHlo.launchContents m' c (Proc.devRef .tc Cert.Reference4Ideal.main_arg4) = _ from a4,
      show StableHlo.launchContents m' c (Proc.devRef .tc Cert.Reference4Ideal.main_arg5) = _ from a5,
      show StableHlo.launchContents m' c (Proc.devRef .tc Cert.Reference4Ideal.main_arg6) = _ from a6]
    funext j
    obtain ⟨t, d, l, rfl⟩ : ∃ (t : Fin 32) (d : Fin 4) (l : Fin 128), j = ix3 t d l := ⟨j 0, j 1, j 2, ValueIdx.eq_ix3 j⟩
    obtain ⟨i, hi⟩ : ∃ i, i = Cert.Kernel4Ideal.Router.classRow t d l := ⟨_, rfl⟩
    obtain ⟨q, hq⟩ := exists_first (G i)
    obtain ⟨p, hp⟩ := exists_first (E i q)
    obtain ⟨s, hs⟩ := exists_second (E i q) p
    subst hi
    exact ((Cert.Reference4Ideal.Router.classes_apply _ _ _ _ _ _ _ t d l).trans (congrArg (Ideal.fptosi 32)
      (Cert.Reference4Ideal.Router.class_real _ _ _ _ _ _ _ (Cert.Kernel4Ideal.Router.classRow t d l) (G _) (E _)
        (fun j => (Cert.Reference4Ideal.Router.group_logit _ _ _ _ _ _ _ j).trans (hG _ j))
        (fun q j => (Cert.Reference4Ideal.Router.expert_logit _ _ _ _ _ _ _ q j).trans (hE _ q j)) q p s hq hp hs))).trans
      (Cert.Kernel4Ideal.Router.classes_array m c hg hu hv t d l (G _) (E _) (hG _) (hE _) q p s hq hp hs).symm

end Cert.Router.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_routed
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Experts.Claims
public import proofs.«01_k».proof.Proof.Front.Claims
public import proofs.«01_k».proof.Proof.Outproj.Claims
public import proofs.«01_k».proof.Proof.Router.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Pre_routed.Gen.facts, Cert.Pre_finite_router.Decode.facts,
  Cert.Experts.Claims.frame_bits, Cert.Experts.Claims.frame_ideal, Cert.Experts.Claims.frame_reference,
  Cert.Experts.Claims.frame_reference_routed, Cert.Front.Claims.frame_bits, Cert.Front.Claims.frame_ideal,
  Cert.Front.Claims.frame_reference, Cert.Outproj.Claims.frame_bits, Cert.Outproj.Claims.frame_ideal,
  Cert.Outproj.Claims.frame_reference, Cert.Router.Claims.frame_bits, Cert.Router.Claims.frame_ideal,
  Cert.Router.Claims.frame_ideal_finite, Cert.Router.Claims.frame_reference, Cert.Router.Claims.frame_reference_finite,
  trivial, Cert.Experts.Claims.equal, trivial, Cert.Front.Claims.equal, trivial, Cert.Outproj.Claims.equal,
  Cert.Router.Claims.preserves, Cert.Router.Claims.equal⟩

end Cert.Proof

end
